-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def preserves_Kernel_KernelIdeal : Prop :=
  IdealRules.named_const.Statement Cert.KernelIdeal.κ "inv_d" .f32 0x3A888889#32 ((960⁻¹ : ℝ) : EReal)
  ∧ IdealRules.named_const.Statement Cert.KernelIdeal.κ "inv_m" .f32 0x3B124925#32 ((448⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_0) = v0 c
          ∧ r.2.mem ((c.tc : Thread Cert.ReferenceIdeal.nD Cert.ReferenceIdeal.τ).loc Cert.ReferenceIdeal.main_v12_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Qkv_QkvIdeal : Prop :=
  IdealRules.bf16_pair.BufferStatement Cert.QkvIdeal.S7x960x2x256 Cert.QkvIdeal.S7x960x1x256
  ∧ IdealRules.bf16_pair.BufferStatement Cert.QkvIdeal.S1x960x2x256 Cert.QkvIdeal.S1x960x1x256
  ∧ IdealRules.named_const.Statement Cert.QkvIdeal.κ "inv_d" .f32 0x3A888889#32 ((960⁻¹ : ℝ) : EReal)
  ∧ IdealRules.bf16_pair.PackStatement Cert.QkvIdeal.S96x256
  ∧ IdealRules.bf16_pair.Statement Cert.QkvIdeal.S1x96x2x256 Cert.QkvIdeal.S1x96x1x256

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v17)) (v1 : (c : Dev Cert.QkvIdeal.nD) → Buf (Elt Ideal) ((c.tc : Thread Cert.QkvIdeal.nD Cert.QkvIdeal.τ).loc Cert.QkvIdeal.main_v16_5)) (v2 : (c : Dev Cert.QkvIdeal.nD) → Buf (Elt Ideal) ((c.tc : Thread Cert.QkvIdeal.nD Cert.QkvIdeal.τ).loc Cert.QkvIdeal.main_v18)) (v3 : (c : Dev Cert.QkvIdeal.nD) → Buf (Elt Ideal) ((c.tc : Thread Cert.QkvIdeal.nD Cert.QkvIdeal.τ).loc Cert.QkvIdeal.main_v16_6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v17) = v0 c
          ∧ r.2.mem ((c.tc : Thread Cert.QkvIdeal.nD Cert.QkvIdeal.τ).loc Cert.QkvIdeal.main_v16_5) = v1 c
          ∧ r.2.mem ((c.tc : Thread Cert.QkvIdeal.nD Cert.QkvIdeal.τ).loc Cert.QkvIdeal.main_v18) = v2 c
          ∧ r.2.mem ((c.tc : Thread Cert.QkvIdeal.nD Cert.QkvIdeal.τ).loc Cert.QkvIdeal.main_v16_6) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v5_0) = v0 c
          ∧ r.2.mem ((c.tc : Thread Cert.QkvReferenceIdeal.nD Cert.QkvReferenceIdeal.τ).loc Cert.QkvReferenceIdeal.main_v5_1) = v1 c
          ∧ r.2.mem ((c.tc : Thread Cert.QkvReferenceIdeal.nD Cert.QkvReferenceIdeal.τ).loc Cert.QkvReferenceIdeal.main_v5_2) = v2 c
          ∧ r.2.mem ((c.tc : Thread Cert.QkvReferenceIdeal.nD Cert.QkvReferenceIdeal.τ).loc Cert.QkvReferenceIdeal.main_v5_3) = v3 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ preserves_Kernel_KernelIdeal
    ∧ algebraic_KernelIdeal_ReferenceIdeal (hKernelIdeal := hKernelIdeal) (hReferenceIdeal := hReferenceIdeal)
    ∧ preserves_Qkv_QkvIdeal
    ∧ algebraic_QkvIdeal_QkvReferenceIdeal (hQkvIdeal := hQkvIdeal) (hQkvReferenceIdeal := hQkvReferenceIdeal)
-- ==== Kernel.lean ====
abbrev S256x14x960 : Shape := ⟨3, ![256, 14, 960]⟩
abbrev S14x960x256 : Shape := ⟨3, ![14, 960, 256]⟩
abbrev S10x96x960 : Shape := ⟨3, ![10, 96, 960]⟩
abbrev S960 : Shape := ⟨1, ![960]⟩
abbrev S960x2x960 : Shape := ⟨3, ![960, 2, 960]⟩
abbrev S2x960 : Shape := ⟨2, ![2, 960]⟩
abbrev S256x8x960 : Shape := ⟨3, ![256, 8, 960]⟩
abbrev S256x8 : Shape := ⟨2, ![256, 8]⟩
abbrev S9x960 : Shape := ⟨2, ![9, 960]⟩
abbrev S960x960 : Shape := ⟨2, ![960, 960]⟩
abbrev S8x960x256 : Shape := ⟨3, ![8, 960, 256]⟩
abbrev S8x256 : Shape := ⟨2, ![8, 256]⟩
abbrev S1x960 : Shape := ⟨2, ![1, 960]⟩
abbrev S960x1 : Shape := ⟨2, ![960, 1]⟩
abbrev S960x8 : Shape := ⟨2, ![960, 8]⟩
abbrev S960x9 : Shape := ⟨2, ![960, 9]⟩
abbrev S960x17 : Shape := ⟨2, ![960, 17]⟩
abbrev S2x960x960 : Shape := ⟨3, ![2, 960, 960]⟩
abbrev S1x960x256 : Shape := ⟨3, ![1, 960, 256]⟩
abbrev S17x960x128 : Shape := ⟨3, ![17, 960, 128]⟩
abbrev S22x960x256 : Shape := ⟨3, ![22, 960, 256]⟩
abbrev S960x256 : Shape := ⟨2, ![960, 256]⟩
abbrev S96x1 : Shape := ⟨2, ![96, 1]⟩
abbrev S96x128 : Shape := ⟨2, ![96, 128]⟩
abbrev S1x96x128 : Shape := ⟨3, ![1, 96, 128]⟩
abbrev S1x32x256 : Shape := ⟨3, ![1, 32, 256]⟩
abbrev S32x256 : Shape := ⟨2, ![32, 256]⟩
abbrev S1x256 : Shape := ⟨2, ![1, 256]⟩
abbrev S1x32x128 : Shape := ⟨3, ![1, 32, 128]⟩
abbrev S32x128 : Shape := ⟨2, ![32, 128]⟩
abbrev S256 : Shape := ⟨1, ![256]⟩
abbrev S1x480x960 : Shape := ⟨3, ![1, 480, 960]⟩
abbrev S480x960 : Shape := ⟨2, ![480, 960]⟩
abbrev S480x256 : Shape := ⟨2, ![480, 256]⟩
abbrev S256x256 : Shape := ⟨2, ![256, 256]⟩

abbrev nBuf : Space → Nat
  | .hbm => 41
  | .vmem => 21
  | .smem => 0
  | _ => 0

abbrev bufTy : (tb : Table) → Fin (tcTables nBuf tb) → BufTy
  | .hbm, ⟨0, _⟩ => ⟨S256x14x960, .bf16⟩
  | .hbm, ⟨1, _⟩ => ⟨S14x960x256, .bf16⟩
  | .hbm, ⟨2, _⟩ => ⟨S10x96x960, .bf16⟩
  | .hbm, ⟨3, _⟩ => ⟨S960, .f32⟩
  | .hbm, ⟨4, _⟩ => ⟨S960, .f32⟩
  | .hbm, ⟨5, _⟩ => ⟨S960, .f32⟩
  | .hbm, ⟨6, _⟩ => ⟨S960x2x960, .bf16⟩
  | .hbm, ⟨7, _⟩ => ⟨S2x960, .f32⟩
  | .hbm, ⟨8, _⟩ => ⟨S256x8x960, .fp8e4m3⟩
  | .hbm, ⟨9, _⟩ => ⟨S256x8, .f32⟩
  | .hbm, ⟨10, _⟩ => ⟨S9x960, .f32⟩
  | .hbm, ⟨11, _⟩ => ⟨S960, .f32⟩
  | .hbm, ⟨12, _⟩ => ⟨S960, .f32⟩
  | .hbm, ⟨13, _⟩ => ⟨S960x960, .bf16⟩
  | .hbm, ⟨14, _⟩ => ⟨S960, .f32⟩
  | .hbm, ⟨15, _⟩ => ⟨S14x960x256, .bf16⟩
  | .hbm, ⟨16, _⟩ => ⟨S8x960x256, .fp8e4m3⟩
  | .hbm, ⟨17, _⟩ => ⟨S8x256, .f32⟩
  | .hbm, ⟨18, _⟩ => ⟨S1x960, .f32⟩
  | .hbm, ⟨19, _⟩ => ⟨S960, .f32⟩
  | .hbm, ⟨20, _⟩ => ⟨S1x960, .f32⟩
  | .hbm, ⟨21, _⟩ => ⟨S960, .f32⟩
  | .hbm, ⟨22, _⟩ => ⟨S960x1, .f32⟩
  | .hbm, ⟨23, _⟩ => ⟨S960x1, .f32⟩
  | .hbm, ⟨24, _⟩ => ⟨S960x1, .f32⟩
  | .hbm, ⟨25, _⟩ => ⟨S960x1, .f32⟩
  | .hbm, ⟨26, _⟩ => ⟨S960x1, .f32⟩
  | .hbm, ⟨27, _⟩ => ⟨S960x1, .f32⟩
  | .hbm, ⟨28, _⟩ => ⟨S960x1, .f32⟩
  | .hbm, ⟨29, _⟩ => ⟨S960x1, .f32⟩
  | .hbm, ⟨30, _⟩ => ⟨S960x8, .f32⟩
  | .hbm, ⟨31, _⟩ => ⟨S960x9, .f32⟩
  | .hbm, ⟨32, _⟩ => ⟨S960x17, .f32⟩
  | .hbm, ⟨33, _⟩ => ⟨S960x960, .bf16⟩
  | .hbm, ⟨34, _⟩ => ⟨S960x960, .bf16⟩
  | .hbm, ⟨35, _⟩ => ⟨S2x960x960, .bf16⟩
  | .hbm, ⟨36, _⟩ => ⟨S960x960, .bf16⟩
  | .hbm, ⟨37, _⟩ => ⟨S14x960x256, .bf16⟩
  | .hbm, ⟨38, _⟩ => ⟨S14x960x256, .bf16⟩
  | .hbm, ⟨39, _⟩ => ⟨S8x960x256, .fp8e4m3⟩
  | .hbm, ⟨40, _⟩ => ⟨S8x256, .f32⟩
  | .local _ .vmem, ⟨0, _⟩ => ⟨S1x960x256, .bf16⟩
  | .local _ .vmem, ⟨1, _⟩ => ⟨S1x960x256, .bf16⟩
  | .local _ .vmem, ⟨2, _⟩ => ⟨S1x960x256, .bf16⟩
  | .local _ .vmem, ⟨3, _⟩ => ⟨S1x960x256, .bf16⟩
  | .local _ .vmem, ⟨4, _⟩ => ⟨S960x960, .bf16⟩
  | .local _ .vmem, ⟨5, _⟩ => ⟨S2x960x960, .bf16⟩
  | .local _ .vmem, ⟨6, _⟩ => ⟨S960x960, .bf16⟩
  | .local _ .vmem, ⟨7, _⟩ => ⟨S960x17, .f32⟩
  | .local _ .vmem, ⟨8, _⟩ => ⟨S8x960x256, .fp8e4m3⟩
  | .local _ .vmem, ⟨9, _⟩ => ⟨S8x256, .f32⟩
  | .local _ .vmem, ⟨10, _⟩ => ⟨S1x960x256, .bf16⟩
  | .local _ .vmem, ⟨11, _⟩ => ⟨S1x960x256, .bf16⟩
  | .local _ .vmem, ⟨12, _⟩ => ⟨S1x960x256, .bf16⟩
  | .local _ .vmem, ⟨13, _⟩ => ⟨S1x960x256, .bf16⟩
  | .local _ .vmem, ⟨14, _⟩ => ⟨S1x960x256, .fp8e4m3⟩
  | .local _ .vmem, ⟨15, _⟩ => ⟨S1x960x256, .fp8e4m3⟩
  | .local _ .vmem, ⟨16, _⟩ => ⟨S8x256, .f32⟩
  | .local _ .vmem, ⟨17, _⟩ => ⟨S17x960x128, .f32⟩
  | .local _ .vmem, ⟨18, _⟩ => ⟨S22x960x256, .f32⟩
  | .local _ .vmem, ⟨19, _⟩ => ⟨S960x256, .f32⟩
  | .local _ .vmem, ⟨20, _⟩ => ⟨S960x256, .bf16⟩
  | _, _ => ⟨S256x14x960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev main_v22_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16

abbrev nD : Nat := 1
abbrev τ : Topo := Topo.v7x

variable {F : FTy → Type} [FloatOps F]

abbrev grid0 : Pipeline.Grid := ⟨1, ![14], ![false]⟩

def k0_off1 (i : grid0.Coords) : Fin 3 → Nat :=
  let c8_i32 : BitVec 32 := 8#32
  let arg0 : BitVec 32 := BitVec.ofNat 32 (i 0).val
  let v1091 : BitVec 32 := Scalar.addi c8_i32 arg0
  let v1092 : Index := Scalar.indexCast v1091
  let c0_597 : Index := 0#32
  let c0_598 : Index := 0#32
  ![v1092.toNat, 0, 0]
def k0_off2 (i : grid0.Coords) : Fin 3 → Nat :=
  let arg0 : BitVec 32 := BitVec.ofNat 32 (i 0).val
  let v1096 : Index := Scalar.indexCast arg0
  let c0_599 : Index := 0#32
  let c0_600 : Index := 0#32
  ![v1096.toNat, 0, 0]
def k0_off3 (i : grid0.Coords) (c1_i32 : BitVec 32) : Fin 3 → Nat :=
  let arg0 : BitVec 32 := BitVec.ofNat 32 (i 0).val
  let v1103 : BitVec 32 := Scalar.addi arg0 c1_i32
  let v1104 : Index := Scalar.indexCast v1103
  let c0_603 : Index := 0#32
  let c0_604 : Index := 0#32
  ![v1104.toNat, 0, 0]
def k0_off4 (i : grid0.Coords) : Fin 3 → Nat :=
  let c8_i32_646 : BitVec 32 := 8#32
  let arg0 : BitVec 32 := BitVec.ofNat 32 (i 0).val
  let v1197 : BitVec 32 := Scalar.addi c8_i32_646 arg0
  let v1198 : Index := Scalar.indexCast v1197
  let c32_647 : Index := 32#32
  let c0_648 : Index := 0#32
  ![v1198.toNat, 32, 0]
def k0_off5 (i : grid0.Coords) : Fin 3 → Nat :=
  let arg0 : BitVec 32 := BitVec.ofNat 32 (i 0).val
  let v1202 : Index := Scalar.indexCast arg0
  let c32_649 : Index := 32#32
  let c0_650 : Index := 0#32
  ![v1202.toNat, 32, 0]
def k0_off6 (i : grid0.Coords) (c1_i32_654 : BitVec 32) : Fin 3 → Nat :=
  let arg0 : BitVec 32 := BitVec.ofNat 32 (i 0).val
  let v1209 : BitVec 32 := Scalar.addi arg0 c1_i32_654
  let v1210 : Index := Scalar.indexCast v1209
  let c32_655 : Index := 32#32
  let c0_656 : Index := 0#32
  ![v1210.toNat, 32, 0]
def k0_off7 (i : grid0.Coords) : Fin 3 → Nat :=
  let c8_i32_714 : BitVec 32 := 8#32
  let arg0 : BitVec 32 := BitVec.ofNat 32 (i 0).val
  let v1303 : BitVec 32 := Scalar.addi c8_i32_714 arg0
  let v1304 : Index := Scalar.indexCast v1303
  let c64_715 : Index := 64#32
  let c0_716 : Index := 0#32
  ![v1304.toNat, 64, 0]
def k0_off8 (i : grid0.Coords) : Fin 3 → Nat :=
  let arg0 : BitVec 32 := BitVec.ofNat 32 (i 0).val
  let v1308 : Index := Scalar.indexCast arg0
  let c64_717 : Index := 64#32
  let c0_718 : Index := 0#32
  ![v1308.toNat, 64, 0]
def k0_off9 (i : grid0.Coords) (c1_i32_722 : BitVec 32) : Fin 3 → Nat :=
  let arg0 : BitVec 32 := BitVec.ofNat 32 (i 0).val
  let v1315 : BitVec 32 := Scalar.addi arg0 c1_i32_722
  let v1316 : Index := Scalar.indexCast v1315
  let c64_723 : Index := 64#32
  let c0_724 : Index := 0#32
  ![v1316.toNat, 64, 0]
def k0_off10 (i : grid0.Coords) : Fin 3 → Nat :=
  let c8_i32_782 : BitVec 32 := 8#32
  let arg0 : BitVec 32 := BitVec.ofNat 32 (i 0).val
  let v1409 : BitVec 32 := Scalar.addi c8_i32_782 arg0
  let v1410 : Index := Scalar.indexCast v1409
  let c96_783 : Index := 96#32
  let c0_784 : Index := 0#32
  ![v1410.toNat, 96, 0]
def k0_off11 (i : grid0.Coords) : Fin 3 → Nat :=
  let arg0 : BitVec 32 := BitVec.ofNat 32 (i 0).val
  let v1414 : Index := Scalar.indexCast arg0
  let c96_785 : Index := 96#32
  let c0_786 : Index := 0#32
  ![v1414.toNat, 96, 0]
def k0_off12 (i : grid0.Coords) (c1_i32_790 : BitVec 32) : Fin 3 → Nat :=
  let arg0 : BitVec 32 := BitVec.ofNat 32 (i 0).val
  let v1421 : BitVec 32 := Scalar.addi arg0 c1_i32_790
  let v1422 : Index := Scalar.indexCast v1421
  let c96_791 : Index := 96#32
  let c0_792 : Index := 0#32
  ![v1422.toNat, 96, 0]
def k0_off13 (i : grid0.Coords) : Fin 3 → Nat :=
  let c8_i32_850 : BitVec 32 := 8#32
  let arg0 : BitVec 32 := BitVec.ofNat 32 (i 0).val
  let v1515 : BitVec 32 := Scalar.addi c8_i32_850 arg0
  let v1516 : Index := Scalar.indexCast v1515
  let c128_851 : Index := 128#32
  let c0_852 : Index := 0#32
  ![v1516.toNat, 128, 0]
def k0_off14 (i : grid0.Coords) : Fin 3 → Nat :=
  let arg0 : BitVec 32 := BitVec.ofNat 32 (i 0).val
  let v1520 : Index := Scalar.indexCast arg0
  let c128_853 : Index := 128#32
  let c0_854 : Index := 0#32
  ![v1520.toNat, 128, 0]
def k0_off15 (i : grid0.Coords) (c1_i32_858 : BitVec 32) : Fin 3 → Nat :=
  let arg0 : BitVec 32 := BitVec.ofNat 32 (i 0).val
  let v1527 : BitVec 32 := Scalar.addi arg0 c1_i32_858
  let v1528 : Index := Scalar.indexCast v1527
  let c128_859 : Index := 128#32
  let c0_860 : Index := 0#32
  ![v1528.toNat, 128, 0]
def k0_off16 (i : grid0.Coords) : Fin 3 → Nat :=
  let c8_i32_918 : BitVec 32 := 8#32
  let arg0 : BitVec 32 := BitVec.ofNat 32 (i 0).val
  let v1621 : BitVec 32 := Scalar.addi c8_i32_918 arg0
  let v1622 : Index := Scalar.indexCast v1621
  let c160_919 : Index := 160#32
  let c0_920 : Index := 0#32
  ![v1622.toNat, 160, 0]
def k0_off17 (i : grid0.Coords) : Fin 3 → Nat :=
  let arg0 : BitVec 32 := BitVec.ofNat 32 (i 0).val
  let v1626 : Index := Scalar.indexCast arg0
  let c160_921 : Index := 160#32
  let c0_922 : Index := 0#32
  ![v1626.toNat, 160, 0]
def k0_off18 (i : grid0.Coords) (c1_i32_926 : BitVec 32) : Fin 3 → Nat :=
  let arg0 : BitVec 32 := BitVec.ofNat 32 (i 0).val
  let v1633 : BitVec 32 := Scalar.addi arg0 c1_i32_926
  let v1634 : Index := Scalar.indexCast v1633
  let c160_927 : Index := 160#32
  let c0_928 : Index := 0#32
  ![v1634.toNat, 160, 0]
def k0_off19 (i : grid0.Coords) : Fin 3 → Nat :=
  let c8_i32_986 : BitVec 32 := 8#32
  let arg0 : BitVec 32 := BitVec.ofNat 32 (i 0).val
  let v1727 : BitVec 32 := Scalar.addi c8_i32_986 arg0
  let v1728 : Index := Scalar.indexCast v1727
  let c192_987 : Index := 192#32
  let c0_988 : Index := 0#32
  ![v1728.toNat, 192, 0]
def k0_off20 (i : grid0.Coords) : Fin 3 → Nat :=
  let arg0 : BitVec 32 := BitVec.ofNat 32 (i 0).val
  let v1732 : Index := Scalar.indexCast arg0
  let c192_989 : Index := 192#32
  let c0_990 : Index := 0#32
  ![v1732.toNat, 192, 0]
def k0_off21 (i : grid0.Coords) (c1_i32_994 : BitVec 32) : Fin 3 → Nat :=
  let arg0 : BitVec 32 := BitVec.ofNat 32 (i 0).val
  let v1739 : BitVec 32 := Scalar.addi arg0 c1_i32_994
  let v1740 : Index := Scalar.indexCast v1739
  let c192_995 : Index := 192#32
  let c0_996 : Index := 0#32
  ![v1740.toNat, 192, 0]
def k0_off22 (i : grid0.Coords) : Fin 3 → Nat :=
  let c8_i32_1054 : BitVec 32 := 8#32
  let arg0 : BitVec 32 := BitVec.ofNat 32 (i 0).val
  let v1833 : BitVec 32 := Scalar.addi c8_i32_1054 arg0
  let v1834 : Index := Scalar.indexCast v1833
  let c224_1055 : Index := 224#32
  let c0_1056 : Index := 0#32
  ![v1834.toNat, 224, 0]
def k0_off23 (i : grid0.Coords) : Fin 3 → Nat :=
  let arg0 : BitVec 32 := BitVec.ofNat 32 (i 0).val
  let v1838 : Index := Scalar.indexCast arg0
  let c224_1057 : Index := 224#32
  let c0_1058 : Index := 0#32
  ![v1838.toNat, 224, 0]
def k0_off24 (i : grid0.Coords) (c1_i32_1062 : BitVec 32) : Fin 3 → Nat :=
  let arg0 : BitVec 32 := BitVec.ofNat 32 (i 0).val
  let v1845 : BitVec 32 := Scalar.addi arg0 c1_i32_1062
  let v1846 : Index := Scalar.indexCast v1845
  let c224_1063 : Index := 224#32
  let c0_1064 : Index := 0#32
  ![v1846.toNat, 224, 0]
def k0_off25 (i : grid0.Coords) : Fin 3 → Nat :=
  let c8_i32_1122 : BitVec 32 := 8#32
  let arg0 : BitVec 32 := BitVec.ofNat 32 (i 0).val
  let v1939 : BitVec 32 := Scalar.addi c8_i32_1122 arg0
  let v1940 : Index := Scalar.indexCast v1939
  let c256_1123 : Index := 256#32
  let c0_1124 : Index := 0#32
  ![v1940.toNat, 256, 0]
def k0_off26 (i : grid0.Coords) : Fin 3 → Nat :=
  let arg0 : BitVec 32 := BitVec.ofNat 32 (i 0).val
  let v1944 : Index := Scalar.indexCast arg0
  let c256_1125 : Index := 256#32
  let c0_1126 : Index := 0#32
  ![v1944.toNat, 256, 0]
def k0_off27 (i : grid0.Coords) (c1_i32_1130 : BitVec 32) : Fin 3 → Nat :=
  let arg0 : BitVec 32 := BitVec.ofNat 32 (i 0).val
  let v1951 : BitVec 32 := Scalar.addi arg0 c1_i32_1130
  let v1952 : Index := Scalar.indexCast v1951
  let c256_1131 : Index := 256#32
  let c0_1132 : Index := 0#32
  ![v1952.toNat, 256, 0]
def k0_off28 (i : grid0.Coords) : Fin 3 → Nat :=
  let c8_i32_1190 : BitVec 32 := 8#32
  let arg0 : BitVec 32 := BitVec.ofNat 32 (i 0).val
  let v2045 : BitVec 32 := Scalar.addi c8_i32_1190 arg0
  let v2046 : Index := Scalar.indexCast v2045
  let c288_1191 : Index := 288#32
  let c0_1192 : Index := 0#32
  ![v2046.toNat, 288, 0]
def k0_off29 (i : grid0.Coords) : Fin 3 → Nat :=
  let arg0 : BitVec 32 := BitVec.ofNat 32 (i 0).val
  let v2050 : Index := Scalar.indexCast arg0
  let c288_1193 : Index := 288#32
  let c0_1194 : Index := 0#32
  ![v2050.toNat, 288, 0]
def k0_off30 (i : grid0.Coords) (c1_i32_1198 : BitVec 32) : Fin 3 → Nat :=
  let arg0 : BitVec 32 := BitVec.ofNat 32 (i 0).val
  let v2057 : BitVec 32 := Scalar.addi arg0 c1_i32_1198
  let v2058 : Index := Scalar.indexCast v2057
  let c288_1199 : Index := 288#32
  let c0_1200 : Index := 0#32
  ![v2058.toNat, 288, 0]
def k0_off31 (i : grid0.Coords) : Fin 3 → Nat :=
  let c8_i32_1258 : BitVec 32 := 8#32
  let arg0 : BitVec 32 := BitVec.ofNat 32 (i 0).val
  let v2151 : BitVec 32 := Scalar.addi c8_i32_1258 arg0
  let v2152 : Index := Scalar.indexCast v2151
  let c320_1259 : Index := 320#32
  let c0_1260 : Index := 0#32
  ![v2152.toNat, 320, 0]
def k0_off32 (i : grid0.Coords) : Fin 3 → Nat :=
  let arg0 : BitVec 32 := BitVec.ofNat 32 (i 0).val
  let v2156 : Index := Scalar.indexCast arg0
  let c320_1261 : Index := 320#32
  let c0_1262 : Index := 0#32
  ![v2156.toNat, 320, 0]
def k0_off33 (i : grid0.Coords) (c1_i32_1266 : BitVec 32) : Fin 3 → Nat :=
  let arg0 : BitVec 32 := BitVec.ofNat 32 (i 0).val
  let v2163 : BitVec 32 := Scalar.addi arg0 c1_i32_1266
  let v2164 : Index := Scalar.indexCast v2163
  let c320_1267 : Index := 320#32
  let c0_1268 : Index := 0#32
  ![v2164.toNat, 320, 0]
def k0_off34 (i : grid0.Coords) : Fin 3 → Nat :=
  let c8_i32_1326 : BitVec 32 := 8#32
  let arg0 : BitVec 32 := BitVec.ofNat 32 (i 0).val
  let v2257 : BitVec 32 := Scalar.addi c8_i32_1326 arg0
  let v2258 : Index := Scalar.indexCast v2257
  let c352_1327 : Index := 352#32
  let c0_1328 : Index := 0#32
  ![v2258.toNat, 352, 0]
def k0_off35 (i : grid0.Coords) : Fin 3 → Nat :=
  let arg0 : BitVec 32 := BitVec.ofNat 32 (i 0).val
  let v2262 : Index := Scalar.indexCast arg0
  let c352_1329 : Index := 352#32
  let c0_1330 : Index := 0#32
  ![v2262.toNat, 352, 0]
def k0_off36 (i : grid0.Coords) (c1_i32_1334 : BitVec 32) : Fin 3 → Nat :=
  let arg0 : BitVec 32 := BitVec.ofNat 32 (i 0).val
  let v2269 : BitVec 32 := Scalar.addi arg0 c1_i32_1334
  let v2270 : Index := Scalar.indexCast v2269
  let c352_1335 : Index := 352#32
  let c0_1336 : Index := 0#32
  ![v2270.toNat, 352, 0]
def k0_off37 (i : grid0.Coords) : Fin 3 → Nat :=
  let c8_i32_1394 : BitVec 32 := 8#32
  let arg0 : BitVec 32 := BitVec.ofNat 32 (i 0).val
  let v2363 : BitVec 32 := Scalar.addi c8_i32_1394 arg0
  let v2364 : Index := Scalar.indexCast v2363
  let c384_1395 : Index := 384#32
  let c0_1396 : Index := 0#32
  ![v2364.toNat, 384, 0]
def k0_off38 (i : grid0.Coords) : Fin 3 → Nat :=
  let arg0 : BitVec 32 := BitVec.ofNat 32 (i 0).val
  let v2368 : Index := Scalar.indexCast arg0
  let c384_1397 : Index := 384#32
  let c0_1398 : Index := 0#32
  ![v2368.toNat, 384, 0]
def k0_off39 (i : grid0.Coords) (c1_i32_1402 : BitVec 32) : Fin 3 → Nat :=
  let arg0 : BitVec 32 := BitVec.ofNat 32 (i 0).val
  let v2375 : BitVec 32 := Scalar.addi arg0 c1_i32_1402
  let v2376 : Index := Scalar.indexCast v2375
  let c384_1403 : Index := 384#32
  let c0_1404 : Index := 0#32
  ![v2376.toNat, 384, 0]
def k0_off40 (i : grid0.Coords) : Fin 3 → Nat :=
  let c8_i32_1462 : BitVec 32 := 8#32
  let arg0 : BitVec 32 := BitVec.ofNat 32 (i 0).val
  let v2469 : BitVec 32 := Scalar.addi c8_i32_1462 arg0
  let v2470 : Index := Scalar.indexCast v2469
  let c416_1463 : Index := 416#32
  let c0_1464 : Index := 0#32
  ![v2470.toNat, 416, 0]
def k0_off41 (i : grid0.Coords) : Fin 3 → Nat :=
  let arg0 : BitVec 32 := BitVec.ofNat 32 (i 0).val
  let v2474 : Index := Scalar.indexCast arg0
  let c416_1465 : Index := 416#32
  let c0_1466 : Index := 0#32
  ![v2474.toNat, 416, 0]
def k0_off42 (i : grid0.Coords) (c1_i32_1470 : BitVec 32) : Fin 3 → Nat :=
  let arg0 : BitVec 32 := BitVec.ofNat 32 (i 0).val
  let v2481 : BitVec 32 := Scalar.addi arg0 c1_i32_1470
  let v2482 : Index := Scalar.indexCast v2481
  let c416_1471 : Index := 416#32
  let c0_1472 : Index := 0#32
  ![v2482.toNat, 416, 0]
def k0_off43 (i : grid0.Coords) : Fin 3 → Nat :=
  let c8_i32_1530 : BitVec 32 := 8#32
  let arg0 : BitVec 32 := BitVec.ofNat 32 (i 0).val
  let v2575 : BitVec 32 := Scalar.addi c8_i32_1530 arg0
  let v2576 : Index := Scalar.indexCast v2575
  let c448_1531 : Index := 448#32
  let c0_1532 : Index := 0#32
  ![v2576.toNat, 448, 0]
def k0_off44 (i : grid0.Coords) : Fin 3 → Nat :=
  let arg0 : BitVec 32 := BitVec.ofNat 32 (i 0).val
  let v2580 : Index := Scalar.indexCast arg0
  let c448_1533 : Index := 448#32
  let c0_1534 : Index := 0#32
  ![v2580.toNat, 448, 0]
def k0_off45 (i : grid0.Coords) (c1_i32_1538 : BitVec 32) : Fin 3 → Nat :=
  let arg0 : BitVec 32 := BitVec.ofNat 32 (i 0).val
  let v2587 : BitVec 32 := Scalar.addi arg0 c1_i32_1538
  let v2588 : Index := Scalar.indexCast v2587
  let c448_1539 : Index := 448#32
  let c0_1540 : Index := 0#32
  ![v2588.toNat, 448, 0]
def k0_off46 (i : grid0.Coords) : Fin 3 → Nat :=
  let c8_i32_1610 : BitVec 32 := 8#32
  let arg0 : BitVec 32 := BitVec.ofNat 32 (i 0).val
  let v2689 : BitVec 32 := Scalar.addi c8_i32_1610 arg0
  let v2690 : Index := Scalar.indexCast v2689
  let c480_1611 : Index := 480#32
  let c0_1612 : Index := 0#32
  ![v2690.toNat, 480, 0]
def k0_off47 (i : grid0.Coords) : Fin 3 → Nat :=
  let arg0 : BitVec 32 := BitVec.ofNat 32 (i 0).val
  let v2694 : Index := Scalar.indexCast arg0
  let c480_1613 : Index := 480#32
  let c0_1614 : Index := 0#32
  ![v2694.toNat, 480, 0]
def k0_off48 (i : grid0.Coords) (c1_i32_1618 : BitVec 32) : Fin 3 → Nat :=
  let arg0 : BitVec 32 := BitVec.ofNat 32 (i 0).val
  let v2701 : BitVec 32 := Scalar.addi arg0 c1_i32_1618
  let v2702 : Index := Scalar.indexCast v2701
  let c480_1619 : Index := 480#32
  let c0_1620 : Index := 0#32
  ![v2702.toNat, 480, 0]
def k0_off49 (i : grid0.Coords) : Fin 3 → Nat :=
  let c8_i32_1678 : BitVec 32 := 8#32
  let arg0 : BitVec 32 := BitVec.ofNat 32 (i 0).val
  let v2795 : BitVec 32 := Scalar.addi c8_i32_1678 arg0
  let v2796 : Index := Scalar.indexCast v2795
  let c512_1679 : Index := 512#32
  let c0_1680 : Index := 0#32
  ![v2796.toNat, 512, 0]
def k0_off50 (i : grid0.Coords) : Fin 3 → Nat :=
  let arg0 : BitVec 32 := BitVec.ofNat 32 (i 0).val
  let v2800 : Index := Scalar.indexCast arg0
  let c512_1681 : Index := 512#32
  let c0_1682 : Index := 0#32
  ![v2800.toNat, 512, 0]
def k0_off51 (i : grid0.Coords) (c1_i32_1686 : BitVec 32) : Fin 3 → Nat :=
  let arg0 : BitVec 32 := BitVec.ofNat 32 (i 0).val
  let v2807 : BitVec 32 := Scalar.addi arg0 c1_i32_1686
  let v2808 : Index := Scalar.indexCast v2807
  let c512_1687 : Index := 512#32
  let c0_1688 : Index := 0#32
  ![v2808.toNat, 512, 0]
def k0_off52 (i : grid0.Coords) : Fin 3 → Nat :=
  let c8_i32_1746 : BitVec 32 := 8#32
  let arg0 : BitVec 32 := BitVec.ofNat 32 (i 0).val
  let v2901 : BitVec 32 := Scalar.addi c8_i32_1746 arg0
  let v2902 : Index := Scalar.indexCast v2901
  let c544_1747 : Index := 544#32
  let c0_1748 : Index := 0#32
  ![v2902.toNat, 544, 0]
def k0_off53 (i : grid0.Coords) : Fin 3 → Nat :=
  let arg0 : BitVec 32 := BitVec.ofNat 32 (i 0).val
  let v2906 : Index := Scalar.indexCast arg0
  let c544_1749 : Index := 544#32
  let c0_1750 : Index := 0#32
  ![v2906.toNat, 544, 0]
def k0_off54 (i : grid0.Coords) (c1_i32_1754 : BitVec 32) : Fin 3 → Nat :=
  let arg0 : BitVec 32 := BitVec.ofNat 32 (i 0).val
  let v2913 : BitVec 32 := Scalar.addi arg0 c1_i32_1754
  let v2914 : Index := Scalar.indexCast v2913
  let c544_1755 : Index := 544#32
  let c0_1756 : Index := 0#32
  ![v2914.toNat, 544, 0]
def k0_off55 (i : grid0.Coords) : Fin 3 → Nat :=
  let c8_i32_1814 : BitVec 32 := 8#32
  let arg0 : BitVec 32 := BitVec.ofNat 32 (i 0).val
  let v3007 : BitVec 32 := Scalar.addi c8_i32_1814 arg0
  let v3008 : Index := Scalar.indexCast v3007
  let c576_1815 : Index := 576#32
  let c0_1816 : Index := 0#32
  ![v3008.toNat, 576, 0]
def k0_off56 (i : grid0.Coords) : Fin 3 → Nat :=
  let arg0 : BitVec 32 := BitVec.ofNat 32 (i 0).val
  let v3012 : Index := Scalar.indexCast arg0
  let c576_1817 : Index := 576#32
  let c0_1818 : Index := 0#32
  ![v3012.toNat, 576, 0]
def k0_off57 (i : grid0.Coords) (c1_i32_1822 : BitVec 32) : Fin 3 → Nat :=
  let arg0 : BitVec 32 := BitVec.ofNat 32 (i 0).val
  let v3019 : BitVec 32 := Scalar.addi arg0 c1_i32_1822
  let v3020 : Index := Scalar.indexCast v3019
  let c576_1823 : Index := 576#32
  let c0_1824 : Index := 0#32
  ![v3020.toNat, 576, 0]
def k0_off58 (i : grid0.Coords) : Fin 3 → Nat :=
  let c8_i32_1882 : BitVec 32 := 8#32
  let arg0 : BitVec 32 := BitVec.ofNat 32 (i 0).val
  let v3113 : BitVec 32 := Scalar.addi c8_i32_1882 arg0
  let v3114 : Index := Scalar.indexCast v3113
  let c608_1883 : Index := 608#32
  let c0_1884 : Index := 0#32
  ![v3114.toNat, 608, 0]
def k0_off59 (i : grid0.Coords) : Fin 3 → Nat :=
  let arg0 : BitVec 32 := BitVec.ofNat 32 (i 0).val
  let v3118 : Index := Scalar.indexCast arg0
  let c608_1885 : Index := 608#32
  let c0_1886 : Index := 0#32
  ![v3118.toNat, 608, 0]
def k0_off60 (i : grid0.Coords) (c1_i32_1890 : BitVec 32) : Fin 3 → Nat :=
  let arg0 : BitVec 32 := BitVec.ofNat 32 (i 0).val
  let v3125 : BitVec 32 := Scalar.addi arg0 c1_i32_1890
  let v3126 : Index := Scalar.indexCast v3125
  let c608_1891 : Index := 608#32
  let c0_1892 : Index := 0#32
  ![v3126.toNat, 608, 0]
def k0_off61 (i : grid0.Coords) : Fin 3 → Nat :=
  let c8_i32_1950 : BitVec 32 := 8#32
  let arg0 : BitVec 32 := BitVec.ofNat 32 (i 0).val
  let v3219 : BitVec 32 := Scalar.addi c8_i32_1950 arg0
  let v3220 : Index := Scalar.indexCast v3219
  let c640_1951 : Index := 640#32
  let c0_1952 : Index := 0#32
  ![v3220.toNat, 640, 0]
def k0_off62 (i : grid0.Coords) : Fin 3 → Nat :=
  let arg0 : BitVec 32 := BitVec.ofNat 32 (i 0).val
  let v3224 : Index := Scalar.indexCast arg0
  let c640_1953 : Index := 640#32
  let c0_1954 : Index := 0#32
  ![v3224.toNat, 640, 0]
def k0_off63 (i : grid0.Coords) (c1_i32_1958 : BitVec 32) : Fin 3 → Nat :=
  let arg0 : BitVec 32 := BitVec.ofNat 32 (i 0).val
  let v3231 : BitVec 32 := Scalar.addi arg0 c1_i32_1958
  let v3232 : Index := Scalar.indexCast v3231
  let c640_1959 : Index := 640#32
  let c0_1960 : Index := 0#32
  ![v3232.toNat, 640, 0]
def k0_off64 (i : grid0.Coords) : Fin 3 → Nat :=
  let c8_i32_2018 : BitVec 32 := 8#32
  let arg0 : BitVec 32 := BitVec.ofNat 32 (i 0).val
  let v3325 : BitVec 32 := Scalar.addi c8_i32_2018 arg0
  let v3326 : Index := Scalar.indexCast v3325
  let c672_2019 : Index := 672#32
  let c0_2020 : Index := 0#32
  ![v3326.toNat, 672, 0]
def k0_off65 (i : grid0.Coords) : Fin 3 → Nat :=
  let arg0 : BitVec 32 := BitVec.ofNat 32 (i 0).val
  let v3330 : Index := Scalar.indexCast arg0
  let c672_2021 : Index := 672#32
  let c0_2022 : Index := 0#32
  ![v3330.toNat, 672, 0]
def k0_off66 (i : grid0.Coords) (c1_i32_2026 : BitVec 32) : Fin 3 → Nat :=
  let arg0 : BitVec 32 := BitVec.ofNat 32 (i 0).val
  let v3337 : BitVec 32 := Scalar.addi arg0 c1_i32_2026
  let v3338 : Index := Scalar.indexCast v3337
  let c672_2027 : Index := 672#32
  let c0_2028 : Index := 0#32
  ![v3338.toNat, 672, 0]
def k0_off67 (i : grid0.Coords) : Fin 3 → Nat :=
  let c8_i32_2086 : BitVec 32 := 8#32
  let arg0 : BitVec 32 := BitVec.ofNat 32 (i 0).val
  let v3431 : BitVec 32 := Scalar.addi c8_i32_2086 arg0
  let v3432 : Index := Scalar.indexCast v3431
  let c704_2087 : Index := 704#32
  let c0_2088 : Index := 0#32
  ![v3432.toNat, 704, 0]
def k0_off68 (i : grid0.Coords) : Fin 3 → Nat :=
  let arg0 : BitVec 32 := BitVec.ofNat 32 (i 0).val
  let v3436 : Index := Scalar.indexCast arg0
  let c704_2089 : Index := 704#32
  let c0_2090 : Index := 0#32
  ![v3436.toNat, 704, 0]
def k0_off69 (i : grid0.Coords) (c1_i32_2094 : BitVec 32) : Fin 3 → Nat :=
  let arg0 : BitVec 32 := BitVec.ofNat 32 (i 0).val
  let v3443 : BitVec 32 := Scalar.addi arg0 c1_i32_2094
  let v3444 : Index := Scalar.indexCast v3443
  let c704_2095 : Index := 704#32
  let c0_2096 : Index := 0#32
  ![v3444.toNat, 704, 0]
def k0_off70 (i : grid0.Coords) : Fin 3 → Nat :=
  let c8_i32_2154 : BitVec 32 := 8#32
  let arg0 : BitVec 32 := BitVec.ofNat 32 (i 0).val
  let v3537 : BitVec 32 := Scalar.addi c8_i32_2154 arg0
  let v3538 : Index := Scalar.indexCast v3537
  let c736_2155 : Index := 736#32
  let c0_2156 : Index := 0#32
  ![v3538.toNat, 736, 0]
def k0_off71 (i : grid0.Coords) : Fin 3 → Nat :=
  let arg0 : BitVec 32 := BitVec.ofNat 32 (i 0).val
  let v3542 : Index := Scalar.indexCast arg0
  let c736_2157 : Index := 736#32
  let c0_2158 : Index := 0#32
  ![v3542.toNat, 736, 0]
def k0_off72 (i : grid0.Coords) (c1_i32_2162 : BitVec 32) : Fin 3 → Nat :=
  let arg0 : BitVec 32 := BitVec.ofNat 32 (i 0).val
  let v3549 : BitVec 32 := Scalar.addi arg0 c1_i32_2162
  let v3550 : Index := Scalar.indexCast v3549
  let c736_2163 : Index := 736#32
  let c0_2164 : Index := 0#32
  ![v3550.toNat, 736, 0]
def k0_off73 (i : grid0.Coords) : Fin 3 → Nat :=
  let c8_i32_2222 : BitVec 32 := 8#32
  let arg0 : BitVec 32 := BitVec.ofNat 32 (i 0).val
  let v3643 : BitVec 32 := Scalar.addi c8_i32_2222 arg0
  let v3644 : Index := Scalar.indexCast v3643
  let c768_2223 : Index := 768#32
  let c0_2224 : Index := 0#32
  ![v3644.toNat, 768, 0]
def k0_off74 (i : grid0.Coords) : Fin 3 → Nat :=
  let arg0 : BitVec 32 := BitVec.ofNat 32 (i 0).val
  let v3648 : Index := Scalar.indexCast arg0
  let c768_2225 : Index := 768#32
  let c0_2226 : Index := 0#32
  ![v3648.toNat, 768, 0]
def k0_off75 (i : grid0.Coords) (c1_i32_2230 : BitVec 32) : Fin 3 → Nat :=
  let arg0 : BitVec 32 := BitVec.ofNat 32 (i 0).val
  let v3655 : BitVec 32 := Scalar.addi arg0 c1_i32_2230
  let v3656 : Index := Scalar.indexCast v3655
  let c768_2231 : Index := 768#32
  let c0_2232 : Index := 0#32
  ![v3656.toNat, 768, 0]
def k0_off76 (i : grid0.Coords) : Fin 3 → Nat :=
  let c8_i32_2290 : BitVec 32 := 8#32
  let arg0 : BitVec 32 := BitVec.ofNat 32 (i 0).val
  let v3749 : BitVec 32 := Scalar.addi c8_i32_2290 arg0
  let v3750 : Index := Scalar.indexCast v3749
  let c800_2291 : Index := 800#32
  let c0_2292 : Index := 0#32
  ![v3750.toNat, 800, 0]
def k0_off77 (i : grid0.Coords) : Fin 3 → Nat :=
  let arg0 : BitVec 32 := BitVec.ofNat 32 (i 0).val
  let v3754 : Index := Scalar.indexCast arg0
  let c800_2293 : Index := 800#32
  let c0_2294 : Index := 0#32
  ![v3754.toNat, 800, 0]
def k0_off78 (i : grid0.Coords) (c1_i32_2298 : BitVec 32) : Fin 3 → Nat :=
  let arg0 : BitVec 32 := BitVec.ofNat 32 (i 0).val
  let v3761 : BitVec 32 := Scalar.addi arg0 c1_i32_2298
  let v3762 : Index := Scalar.indexCast v3761
  let c800_2299 : Index := 800#32
  let c0_2300 : Index := 0#32
  ![v3762.toNat, 800, 0]
def k0_off79 (i : grid0.Coords) : Fin 3 → Nat :=
  let c8_i32_2358 : BitVec 32 := 8#32
  let arg0 : BitVec 32 := BitVec.ofNat 32 (i 0).val
  let v3855 : BitVec 32 := Scalar.addi c8_i32_2358 arg0
  let v3856 : Index := Scalar.indexCast v3855
  let c832_2359 : Index := 832#32
  let c0_2360 : Index := 0#32
  ![v3856.toNat, 832, 0]
def k0_off80 (i : grid0.Coords) : Fin 3 → Nat :=
  let arg0 : BitVec 32 := BitVec.ofNat 32 (i 0).val
  let v3860 : Index := Scalar.indexCast arg0
  let c832_2361 : Index := 832#32
  let c0_2362 : Index := 0#32
  ![v3860.toNat, 832, 0]
def k0_off81 (i : grid0.Coords) (c1_i32_2366 : BitVec 32) : Fin 3 → Nat :=
  let arg0 : BitVec 32 := BitVec.ofNat 32 (i 0).val
  let v3867 : BitVec 32 := Scalar.addi arg0 c1_i32_2366
  let v3868 : Index := Scalar.indexCast v3867
  let c832_2367 : Index := 832#32
  let c0_2368 : Index := 0#32
  ![v3868.toNat, 832, 0]
def k0_off82 (i : grid0.Coords) : Fin 3 → Nat :=
  let c8_i32_2426 : BitVec 32 := 8#32
  let arg0 : BitVec 32 := BitVec.ofNat 32 (i 0).val
  let v3961 : BitVec 32 := Scalar.addi c8_i32_2426 arg0
  let v3962 : Index := Scalar.indexCast v3961
  let c864_2427 : Index := 864#32
  let c0_2428 : Index := 0#32
  ![v3962.toNat, 864, 0]
def k0_off83 (i : grid0.Coords) : Fin 3 → Nat :=
  let arg0 : BitVec 32 := BitVec.ofNat 32 (i 0).val
  let v3966 : Index := Scalar.indexCast arg0
  let c864_2429 : Index := 864#32
  let c0_2430 : Index := 0#32
  ![v3966.toNat, 864, 0]
def k0_off84 (i : grid0.Coords) (c1_i32_2434 : BitVec 32) : Fin 3 → Nat :=
  let arg0 : BitVec 32 := BitVec.ofNat 32 (i 0).val
  let v3973 : BitVec 32 := Scalar.addi arg0 c1_i32_2434
  let v3974 : Index := Scalar.indexCast v3973
  let c864_2435 : Index := 864#32
  let c0_2436 : Index := 0#32
  ![v3974.toNat, 864, 0]
def k0_off85 (i : grid0.Coords) : Fin 3 → Nat :=
  let c8_i32_2494 : BitVec 32 := 8#32
  let arg0 : BitVec 32 := BitVec.ofNat 32 (i 0).val
  let v4067 : BitVec 32 := Scalar.addi c8_i32_2494 arg0
  let v4068 : Index := Scalar.indexCast v4067
  let c896_2495 : Index := 896#32
  let c0_2496 : Index := 0#32
  ![v4068.toNat, 896, 0]
def k0_off86 (i : grid0.Coords) : Fin 3 → Nat :=
  let arg0 : BitVec 32 := BitVec.ofNat 32 (i 0).val
  let v4072 : Index := Scalar.indexCast arg0
  let c896_2497 : Index := 896#32
  let c0_2498 : Index := 0#32
  ![v4072.toNat, 896, 0]
def k0_off87 (i : grid0.Coords) (c1_i32_2502 : BitVec 32) : Fin 3 → Nat :=
  let arg0 : BitVec 32 := BitVec.ofNat 32 (i 0).val
  let v4079 : BitVec 32 := Scalar.addi arg0 c1_i32_2502
  let v4080 : Index := Scalar.indexCast v4079
  let c896_2503 : Index := 896#32
  let c0_2504 : Index := 0#32
  ![v4080.toNat, 896, 0]
def k0_off88 (i : grid0.Coords) : Fin 3 → Nat :=
  let c8_i32_2562 : BitVec 32 := 8#32
  let arg0 : BitVec 32 := BitVec.ofNat 32 (i 0).val
  let v4173 : BitVec 32 := Scalar.addi c8_i32_2562 arg0
  let v4174 : Index := Scalar.indexCast v4173
  let c928_2563 : Index := 928#32
  let c0_2564 : Index := 0#32
  ![v4174.toNat, 928, 0]
def k0_off89 (i : grid0.Coords) : Fin 3 → Nat :=
  let arg0 : BitVec 32 := BitVec.ofNat 32 (i 0).val
  let v4178 : Index := Scalar.indexCast arg0
  let c928_2565 : Index := 928#32
  let c0_2566 : Index := 0#32
  ![v4178.toNat, 928, 0]
def k0_off90 (i : grid0.Coords) (c1_i32_2570 : BitVec 32) : Fin 3 → Nat :=
  let arg0 : BitVec 32 := BitVec.ofNat 32 (i 0).val
  let v4185 : BitVec 32 := Scalar.addi arg0 c1_i32_2570
  let v4186 : Index := Scalar.indexCast v4185
  let c928_2571 : Index := 928#32
  let c0_2572 : Index := 0#32
  ![v4186.toNat, 928, 0]
def k0_cond2 (i : grid0.Coords) : BitVec 1 :=
  let arg0 : BitVec 32 := BitVec.ofNat 32 (i 0).val
  let c6_i32_2869 : BitVec 32 := 6#32
  let v4602 : BitVec 1 := Scalar.cmpi .sge arg0 c6_i32_2869
  let v4603 : BitVec 32 := Scalar.extui v4602
  let c0_i32_2870 : BitVec 32 := 0#32
  let v4604 : BitVec 1 := Scalar.cmpi .ne v4603 c0_i32_2870
  v4604

def k0_off91 (i : grid0.Coords) : Fin 3 → Nat :=
  let c8_i32_2872 : BitVec 32 := 8#32
  let arg0 : BitVec 32 := BitVec.ofNat 32 (i 0).val
  let v4606 : BitVec 32 := Scalar.addi c8_i32_2872 arg0
  let v4607 : Index := Scalar.indexCast v4606
  let c0_2873 : Index := 0#32
  let c0_2874 : Index := 0#32
  ![v4607.toNat, 0, 0]
def k0_off92 (i : grid0.Coords) : Fin 3 → Nat :=
  let c8_i32_2875 : BitVec 32 := 8#32
  let arg0 : BitVec 32 := BitVec.ofNat 32 (i 0).val
  let v4612 : BitVec 32 := Scalar.addi c8_i32_2875 arg0
  let v4613 : Index := Scalar.indexCast v4612
  let c32_2876 : Index := 32#32
  let c0_2877 : Index := 0#32
  ![v4613.toNat, 32, 0]
def k0_off93 (i : grid0.Coords) : Fin 3 → Nat :=
  let c8_i32_2878 : BitVec 32 := 8#32
  let arg0 : BitVec 32 := BitVec.ofNat 32 (i 0).val
  let v4618 : BitVec 32 := Scalar.addi c8_i32_2878 arg0
  let v4619 : Index := Scalar.indexCast v4618
  let c64_2879 : Index := 64#32
  let c0_2880 : Index := 0#32
  ![v4619.toNat, 64, 0]
def k0_off94 (i : grid0.Coords) : Fin 3 → Nat :=
  let c8_i32_2881 : BitVec 32 := 8#32
  let arg0 : BitVec 32 := BitVec.ofNat 32 (i 0).val
  let v4624 : BitVec 32 := Scalar.addi c8_i32_2881 arg0
  let v4625 : Index := Scalar.indexCast v4624
  let c96_2882 : Index := 96#32
  let c0_2883 : Index := 0#32
  ![v4625.toNat, 96, 0]
def k0_off95 (i : grid0.Coords) : Fin 3 → Nat :=
  let c8_i32_2884 : BitVec 32 := 8#32
  let arg0 : BitVec 32 := BitVec.ofNat 32 (i 0).val
  let v4630 : BitVec 32 := Scalar.addi c8_i32_2884 arg0
  let v4631 : Index := Scalar.indexCast v4630
  let c128_2885 : Index := 128#32
  let c0_2886 : Index := 0#32
  ![v4631.toNat, 128, 0]
def k0_off96 (i : grid0.Coords) : Fin 3 → Nat :=
  let c8_i32_2887 : BitVec 32 := 8#32
  let arg0 : BitVec 32 := BitVec.ofNat 32 (i 0).val
  let v4636 : BitVec 32 := Scalar.addi c8_i32_2887 arg0
  let v4637 : Index := Scalar.indexCast v4636
  let c160_2888 : Index := 160#32
  let c0_2889 : Index := 0#32
  ![v4637.toNat, 160, 0]
def k0_off97 (i : grid0.Coords) : Fin 3 → Nat :=
  let c8_i32_2890 : BitVec 32 := 8#32
  let arg0 : BitVec 32 := BitVec.ofNat 32 (i 0).val
  let v4642 : BitVec 32 := Scalar.addi c8_i32_2890 arg0
  let v4643 : Index := Scalar.indexCast v4642
  let c192_2891 : Index := 192#32
  let c0_2892 : Index := 0#32
  ![v4643.toNat, 192, 0]
def k0_off98 (i : grid0.Coords) : Fin 3 → Nat :=
  let c8_i32_2893 : BitVec 32 := 8#32
  let arg0 : BitVec 32 := BitVec.ofNat 32 (i 0).val
  let v4648 : BitVec 32 := Scalar.addi c8_i32_2893 arg0
  let v4649 : Index := Scalar.indexCast v4648
  let c224_2894 : Index := 224#32
  let c0_2895 : Index := 0#32
  ![v4649.toNat, 224, 0]
def k0_off99 (i : grid0.Coords) : Fin 3 → Nat :=
  let c8_i32_2896 : BitVec 32 := 8#32
  let arg0 : BitVec 32 := BitVec.ofNat 32 (i 0).val
  let v4654 : BitVec 32 := Scalar.addi c8_i32_2896 arg0
  let v4655 : Index := Scalar.indexCast v4654
  let c256_2897 : Index := 256#32
  let c0_2898 : Index := 0#32
  ![v4655.toNat, 256, 0]
def k0_off100 (i : grid0.Coords) : Fin 3 → Nat :=
  let c8_i32_2899 : BitVec 32 := 8#32
  let arg0 : BitVec 32 := BitVec.ofNat 32 (i 0).val
  let v4660 : BitVec 32 := Scalar.addi c8_i32_2899 arg0
  let v4661 : Index := Scalar.indexCast v4660
  let c288_2900 : Index := 288#32
  let c0_2901 : Index := 0#32
  ![v4661.toNat, 288, 0]
def k0_off101 (i : grid0.Coords) : Fin 3 → Nat :=
  let c8_i32_2902 : BitVec 32 := 8#32
  let arg0 : BitVec 32 := BitVec.ofNat 32 (i 0).val
  let v4666 : BitVec 32 := Scalar.addi c8_i32_2902 arg0
  let v4667 : Index := Scalar.indexCast v4666
  let c320_2903 : Index := 320#32
  let c0_2904 : Index := 0#32
  ![v4667.toNat, 320, 0]
def k0_off102 (i : grid0.Coords) : Fin 3 → Nat :=
  let c8_i32_2905 : BitVec 32 := 8#32
  let arg0 : BitVec 32 := BitVec.ofNat 32 (i 0).val
  let v4672 : BitVec 32 := Scalar.addi c8_i32_2905 arg0
  let v4673 : Index := Scalar.indexCast v4672
  let c352_2906 : Index := 352#32
  let c0_2907 : Index := 0#32
  ![v4673.toNat, 352, 0]
def k0_off103 (i : grid0.Coords) : Fin 3 → Nat :=
  let c8_i32_2908 : BitVec 32 := 8#32
  let arg0 : BitVec 32 := BitVec.ofNat 32 (i 0).val
  let v4678 : BitVec 32 := Scalar.addi c8_i32_2908 arg0
  let v4679 : Index := Scalar.indexCast v4678
  let c384_2909 : Index := 384#32
  let c0_2910 : Index := 0#32
  ![v4679.toNat, 384, 0]
def k0_off104 (i : grid0.Coords) : Fin 3 → Nat :=
  let c8_i32_2911 : BitVec 32 := 8#32
  let arg0 : BitVec 32 := BitVec.ofNat 32 (i 0).val
  let v4684 : BitVec 32 := Scalar.addi c8_i32_2911 arg0
  let v4685 : Index := Scalar.indexCast v4684
  let c416_2912 : Index := 416#32
  let c0_2913 : Index := 0#32
  ![v4685.toNat, 416, 0]
def k0_off105 (i : grid0.Coords) : Fin 3 → Nat :=
  let c8_i32_2914 : BitVec 32 := 8#32
  let arg0 : BitVec 32 := BitVec.ofNat 32 (i 0).val
  let v4690 : BitVec 32 := Scalar.addi c8_i32_2914 arg0
  let v4691 : Index := Scalar.indexCast v4690
  let c448_2915 : Index := 448#32
  let c0_2916 : Index := 0#32
  ![v4691.toNat, 448, 0]
def k0_off106 (i : grid0.Coords) : Fin 3 → Nat :=
  let c8_i32_2917 : BitVec 32 := 8#32
  let arg0 : BitVec 32 := BitVec.ofNat 32 (i 0).val
  let v4696 : BitVec 32 := Scalar.addi c8_i32_2917 arg0
  let v4697 : Index := Scalar.indexCast v4696
  let c480_2918 : Index := 480#32
  let c0_2919 : Index := 0#32
  ![v4697.toNat, 480, 0]
def k0_off107 (i : grid0.Coords) : Fin 3 → Nat :=
  let c8_i32_2920 : BitVec 32 := 8#32
  let arg0 : BitVec 32 := BitVec.ofNat 32 (i 0).val
  let v4702 : BitVec 32 := Scalar.addi c8_i32_2920 arg0
  let v4703 : Index := Scalar.indexCast v4702
  let c512_2921 : Index := 512#32
  let c0_2922 : Index := 0#32
  ![v4703.toNat, 512, 0]
def k0_off108 (i : grid0.Coords) : Fin 3 → Nat :=
  let c8_i32_2923 : BitVec 32 := 8#32
  let arg0 : BitVec 32 := BitVec.ofNat 32 (i 0).val
  let v4708 : BitVec 32 := Scalar.addi c8_i32_2923 arg0
  let v4709 : Index := Scalar.indexCast v4708
  let c544_2924 : Index := 544#32
  let c0_2925 : Index := 0#32
  ![v4709.toNat, 544, 0]
def k0_off109 (i : grid0.Coords) : Fin 3 → Nat :=
  let c8_i32_2926 : BitVec 32 := 8#32
  let arg0 : BitVec 32 := BitVec.ofNat 32 (i 0).val
  let v4714 : BitVec 32 := Scalar.addi c8_i32_2926 arg0
  let v4715 : Index := Scalar.indexCast v4714
  let c576_2927 : Index := 576#32
  let c0_2928 : Index := 0#32
  ![v4715.toNat, 576, 0]
def k0_off110 (i : grid0.Coords) : Fin 3 → Nat :=
  let c8_i32_2929 : BitVec 32 := 8#32
  let arg0 : BitVec 32 := BitVec.ofNat 32 (i 0).val
  let v4720 : BitVec 32 := Scalar.addi c8_i32_2929 arg0
  let v4721 : Index := Scalar.indexCast v4720
  let c608_2930 : Index := 608#32
  let c0_2931 : Index := 0#32
  ![v4721.toNat, 608, 0]
def k0_off111 (i : grid0.Coords) : Fin 3 → Nat :=
  let c8_i32_2932 : BitVec 32 := 8#32
  let arg0 : BitVec 32 := BitVec.ofNat 32 (i 0).val
  let v4726 : BitVec 32 := Scalar.addi c8_i32_2932 arg0
  let v4727 : Index := Scalar.indexCast v4726
  let c640_2933 : Index := 640#32
  let c0_2934 : Index := 0#32
  ![v4727.toNat, 640, 0]
def k0_off112 (i : grid0.Coords) : Fin 3 → Nat :=
  let c8_i32_2935 : BitVec 32 := 8#32
  let arg0 : BitVec 32 := BitVec.ofNat 32 (i 0).val
  let v4732 : BitVec 32 := Scalar.addi c8_i32_2935 arg0
  let v4733 : Index := Scalar.indexCast v4732
  let c672_2936 : Index := 672#32
  let c0_2937 : Index := 0#32
  ![v4733.toNat, 672, 0]
def k0_off113 (i : grid0.Coords) : Fin 3 → Nat :=
  let c8_i32_2938 : BitVec 32 := 8#32
  let arg0 : BitVec 32 := BitVec.ofNat 32 (i 0).val
  let v4738 : BitVec 32 := Scalar.addi c8_i32_2938 arg0
  let v4739 : Index := Scalar.indexCast v4738
  let c704_2939 : Index := 704#32
  let c0_2940 : Index := 0#32
  ![v4739.toNat, 704, 0]
def k0_off114 (i : grid0.Coords) : Fin 3 → Nat :=
  let c8_i32_2941 : BitVec 32 := 8#32
  let arg0 : BitVec 32 := BitVec.ofNat 32 (i 0).val
  let v4744 : BitVec 32 := Scalar.addi c8_i32_2941 arg0
  let v4745 : Index := Scalar.indexCast v4744
  let c736_2942 : Index := 736#32
  let c0_2943 : Index := 0#32
  ![v4745.toNat, 736, 0]
def k0_off115 (i : grid0.Coords) : Fin 3 → Nat :=
  let c8_i32_2944 : BitVec 32 := 8#32
  let arg0 : BitVec 32 := BitVec.ofNat 32 (i 0).val
  let v4750 : BitVec 32 := Scalar.addi c8_i32_2944 arg0
  let v4751 : Index := Scalar.indexCast v4750
  let c768_2945 : Index := 768#32
  let c0_2946 : Index := 0#32
  ![v4751.toNat, 768, 0]
def k0_off116 (i : grid0.Coords) : Fin 3 → Nat :=
  let c8_i32_2947 : BitVec 32 := 8#32
  let arg0 : BitVec 32 := BitVec.ofNat 32 (i 0).val
  let v4756 : BitVec 32 := Scalar.addi c8_i32_2947 arg0
  let v4757 : Index := Scalar.indexCast v4756
  let c800_2948 : Index := 800#32
  let c0_2949 : Index := 0#32
  ![v4757.toNat, 800, 0]
def k0_off117 (i : grid0.Coords) : Fin 3 → Nat :=
  let c8_i32_2950 : BitVec 32 := 8#32
  let arg0 : BitVec 32 := BitVec.ofNat 32 (i 0).val
  let v4762 : BitVec 32 := Scalar.addi c8_i32_2950 arg0
  let v4763 : Index := Scalar.indexCast v4762
  let c832_2951 : Index := 832#32
  let c0_2952 : Index := 0#32
  ![v4763.toNat, 832, 0]
def k0_off118 (i : grid0.Coords) : Fin 3 → Nat :=
  let c8_i32_2953 : BitVec 32 := 8#32
  let arg0 : BitVec 32 := BitVec.ofNat 32 (i 0).val
  let v4768 : BitVec 32 := Scalar.addi c8_i32_2953 arg0
  let v4769 : Index := Scalar.indexCast v4768
  let c864_2954 : Index := 864#32
  let c0_2955 : Index := 0#32
  ![v4769.toNat, 864, 0]
def k0_off119 (i : grid0.Coords) : Fin 3 → Nat :=
  let c8_i32_2956 : BitVec 32 := 8#32
  let arg0 : BitVec 32 := BitVec.ofNat 32 (i 0).val
  let v4774 : BitVec 32 := Scalar.addi c8_i32_2956 arg0
  let v4775 : Index := Scalar.indexCast v4774
  let c896_2957 : Index := 896#32
  let c0_2958 : Index := 0#32
  ![v4775.toNat, 896, 0]
def k0_off120 (i : grid0.Coords) : Fin 3 → Nat :=
  let c8_i32_2959 : BitVec 32 := 8#32
  let arg0 : BitVec 32 := BitVec.ofNat 32 (i 0).val
  let v4780 : BitVec 32 := Scalar.addi c8_i32_2959 arg0
  let v4781 : Index := Scalar.indexCast v4780
  let c928_2960 : Index := 928#32
  let c0_2961 : Index := 0#32
  ![v4781.toNat, 928, 0]
def k0_off121 (i : grid0.Coords) : Fin 2 → Nat :=
  let arg0 : BitVec 32 := BitVec.ofNat 32 (i 0).val
  let c6_i32_2971 : BitVec 32 := 6#32
  let v4815 : BitVec 32 := Scalar.subi arg0 c6_i32_2971
  let v4816 : Index := Scalar.indexCast v4815
  let c0_2972 : Index := 0#32
  ![v4816.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c6_i32 : BitVec 32 := 6#32
  let v0 : BitVec 32 := Scalar.subi arg0 c6_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x960x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x960x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S960x960 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x960x960 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S960x960 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S960x17 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x960x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x960x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x960x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x960x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "inv_d" => some ((960⁻¹ : ℝ) : EReal)
  | "inv_m" => some ((448⁻¹ : ℝ) : EReal)
  | _ => none
-- ==== ReferenceIdeal.lean ====
abbrev S256x14x960 : Shape := ⟨3, ![256, 14, 960]⟩
abbrev S14x960x256 : Shape := ⟨3, ![14, 960, 256]⟩
abbrev S10x96x960 : Shape := ⟨3, ![10, 96, 960]⟩
abbrev S960 : Shape := ⟨1, ![960]⟩
abbrev S960x2x960 : Shape := ⟨3, ![960, 2, 960]⟩
abbrev S2x960 : Shape := ⟨2, ![2, 960]⟩
abbrev S256x8x960 : Shape := ⟨3, ![256, 8, 960]⟩
abbrev S256x8 : Shape := ⟨2, ![256, 8]⟩
abbrev S9x960 : Shape := ⟨2, ![9, 960]⟩
abbrev S960x960 : Shape := ⟨2, ![960, 960]⟩
abbrev S1x1x960 : Shape := ⟨3, ![1, 1, 960]⟩
abbrev S2x960x960 : Shape := ⟨3, ![2, 960, 960]⟩
abbrev S2x1x1x960 : Shape := ⟨4, ![2, 1, 1, 960]⟩
abbrev S256x8x1 : Shape := ⟨3, ![256, 8, 1]⟩
abbrev S9x1x1x960 : Shape := ⟨4, ![9, 1, 1, 960]⟩
abbrev S256x14 : Shape := ⟨2, ![256, 14]⟩
abbrev S256x14x1 : Shape := ⟨3, ![256, 14, 1]⟩
abbrev S1x960x960 : Shape := ⟨3, ![1, 960, 960]⟩
abbrev S1x1x1x960 : Shape := ⟨4, ![1, 1, 1, 960]⟩
abbrev S256x22x960 : Shape := ⟨3, ![256, 22, 960]⟩

abbrev nBuf : Space → Nat
  | .hbm => 29
  | .vmem => 17
  | .smem => 0
  | _ => 0

abbrev bufTy : (tb : Table) → Fin (tcTables nBuf tb) → BufTy
  | .hbm, ⟨0, _⟩ => ⟨S256x14x960, .bf16⟩
  | .hbm, ⟨1, _⟩ => ⟨S14x960x256, .bf16⟩
  | .hbm, ⟨2, _⟩ => ⟨S10x96x960, .bf16⟩
  | .hbm, ⟨3, _⟩ => ⟨S960, .f32⟩
  | .hbm, ⟨4, _⟩ => ⟨S960, .f32⟩
  | .hbm, ⟨5, _⟩ => ⟨S960, .f32⟩
  | .hbm, ⟨6, _⟩ => ⟨S960x2x960, .bf16⟩
  | .hbm, ⟨7, _⟩ => ⟨S2x960, .f32⟩
  | .hbm, ⟨8, _⟩ => ⟨S256x8x960, .fp8e4m3⟩
  | .hbm, ⟨9, _⟩ => ⟨S256x8, .f32⟩
  | .hbm, ⟨10, _⟩ => ⟨S9x960, .f32⟩
  | .hbm, ⟨11, _⟩ => ⟨S960, .f32⟩
  | .hbm, ⟨12, _⟩ => ⟨S960, .f32⟩
  | .hbm, ⟨13, _⟩ => ⟨S960x960, .bf16⟩
  | .hbm, ⟨14, _⟩ => ⟨S960, .f32⟩
  | .hbm, ⟨15, _⟩ => ⟨S256x14x960, .bf16⟩
  | .hbm, ⟨16, _⟩ => ⟨S960x960, .bf16⟩
  | .hbm, ⟨17, _⟩ => ⟨S1x1x960, .f32⟩
  | .hbm, ⟨18, _⟩ => ⟨S1x1x960, .f32⟩
  | .hbm, ⟨19, _⟩ => ⟨S1x1x960, .f32⟩
  | .hbm, ⟨20, _⟩ => ⟨S2x960x960, .bf16⟩
  | .hbm, ⟨21, _⟩ => ⟨S2x1x1x960, .f32⟩
  | .hbm, ⟨22, _⟩ => ⟨S256x8x1, .f32⟩
  | .hbm, ⟨23, _⟩ => ⟨S9x1x1x960, .f32⟩
  | .hbm, ⟨24, _⟩ => ⟨S1x1x960, .f32⟩
  | .hbm, ⟨25, _⟩ => ⟨S1x1x960, .f32⟩
  | .hbm, ⟨26, _⟩ => ⟨S1x1x960, .f32⟩
  | .hbm, ⟨27, _⟩ => ⟨S14x960x256, .bf16⟩
  | .hbm, ⟨28, _⟩ => ⟨S14x960x256, .bf16⟩
  | .local _ .vmem, ⟨0, _⟩ => ⟨S256x14x960, .bf16⟩
  | .local _ .vmem, ⟨1, _⟩ => ⟨S256x14x960, .bf16⟩
  | .local _ .vmem, ⟨2, _⟩ => ⟨S960x960, .bf16⟩
  | .local _ .vmem, ⟨3, _⟩ => ⟨S1x1x960, .f32⟩
  | .local _ .vmem, ⟨4, _⟩ => ⟨S1x1x960, .f32⟩
  | .local _ .vmem, ⟨5, _⟩ => ⟨S1x1x960, .f32⟩
  | .local _ .vmem, ⟨6, _⟩ => ⟨S2x960x960, .bf16⟩
  | .local _ .vmem, ⟨7, _⟩ => ⟨S2x1x1x960, .f32⟩
  | .local _ .vmem, ⟨8, _⟩ => ⟨S256x8x960, .fp8e4m3⟩
  | .local _ .vmem, ⟨9, _⟩ => ⟨S256x8x1, .f32⟩
  | .local _ .vmem, ⟨10, _⟩ => ⟨S9x1x1x960, .f32⟩
  | .local _ .vmem, ⟨11, _⟩ => ⟨S1x1x960, .f32⟩
  | .local _ .vmem, ⟨12, _⟩ => ⟨S1x1x960, .f32⟩
  | .local _ .vmem, ⟨13, _⟩ => ⟨S960x960, .bf16⟩
  | .local _ .vmem, ⟨14, _⟩ => ⟨S1x1x960, .f32⟩
  | .local _ .vmem, ⟨15, _⟩ => ⟨S14x960x256, .bf16⟩
  | .local _ .vmem, ⟨16, _⟩ => ⟨S14x960x256, .bf16⟩
  | _, _ => ⟨S256x14x960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S256x14x960 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x14x960 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S960x960 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x960 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x960x960 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1x1x960 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x8x960 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x8x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S9x1x1x960 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1x960 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1x960 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S960x960 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1x960 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S14x960x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S14x960x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Qkv.lean ====
abbrev S256x14x960 : Shape := ⟨3, ![256, 14, 960]⟩
abbrev S960 : Shape := ⟨1, ![960]⟩
abbrev S960x3x10x96 : Shape := ⟨4, ![960, 3, 10, 96]⟩
abbrev S3x10x96 : Shape := ⟨3, ![3, 10, 96]⟩
abbrev S14x960x256 : Shape := ⟨3, ![14, 960, 256]⟩
abbrev S3x10x96x960 : Shape := ⟨4, ![3, 10, 96, 960]⟩
abbrev S2880x960 : Shape := ⟨2, ![2880, 960]⟩
abbrev S3x960 : Shape := ⟨2, ![3, 960]⟩
abbrev S1x960 : Shape := ⟨2, ![1, 960]⟩
abbrev S960x1 : Shape := ⟨2, ![960, 1]⟩
abbrev S960x5 : Shape := ⟨2, ![960, 5]⟩
abbrev S7x960x256 : Shape := ⟨3, ![7, 960, 256]⟩
abbrev S70x960x256 : Shape := ⟨3, ![70, 960, 256]⟩
abbrev S14x10x256 : Shape := ⟨3, ![14, 10, 256]⟩
abbrev S2x960x256 : Shape := ⟨3, ![2, 960, 256]⟩
abbrev S1x960x256 : Shape := ⟨3, ![1, 960, 256]⟩
abbrev S2x10x256 : Shape := ⟨3, ![2, 10, 256]⟩
abbrev S5x960x128 : Shape := ⟨3, ![5, 960, 128]⟩
abbrev S96x1 : Shape := ⟨2, ![96, 1]⟩
abbrev S96x128 : Shape := ⟨2, ![96, 128]⟩
abbrev S1x96x128 : Shape := ⟨3, ![1, 96, 128]⟩
abbrev S32x256 : Shape := ⟨2, ![32, 256]⟩
abbrev S1x32x256 : Shape := ⟨3, ![1, 32, 256]⟩
abbrev S256 : Shape := ⟨1, ![256]⟩
abbrev S1x256 : Shape := ⟨2, ![1, 256]⟩
abbrev S1x32x128 : Shape := ⟨3, ![1, 32, 128]⟩
abbrev S32x128 : Shape := ⟨2, ![32, 128]⟩
abbrev S960x960 : Shape := ⟨2, ![960, 960]⟩
abbrev S960x256 : Shape := ⟨2, ![960, 256]⟩
abbrev S96x256 : Shape := ⟨2, ![96, 256]⟩
abbrev S1x96x256 : Shape := ⟨3, ![1, 96, 256]⟩
abbrev S1x1x256 : Shape := ⟨3, ![1, 1, 256]⟩

abbrev nBuf : Space → Nat
  | .hbm => 30
  | .vmem => 22
  | .smem => 0
  | _ => 0

abbrev bufTy : (tb : Table) → Fin (tcTables nBuf tb) → BufTy
  | .hbm, ⟨0, _⟩ => ⟨S256x14x960, .bf16⟩
  | .hbm, ⟨1, _⟩ => ⟨S960, .f32⟩
  | .hbm, ⟨2, _⟩ => ⟨S960, .f32⟩
  | .hbm, ⟨3, _⟩ => ⟨S960x3x10x96, .bf16⟩
  | .hbm, ⟨4, _⟩ => ⟨S3x10x96, .f32⟩
  | .hbm, ⟨5, _⟩ => ⟨S14x960x256, .bf16⟩
  | .hbm, ⟨6, _⟩ => ⟨S3x10x96x960, .bf16⟩
  | .hbm, ⟨7, _⟩ => ⟨S2880x960, .bf16⟩
  | .hbm, ⟨8, _⟩ => ⟨S3x960, .f32⟩
  | .hbm, ⟨9, _⟩ => ⟨S1x960, .f32⟩
  | .hbm, ⟨10, _⟩ => ⟨S960, .f32⟩
  | .hbm, ⟨11, _⟩ => ⟨S1x960, .f32⟩
  | .hbm, ⟨12, _⟩ => ⟨S960, .f32⟩
  | .hbm, ⟨13, _⟩ => ⟨S1x960, .f32⟩
  | .hbm, ⟨14, _⟩ => ⟨S960, .f32⟩
  | .hbm, ⟨15, _⟩ => ⟨S960x1, .f32⟩
  | .hbm, ⟨16, _⟩ => ⟨S960x1, .f32⟩
  | .hbm, ⟨17, _⟩ => ⟨S960x1, .f32⟩
  | .hbm, ⟨18, _⟩ => ⟨S960x1, .f32⟩
  | .hbm, ⟨19, _⟩ => ⟨S960x1, .f32⟩
  | .hbm, ⟨20, _⟩ => ⟨S960x5, .f32⟩
  | .hbm, ⟨21, _⟩ => ⟨S7x960x256, .i32⟩
  | .hbm, ⟨22, _⟩ => ⟨S7x960x256, .i32⟩
  | .hbm, ⟨23, _⟩ => ⟨S7x960x256, .i32⟩
  | .hbm, ⟨24, _⟩ => ⟨S70x960x256, .i8⟩
  | .hbm, ⟨25, _⟩ => ⟨S70x960x256, .i8⟩
  | .hbm, ⟨26, _⟩ => ⟨S14x10x256, .f32⟩
  | .hbm, ⟨27, _⟩ => ⟨S14x10x256, .f32⟩
  | .hbm, ⟨28, _⟩ => ⟨S14x960x256, .i8⟩
  | .hbm, ⟨29, _⟩ => ⟨S14x960x256, .i8⟩
  | .local _ .vmem, ⟨0, _⟩ => ⟨S2x960x256, .bf16⟩
  | .local _ .vmem, ⟨1, _⟩ => ⟨S2x960x256, .bf16⟩
  | .local _ .vmem, ⟨2, _⟩ => ⟨S2x960x256, .bf16⟩
  | .local _ .vmem, ⟨3, _⟩ => ⟨S2880x960, .bf16⟩
  | .local _ .vmem, ⟨4, _⟩ => ⟨S960x5, .f32⟩
  | .local _ .vmem, ⟨5, _⟩ => ⟨S1x960x256, .i32⟩
  | .local _ .vmem, ⟨6, _⟩ => ⟨S1x960x256, .i32⟩
  | .local _ .vmem, ⟨7, _⟩ => ⟨S1x960x256, .i32⟩
  | .local _ .vmem, ⟨8, _⟩ => ⟨S1x960x256, .i32⟩
  | .local _ .vmem, ⟨9, _⟩ => ⟨S1x960x256, .i32⟩
  | .local _ .vmem, ⟨10, _⟩ => ⟨S1x960x256, .i32⟩
  | .local _ .vmem, ⟨11, _⟩ => ⟨S2x960x256, .i8⟩
  | .local _ .vmem, ⟨12, _⟩ => ⟨S2x960x256, .i8⟩
  | .local _ .vmem, ⟨13, _⟩ => ⟨S2x960x256, .i8⟩
  | .local _ .vmem, ⟨14, _⟩ => ⟨S2x960x256, .i8⟩
  | .local _ .vmem, ⟨15, _⟩ => ⟨S2x10x256, .f32⟩
  | .local _ .vmem, ⟨16, _⟩ => ⟨S2x10x256, .f32⟩
  | .local _ .vmem, ⟨17, _⟩ => ⟨S2x10x256, .f32⟩
  | .local _ .vmem, ⟨18, _⟩ => ⟨S2x10x256, .f32⟩
  | .local _ .vmem, ⟨19, _⟩ => ⟨S5x960x128, .f32⟩
  | .local _ .vmem, ⟨20, _⟩ => ⟨S2x960x256, .bf16⟩
  | .local _ .vmem, ⟨21, _⟩ => ⟨S2x960x256, .bf16⟩
  | _, _ => ⟨S256x14x960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev main_v16_4 : Ref sig .tc := ⟨.hbm, 25, rfl⟩
abbrev main_v16_5 : Ref sig .tc := ⟨.hbm, 26, rfl⟩
abbrev main_v16_6 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [BitOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c6_i32 : BitVec 32 := 6#32
  let v1 : BitVec 32 := Scalar.minsi v0 c6_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2x960x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x960x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2880x960 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S960x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x960x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x960x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x960x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x960x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x960x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x10x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x10x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QkvIdeal.lean ====
abbrev S256x14x960 : Shape := ⟨3, ![256, 14, 960]⟩
abbrev S960 : Shape := ⟨1, ![960]⟩
abbrev S960x3x10x96 : Shape := ⟨4, ![960, 3, 10, 96]⟩
abbrev S3x10x96 : Shape := ⟨3, ![3, 10, 96]⟩
abbrev S14x960x256 : Shape := ⟨3, ![14, 960, 256]⟩
abbrev S3x10x96x960 : Shape := ⟨4, ![3, 10, 96, 960]⟩
abbrev S2880x960 : Shape := ⟨2, ![2880, 960]⟩
abbrev S3x960 : Shape := ⟨2, ![3, 960]⟩
abbrev S1x960 : Shape := ⟨2, ![1, 960]⟩
abbrev S960x1 : Shape := ⟨2, ![960, 1]⟩
abbrev S960x5 : Shape := ⟨2, ![960, 5]⟩
abbrev S7x960x2x256 : Shape := ⟨4, ![7, 960, 2, 256]⟩
abbrev S70x960x256 : Shape := ⟨3, ![70, 960, 256]⟩
abbrev S14x10x256 : Shape := ⟨3, ![14, 10, 256]⟩
abbrev S7x960x1x256 : Shape := ⟨4, ![7, 960, 1, 256]⟩
abbrev S7x960x256 : Shape := ⟨3, ![7, 960, 256]⟩
abbrev S2x960x256 : Shape := ⟨3, ![2, 960, 256]⟩
abbrev S1x960x256 : Shape := ⟨3, ![1, 960, 256]⟩
abbrev S1x960x2x256 : Shape := ⟨4, ![1, 960, 2, 256]⟩
abbrev S1x960x1x256 : Shape := ⟨4, ![1, 960, 1, 256]⟩
abbrev S2x10x256 : Shape := ⟨3, ![2, 10, 256]⟩
abbrev S5x960x128 : Shape := ⟨3, ![5, 960, 128]⟩
abbrev S96x1 : Shape := ⟨2, ![96, 1]⟩
abbrev S96x128 : Shape := ⟨2, ![96, 128]⟩
abbrev S1x96x128 : Shape := ⟨3, ![1, 96, 128]⟩
abbrev S32x256 : Shape := ⟨2, ![32, 256]⟩
abbrev S1x32x256 : Shape := ⟨3, ![1, 32, 256]⟩
abbrev S256 : Shape := ⟨1, ![256]⟩
abbrev S1x256 : Shape := ⟨2, ![1, 256]⟩
abbrev S1x32x128 : Shape := ⟨3, ![1, 32, 128]⟩
abbrev S32x128 : Shape := ⟨2, ![32, 128]⟩
abbrev S960x960 : Shape := ⟨2, ![960, 960]⟩
abbrev S960x256 : Shape := ⟨2, ![960, 256]⟩
abbrev S96x256 : Shape := ⟨2, ![96, 256]⟩
abbrev S1x96x256 : Shape := ⟨3, ![1, 96, 256]⟩
abbrev S1x96x2x256 : Shape := ⟨4, ![1, 96, 2, 256]⟩
abbrev S1x96x1x256 : Shape := ⟨4, ![1, 96, 1, 256]⟩
abbrev S1x1x256 : Shape := ⟨3, ![1, 1, 256]⟩

abbrev nBuf : Space → Nat
  | .hbm => 30
  | .vmem => 22
  | .smem => 0
  | _ => 0

abbrev bufTy : (tb : Table) → Fin (tcTables nBuf tb) → BufTy
  | .hbm, ⟨0, _⟩ => ⟨S256x14x960, .bf16⟩
  | .hbm, ⟨1, _⟩ => ⟨S960, .f32⟩
  | .hbm, ⟨2, _⟩ => ⟨S960, .f32⟩
  | .hbm, ⟨3, _⟩ => ⟨S960x3x10x96, .bf16⟩
  | .hbm, ⟨4, _⟩ => ⟨S3x10x96, .f32⟩
  | .hbm, ⟨5, _⟩ => ⟨S14x960x256, .bf16⟩
  | .hbm, ⟨6, _⟩ => ⟨S3x10x96x960, .bf16⟩
  | .hbm, ⟨7, _⟩ => ⟨S2880x960, .bf16⟩
  | .hbm, ⟨8, _⟩ => ⟨S3x960, .f32⟩
  | .hbm, ⟨9, _⟩ => ⟨S1x960, .f32⟩
  | .hbm, ⟨10, _⟩ => ⟨S960, .f32⟩
  | .hbm, ⟨11, _⟩ => ⟨S1x960, .f32⟩
  | .hbm, ⟨12, _⟩ => ⟨S960, .f32⟩
  | .hbm, ⟨13, _⟩ => ⟨S1x960, .f32⟩
  | .hbm, ⟨14, _⟩ => ⟨S960, .f32⟩
  | .hbm, ⟨15, _⟩ => ⟨S960x1, .f32⟩
  | .hbm, ⟨16, _⟩ => ⟨S960x1, .f32⟩
  | .hbm, ⟨17, _⟩ => ⟨S960x1, .f32⟩
  | .hbm, ⟨18, _⟩ => ⟨S960x1, .f32⟩
  | .hbm, ⟨19, _⟩ => ⟨S960x1, .f32⟩
  | .hbm, ⟨20, _⟩ => ⟨S960x5, .f32⟩
  | .hbm, ⟨21, _⟩ => ⟨S7x960x2x256, .bf16⟩
  | .hbm, ⟨22, _⟩ => ⟨S7x960x2x256, .bf16⟩
  | .hbm, ⟨23, _⟩ => ⟨S7x960x2x256, .bf16⟩
  | .hbm, ⟨24, _⟩ => ⟨S70x960x256, .i8⟩
  | .hbm, ⟨25, _⟩ => ⟨S70x960x256, .i8⟩
  | .hbm, ⟨26, _⟩ => ⟨S14x10x256, .f32⟩
  | .hbm, ⟨27, _⟩ => ⟨S14x10x256, .f32⟩
  | .hbm, ⟨28, _⟩ => ⟨S14x960x256, .i8⟩
  | .hbm, ⟨29, _⟩ => ⟨S14x960x256, .i8⟩
  | .local _ .vmem, ⟨0, _⟩ => ⟨S2x960x256, .bf16⟩
  | .local _ .vmem, ⟨1, _⟩ => ⟨S2x960x256, .bf16⟩
  | .local _ .vmem, ⟨2, _⟩ => ⟨S2x960x256, .bf16⟩
  | .local _ .vmem, ⟨3, _⟩ => ⟨S2880x960, .bf16⟩
  | .local _ .vmem, ⟨4, _⟩ => ⟨S960x5, .f32⟩
  | .local _ .vmem, ⟨5, _⟩ => ⟨S1x960x2x256, .bf16⟩
  | .local _ .vmem, ⟨6, _⟩ => ⟨S1x960x2x256, .bf16⟩
  | .local _ .vmem, ⟨7, _⟩ => ⟨S1x960x2x256, .bf16⟩
  | .local _ .vmem, ⟨8, _⟩ => ⟨S1x960x2x256, .bf16⟩
  | .local _ .vmem, ⟨9, _⟩ => ⟨S1x960x2x256, .bf16⟩
  | .local _ .vmem, ⟨10, _⟩ => ⟨S1x960x2x256, .bf16⟩
  | .local _ .vmem, ⟨11, _⟩ => ⟨S2x960x256, .i8⟩
  | .local _ .vmem, ⟨12, _⟩ => ⟨S2x960x256, .i8⟩
  | .local _ .vmem, ⟨13, _⟩ => ⟨S2x960x256, .i8⟩
  | .local _ .vmem, ⟨14, _⟩ => ⟨S2x960x256, .i8⟩
  | .local _ .vmem, ⟨15, _⟩ => ⟨S2x10x256, .f32⟩
  | .local _ .vmem, ⟨16, _⟩ => ⟨S2x10x256, .f32⟩
  | .local _ .vmem, ⟨17, _⟩ => ⟨S2x10x256, .f32⟩
  | .local _ .vmem, ⟨18, _⟩ => ⟨S2x10x256, .f32⟩
  | .local _ .vmem, ⟨19, _⟩ => ⟨S5x960x128, .f32⟩
  | .local _ .vmem, ⟨20, _⟩ => ⟨S2x960x256, .bf16⟩
  | .local _ .vmem, ⟨21, _⟩ => ⟨S2x960x256, .bf16⟩
  | _, _ => ⟨S256x14x960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev main_v16_4 : Ref sig .tc := ⟨.hbm, 25, rfl⟩
abbrev main_v16_5 : Ref sig .tc := ⟨.hbm, 26, rfl⟩
abbrev main_v16_6 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F] [Named F]

def κ : String → Option EReal := fun
  | "inv_d" => some ((960⁻¹ : ℝ) : EReal)
  | _ => none

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c6_i32 : BitVec 32 := 6#32
  let v1 : BitVec 32 := Scalar.minsi v0 c6_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, 0, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, 0, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, 0, c0_i32_0.toNat]

def cc0_transform_7 (i : grid0.Coords) : Fin 3 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2x960x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x960x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2880x960 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S960x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x960x2x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x960x2x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x960x2x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x960x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x960x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x10x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x10x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QkvReferenceIdeal.lean ====
abbrev S256x14x960 : Shape := ⟨3, ![256, 14, 960]⟩
abbrev S960 : Shape := ⟨1, ![960]⟩
abbrev S960x3x10x96 : Shape := ⟨4, ![960, 3, 10, 96]⟩
abbrev S3x10x96 : Shape := ⟨3, ![3, 10, 96]⟩
abbrev S1x1x960 : Shape := ⟨3, ![1, 1, 960]⟩
abbrev S3x960x10x96 : Shape := ⟨4, ![3, 960, 10, 96]⟩
abbrev S3x960x960 : Shape := ⟨3, ![3, 960, 960]⟩
abbrev S3x1x1x960 : Shape := ⟨4, ![3, 1, 1, 960]⟩
abbrev S14x960x256 : Shape := ⟨3, ![14, 960, 256]⟩
abbrev S14x10x256 : Shape := ⟨3, ![14, 10, 256]⟩
abbrev S256x14 : Shape := ⟨2, ![256, 14]⟩
abbrev S256x14x1 : Shape := ⟨3, ![256, 14, 1]⟩
abbrev S1x960x960 : Shape := ⟨3, ![1, 960, 960]⟩
abbrev S960x960 : Shape := ⟨2, ![960, 960]⟩
abbrev S1x1x1x960 : Shape := ⟨4, ![1, 1, 1, 960]⟩
abbrev S256x14x10x96 : Shape := ⟨4, ![256, 14, 10, 96]⟩
abbrev S256x14x10 : Shape := ⟨3, ![256, 14, 10]⟩
abbrev S256x14x10x1 : Shape := ⟨4, ![256, 14, 10, 1]⟩
abbrev S14x10x96x256 : Shape := ⟨4, ![14, 10, 96, 256]⟩

abbrev nBuf : Space → Nat
  | .hbm => 14
  | .vmem => 9
  | .smem => 0
  | _ => 0

abbrev bufTy : (tb : Table) → Fin (tcTables nBuf tb) → BufTy
  | .hbm, ⟨0, _⟩ => ⟨S256x14x960, .bf16⟩
  | .hbm, ⟨1, _⟩ => ⟨S960, .f32⟩
  | .hbm, ⟨2, _⟩ => ⟨S960, .f32⟩
  | .hbm, ⟨3, _⟩ => ⟨S960x3x10x96, .bf16⟩
  | .hbm, ⟨4, _⟩ => ⟨S3x10x96, .f32⟩
  | .hbm, ⟨5, _⟩ => ⟨S1x1x960, .f32⟩
  | .hbm, ⟨6, _⟩ => ⟨S1x1x960, .f32⟩
  | .hbm, ⟨7, _⟩ => ⟨S3x960x10x96, .bf16⟩
  | .hbm, ⟨8, _⟩ => ⟨S3x960x960, .bf16⟩
  | .hbm, ⟨9, _⟩ => ⟨S3x1x1x960, .f32⟩
  | .hbm, ⟨10, _⟩ => ⟨S14x960x256, .i8⟩
  | .hbm, ⟨11, _⟩ => ⟨S14x10x256, .f32⟩
  | .hbm, ⟨12, _⟩ => ⟨S14x960x256, .i8⟩
  | .hbm, ⟨13, _⟩ => ⟨S14x10x256, .f32⟩
  | .local _ .vmem, ⟨0, _⟩ => ⟨S256x14x960, .bf16⟩
  | .local _ .vmem, ⟨1, _⟩ => ⟨S1x1x960, .f32⟩
  | .local _ .vmem, ⟨2, _⟩ => ⟨S1x1x960, .f32⟩
  | .local _ .vmem, ⟨3, _⟩ => ⟨S3x960x960, .bf16⟩
  | .local _ .vmem, ⟨4, _⟩ => ⟨S3x1x1x960, .f32⟩
  | .local _ .vmem, ⟨5, _⟩ => ⟨S14x960x256, .i8⟩
  | .local _ .vmem, ⟨6, _⟩ => ⟨S14x10x256, .f32⟩
  | .local _ .vmem, ⟨7, _⟩ => ⟨S14x960x256, .i8⟩
  | .local _ .vmem, ⟨8, _⟩ => ⟨S14x10x256, .f32⟩
  | _, _ => ⟨S256x14x960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x14x960 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x960 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x960 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x960x960 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1x1x960 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14x960x256 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14x10x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14x960x256 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S14x10x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelFrame.Runs.lean ====
/- What the whole-body runs of the kernel share: the branch conditions in closed form, the memrefs of a grid point, the scratch buffers. -/
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Where the body stores a token's scale in the block of carried scales: the row is `s - 6` as a 32-bit word. -/
theorem k0_off121_eq : ∀ i : grid0.Coords, k0_off121 i = ![(((i 0).val + 4294967290) % 4294967296), 0] := by decide +kernel
instance closedOff_k0_off121 (i : grid0.Coords) : ClosedOff (k0_off121 i) := ⟨![(((i 0).val + 4294967290) % 4294967296), 0], k0_off121_eq i⟩

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the points from point 6 on — decided over the grid. -/
theorem hcond0_1 : ∀ t : Fin cfg0.N, cond0_1 (grid0.coords t) ↔ 6 ≤ t.val :=
  (by decide +kernel : ∀ t : Fin grid0.N, cond0_1 (grid0.coords t) ↔ 6 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x960x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x960x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S960x960 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x960x960 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S960x960 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S960x17 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x960x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x960x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x960x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x960x256 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x256 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S17x960x128 .f32 := Memref.whole cc0_scratch0
abbrev scM0_1 : Memref sig .tc .vmem S22x960x256 .f32 := Memref.whole cc0_scratch1
abbrev scM0_2 : Memref sig .tc .vmem S960x256 .f32 := Memref.whole cc0_scratch2
abbrev scM0_3 : Memref sig .tc .vmem S960x256 .bf16 := Memref.whole cc0_scratch3
/-- The scratch `arg13` the kernel carries between points, as a view: what it holds is stated through it. -/
abbrev VS0_0 : View sig .tc .vmem S17x960x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.KernelFrame.RunA.lean ====
/- The body run at the first grid point (parameters broadcast, history loaded, no quantisation). -/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16896000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10, 11) at anything, handed back at some contents nothing names. -/
noncomputable def kernelRun0_A (c : Dev nD) (i : grid0.Coords) (arg1 : Memref sig .tc .vmem S1x960x256 .bf16) (harg1 : arg1.IsWhole) (arg2 : Memref sig .tc .vmem S1x960x256 .bf16) (harg2 : arg2.IsWhole) (arg3 : Memref sig .tc .vmem S960x960 .bf16) (harg3 : arg3.IsWhole) (arg4 : Memref sig .tc .vmem S2x960x960 .bf16) (harg4 : arg4.IsWhole) (arg5 : Memref sig .tc .vmem S960x960 .bf16) (harg5 : arg5.IsWhole) (arg6 : Memref sig .tc .vmem S960x17 .f32) (harg6 : arg6.IsWhole) (arg7 : Memref sig .tc .vmem S8x960x256 .fp8e4m3) (harg7 : arg7.IsWhole) (arg8 : Memref sig .tc .vmem S8x256 .f32) (harg8 : arg8.IsWhole) (arg9 : Memref sig .tc .vmem S1x960x256 .bf16) (harg9 : arg9.IsWhole) (arg10 : Memref sig .tc .vmem S1x960x256 .bf16) (harg10 : arg10.IsWhole) (arg11 : Memref sig .tc .vmem S1x960x256 .fp8e4m3) (harg11 : arg11.IsWhole) (arg12 : Memref sig .tc .vmem S8x256 .f32) (harg12 : arg12.IsWhole) (arg13 : Memref sig .tc .vmem S17x960x128 .f32) (harg13 : arg13.IsWhole) (arg14 : Memref sig .tc .vmem S22x960x256 .f32) (harg14 : arg14.IsWhole) (arg15 : Memref sig .tc .vmem S960x256 .f32) (harg15 : arg15.IsWhole) (arg16 : Memref sig .tc .vmem S960x256 .bf16) (harg16 : arg16.IsWhole) (hc0 : cond0_0 i) (hc1 : ¬cond0_1 i)
    (x0 : Vec F S1x960x256 .bf16) (x1 : Vec F S1x960x256 .bf16) (x2 : Vec F S960x960 .bf16) (x3 : Vec F S2x960x960 .bf16) (x4 : Vec F S960x960 .bf16) (x5 : Vec F S960x17 .f32) (x6 : Vec F S8x960x256 .fp8e4m3) (x7 : Vec F S8x256 .f32) :
    { LS0 : List (View.Piece (Elt F) S17x960x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS0) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_conv_module i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_conv_module_eq_skeleton]; unfold cc0_conv_module_skel
    simp only [k0_part260_eq_skeleton, k0_part132_eq_skeleton, k0_part113_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part114_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part261_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Hand

end
-- ==== Proof.KernelFrame.RunB.lean ====
/- The body run at grid points 1 to 5 (no initialisation, no quantisation). -/
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8464000 in
/-- What the body's stores leave in each output's staging memref, as pieces (last first) IN CASE B (`scf.if` 0 not taken, `scf.if` 1 not taken: points 1, 2, 3, 4, 5), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10, 11) at anything, handed back at some contents nothing names. -/
noncomputable def kernelRun0_B (c : Dev nD) (i : grid0.Coords) (arg1 : Memref sig .tc .vmem S1x960x256 .bf16) (harg1 : arg1.IsWhole) (arg2 : Memref sig .tc .vmem S1x960x256 .bf16) (harg2 : arg2.IsWhole) (arg3 : Memref sig .tc .vmem S960x960 .bf16) (harg3 : arg3.IsWhole) (arg4 : Memref sig .tc .vmem S2x960x960 .bf16) (harg4 : arg4.IsWhole) (arg5 : Memref sig .tc .vmem S960x960 .bf16) (harg5 : arg5.IsWhole) (arg6 : Memref sig .tc .vmem S960x17 .f32) (harg6 : arg6.IsWhole) (arg7 : Memref sig .tc .vmem S8x960x256 .fp8e4m3) (harg7 : arg7.IsWhole) (arg8 : Memref sig .tc .vmem S8x256 .f32) (harg8 : arg8.IsWhole) (arg9 : Memref sig .tc .vmem S1x960x256 .bf16) (harg9 : arg9.IsWhole) (arg10 : Memref sig .tc .vmem S1x960x256 .bf16) (harg10 : arg10.IsWhole) (arg11 : Memref sig .tc .vmem S1x960x256 .fp8e4m3) (harg11 : arg11.IsWhole) (arg12 : Memref sig .tc .vmem S8x256 .f32) (harg12 : arg12.IsWhole) (arg13 : Memref sig .tc .vmem S17x960x128 .f32) (harg13 : arg13.IsWhole) (arg14 : Memref sig .tc .vmem S22x960x256 .f32) (harg14 : arg14.IsWhole) (arg15 : Memref sig .tc .vmem S960x256 .f32) (harg15 : arg15.IsWhole) (arg16 : Memref sig .tc .vmem S960x256 .bf16) (harg16 : arg16.IsWhole) (hc0 : ¬cond0_0 i) (hc1 : ¬cond0_1 i)
    (x0 : Vec F S1x960x256 .bf16) (x1 : Vec F S1x960x256 .bf16) (x2 : Vec F S960x960 .bf16) (x3 : Vec F S2x960x960 .bf16) (x4 : Vec F S960x960 .bf16) (x5 : Vec F S960x17 .f32) (x6 : Vec F S8x960x256 .fp8e4m3) (x7 : Vec F S8x256 .f32) (xs0 : Vec F S17x960x128 .f32) :
    { LS0 : List (View.Piece (Elt F) S17x960x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_conv_module i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], fun E K => ?run⟩
  case run =>
    simp only [cc0_conv_module_eq_skeleton]; unfold cc0_conv_module_skel
    simp only [k0_part260_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part261_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _; isplitr; · ipureintro; exact harg13.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Hand

end
-- ==== Proof.KernelFrame.RunC.lean ====
/- The body run at grid points 6 to 13 (no initialisation, quantisation of the new rows). -/
module

public import proofs.«01_k».proof.Proof.KernelFrame.RunB

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 9728000 in
/-- What the body's stores leave in each output's staging memref, as pieces (last first) IN CASE C (`scf.if` 0 not taken, `scf.if` 1 taken: points 6, 7, … 13: 8 of 14), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10, 11) at anything, handed back at some contents nothing names. -/
noncomputable def kernelRun0_C (c : Dev nD) (i : grid0.Coords) (arg1 : Memref sig .tc .vmem S1x960x256 .bf16) (harg1 : arg1.IsWhole) (arg2 : Memref sig .tc .vmem S1x960x256 .bf16) (harg2 : arg2.IsWhole) (arg3 : Memref sig .tc .vmem S960x960 .bf16) (harg3 : arg3.IsWhole) (arg4 : Memref sig .tc .vmem S2x960x960 .bf16) (harg4 : arg4.IsWhole) (arg5 : Memref sig .tc .vmem S960x960 .bf16) (harg5 : arg5.IsWhole) (arg6 : Memref sig .tc .vmem S960x17 .f32) (harg6 : arg6.IsWhole) (arg7 : Memref sig .tc .vmem S8x960x256 .fp8e4m3) (harg7 : arg7.IsWhole) (arg8 : Memref sig .tc .vmem S8x256 .f32) (harg8 : arg8.IsWhole) (arg9 : Memref sig .tc .vmem S1x960x256 .bf16) (harg9 : arg9.IsWhole) (arg10 : Memref sig .tc .vmem S1x960x256 .bf16) (harg10 : arg10.IsWhole) (arg11 : Memref sig .tc .vmem S1x960x256 .fp8e4m3) (harg11 : arg11.IsWhole) (arg12 : Memref sig .tc .vmem S8x256 .f32) (harg12 : arg12.IsWhole) (arg13 : Memref sig .tc .vmem S17x960x128 .f32) (harg13 : arg13.IsWhole) (arg14 : Memref sig .tc .vmem S22x960x256 .f32) (harg14 : arg14.IsWhole) (arg15 : Memref sig .tc .vmem S960x256 .f32) (harg15 : arg15.IsWhole) (arg16 : Memref sig .tc .vmem S960x256 .bf16) (harg16 : arg16.IsWhole) (hc0 : ¬cond0_0 i) (hc1 : cond0_1 i)
    (x0 : Vec F S1x960x256 .bf16) (x1 : Vec F S1x960x256 .bf16) (x2 : Vec F S960x960 .bf16) (x3 : Vec F S2x960x960 .bf16) (x4 : Vec F S960x960 .bf16) (x5 : Vec F S960x17 .f32) (x6 : Vec F S8x960x256 .fp8e4m3) (x7 : Vec F S8x256 .f32) (xs0 : Vec F S17x960x128 .f32) :
    { LS0 : List (View.Piece (Elt F) S17x960x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_conv_module i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], fun E K => ?run⟩
  case run =>
    simp only [cc0_conv_module_eq_skeleton]; unfold cc0_conv_module_skel
    simp only [k0_part260_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part261_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part131_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _; isplitr; · ipureintro; exact harg13.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Hand

end
-- ==== Proof.KernelFrame.Frame.lean ====
/- The frame claim of the kernel as printed: the body obligation at every grid point and the run of the program. -/
module

public import proofs.«01_k».proof.Proof.KernelFrame.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg13`, which the kernel carries between points, cover it: 170 pieces of `S1x96x128` tiling it (Lib/Ring.lean `Piece.tiledL`). -/
theorem scover0_A_0 (c : Dev nD) (i : grid0.Coords) (arg1 : Memref sig .tc .vmem S1x960x256 .bf16) (harg1 : arg1.IsWhole) (arg2 : Memref sig .tc .vmem S1x960x256 .bf16) (harg2 : arg2.IsWhole) (arg3 : Memref sig .tc .vmem S960x960 .bf16) (harg3 : arg3.IsWhole) (arg4 : Memref sig .tc .vmem S2x960x960 .bf16) (harg4 : arg4.IsWhole) (arg5 : Memref sig .tc .vmem S960x960 .bf16) (harg5 : arg5.IsWhole) (arg6 : Memref sig .tc .vmem S960x17 .f32) (harg6 : arg6.IsWhole) (arg7 : Memref sig .tc .vmem S8x960x256 .fp8e4m3) (harg7 : arg7.IsWhole) (arg8 : Memref sig .tc .vmem S8x256 .f32) (harg8 : arg8.IsWhole) (arg9 : Memref sig .tc .vmem S1x960x256 .bf16) (harg9 : arg9.IsWhole) (arg10 : Memref sig .tc .vmem S1x960x256 .bf16) (harg10 : arg10.IsWhole) (arg11 : Memref sig .tc .vmem S1x960x256 .fp8e4m3) (harg11 : arg11.IsWhole) (arg12 : Memref sig .tc .vmem S8x256 .f32) (harg12 : arg12.IsWhole) (arg13 : Memref sig .tc .vmem S17x960x128 .f32) (harg13 : arg13.IsWhole) (arg14 : Memref sig .tc .vmem S22x960x256 .f32) (harg14 : arg14.IsWhole) (arg15 : Memref sig .tc .vmem S960x256 .f32) (harg15 : arg15.IsWhole) (arg16 : Memref sig .tc .vmem S960x256 .bf16) (harg16 : arg16.IsWhole) (hc0 : cond0_0 i) (hc1 : ¬cond0_1 i)
    (x0 : Vec F S1x960x256 .bf16) (x1 : Vec F S1x960x256 .bf16) (x2 : Vec F S960x960 .bf16) (x3 : Vec F S2x960x960 .bf16) (x4 : Vec F S960x960 .bf16) (x5 : Vec F S960x17 .f32) (x6 : Vec F S8x960x256 .fp8e4m3) (x7 : Vec F S8x256 .f32) (y : S17x960x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).1 S1x96x128.size (by sl_kernel_rfl) y

/-- What case A leaves in scratch `arg13`: its pieces read back over junk. -/
def sout0_A_0 (c : Dev nD) (i : grid0.Coords) (arg1 : Memref sig .tc .vmem S1x960x256 .bf16) (harg1 : arg1.IsWhole) (arg2 : Memref sig .tc .vmem S1x960x256 .bf16) (harg2 : arg2.IsWhole) (arg3 : Memref sig .tc .vmem S960x960 .bf16) (harg3 : arg3.IsWhole) (arg4 : Memref sig .tc .vmem S2x960x960 .bf16) (harg4 : arg4.IsWhole) (arg5 : Memref sig .tc .vmem S960x960 .bf16) (harg5 : arg5.IsWhole) (arg6 : Memref sig .tc .vmem S960x17 .f32) (harg6 : arg6.IsWhole) (arg7 : Memref sig .tc .vmem S8x960x256 .fp8e4m3) (harg7 : arg7.IsWhole) (arg8 : Memref sig .tc .vmem S8x256 .f32) (harg8 : arg8.IsWhole) (arg9 : Memref sig .tc .vmem S1x960x256 .bf16) (harg9 : arg9.IsWhole) (arg10 : Memref sig .tc .vmem S1x960x256 .bf16) (harg10 : arg10.IsWhole) (arg11 : Memref sig .tc .vmem S1x960x256 .fp8e4m3) (harg11 : arg11.IsWhole) (arg12 : Memref sig .tc .vmem S8x256 .f32) (harg12 : arg12.IsWhole) (arg13 : Memref sig .tc .vmem S17x960x128 .f32) (harg13 : arg13.IsWhole) (arg14 : Memref sig .tc .vmem S22x960x256 .f32) (harg14 : arg14.IsWhole) (arg15 : Memref sig .tc .vmem S960x256 .f32) (harg15 : arg15.IsWhole) (arg16 : Memref sig .tc .vmem S960x256 .bf16) (harg16 : arg16.IsWhole) (hc0 : cond0_0 i) (hc1 : ¬cond0_1 i)
    (x0 : Vec F S1x960x256 .bf16) (x1 : Vec F S1x960x256 .bf16) (x2 : Vec F S960x960 .bf16) (x3 : Vec F S2x960x960 .bf16) (x4 : Vec F S960x960 .bf16) (x5 : Vec F S960x17 .f32) (x6 : Vec F S8x960x256 .fp8e4m3) (x7 : Vec F S8x256 .f32) : Vec F S17x960x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).1)

/-- Case B stores nothing into scratch `arg13`: it holds what the point before left. -/
def sout0_B_0 (c : Dev nD) (i : grid0.Coords) (arg1 : Memref sig .tc .vmem S1x960x256 .bf16) (harg1 : arg1.IsWhole) (arg2 : Memref sig .tc .vmem S1x960x256 .bf16) (harg2 : arg2.IsWhole) (arg3 : Memref sig .tc .vmem S960x960 .bf16) (harg3 : arg3.IsWhole) (arg4 : Memref sig .tc .vmem S2x960x960 .bf16) (harg4 : arg4.IsWhole) (arg5 : Memref sig .tc .vmem S960x960 .bf16) (harg5 : arg5.IsWhole) (arg6 : Memref sig .tc .vmem S960x17 .f32) (harg6 : arg6.IsWhole) (arg7 : Memref sig .tc .vmem S8x960x256 .fp8e4m3) (harg7 : arg7.IsWhole) (arg8 : Memref sig .tc .vmem S8x256 .f32) (harg8 : arg8.IsWhole) (arg9 : Memref sig .tc .vmem S1x960x256 .bf16) (harg9 : arg9.IsWhole) (arg10 : Memref sig .tc .vmem S1x960x256 .bf16) (harg10 : arg10.IsWhole) (arg11 : Memref sig .tc .vmem S1x960x256 .fp8e4m3) (harg11 : arg11.IsWhole) (arg12 : Memref sig .tc .vmem S8x256 .f32) (harg12 : arg12.IsWhole) (arg13 : Memref sig .tc .vmem S17x960x128 .f32) (harg13 : arg13.IsWhole) (arg14 : Memref sig .tc .vmem S22x960x256 .f32) (harg14 : arg14.IsWhole) (arg15 : Memref sig .tc .vmem S960x256 .f32) (harg15 : arg15.IsWhole) (arg16 : Memref sig .tc .vmem S960x256 .bf16) (harg16 : arg16.IsWhole) (hc0 : ¬cond0_0 i) (hc1 : ¬cond0_1 i)
    (x0 : Vec F S1x960x256 .bf16) (x1 : Vec F S1x960x256 .bf16) (x2 : Vec F S960x960 .bf16) (x3 : Vec F S2x960x960 .bf16) (x4 : Vec F S960x960 .bf16) (x5 : Vec F S960x17 .f32) (x6 : Vec F S8x960x256 .fp8e4m3) (x7 : Vec F S8x256 .f32) (xs0 : Vec F S17x960x128 .f32) : Vec F S17x960x128 .f32 := xs0

/-- Case C stores nothing into scratch `arg13`: it holds what the point before left. -/
def sout0_C_0 (c : Dev nD) (i : grid0.Coords) (arg1 : Memref sig .tc .vmem S1x960x256 .bf16) (harg1 : arg1.IsWhole) (arg2 : Memref sig .tc .vmem S1x960x256 .bf16) (harg2 : arg2.IsWhole) (arg3 : Memref sig .tc .vmem S960x960 .bf16) (harg3 : arg3.IsWhole) (arg4 : Memref sig .tc .vmem S2x960x960 .bf16) (harg4 : arg4.IsWhole) (arg5 : Memref sig .tc .vmem S960x960 .bf16) (harg5 : arg5.IsWhole) (arg6 : Memref sig .tc .vmem S960x17 .f32) (harg6 : arg6.IsWhole) (arg7 : Memref sig .tc .vmem S8x960x256 .fp8e4m3) (harg7 : arg7.IsWhole) (arg8 : Memref sig .tc .vmem S8x256 .f32) (harg8 : arg8.IsWhole) (arg9 : Memref sig .tc .vmem S1x960x256 .bf16) (harg9 : arg9.IsWhole) (arg10 : Memref sig .tc .vmem S1x960x256 .bf16) (harg10 : arg10.IsWhole) (arg11 : Memref sig .tc .vmem S1x960x256 .fp8e4m3) (harg11 : arg11.IsWhole) (arg12 : Memref sig .tc .vmem S8x256 .f32) (harg12 : arg12.IsWhole) (arg13 : Memref sig .tc .vmem S17x960x128 .f32) (harg13 : arg13.IsWhole) (arg14 : Memref sig .tc .vmem S22x960x256 .f32) (harg14 : arg14.IsWhole) (arg15 : Memref sig .tc .vmem S960x256 .f32) (harg15 : arg15.IsWhole) (arg16 : Memref sig .tc .vmem S960x256 .bf16) (harg16 : arg16.IsWhole) (hc0 : ¬cond0_0 i) (hc1 : cond0_1 i)
    (x0 : Vec F S1x960x256 .bf16) (x1 : Vec F S1x960x256 .bf16) (x2 : Vec F S960x960 .bf16) (x3 : Vec F S2x960x960 .bf16) (x4 : Vec F S960x960 .bf16) (x5 : Vec F S960x17 .f32) (x6 : Vec F S8x960x256 .fp8e4m3) (x7 : Vec F S8x256 .f32) (xs0 : Vec F S17x960x128 .f32) : Vec F S17x960x128 .f32 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S17x960x128 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 14 = 0 then
      if h1 : 6 ≤ (n + 1) then
        False.elim (by have hN : n + 1 < 14 := lt_of_lt_of_eq hn (show cfg0.N = 14 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      if h1 : 6 ≤ (n + 1) then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))

/-- `outsAt0` at a point of case A: that case's contents. -/
theorem outsAt0_A (c : Dev nD) (t : Fin cfg0.N) (h0 : t.val % 14 = 0) (h1 : ¬6 ≤ t.val) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 14 = 0) (h1 : ¬6 ≤ t.val) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 14 = 0) (h1 : 6 ≤ t.val) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The output windows this certificate FORGETS (8, 9, 10, 11): nothing reads what the kernel leaves in them, so nothing
    of it is named (Lib/Pipeline/Dat.lean `Dat.toRForget`). -/
def forgets0 : Fin 12 → Bool := fun w => w.val == 8 || w.val == 9 || w.val == 10 || w.val == 11

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 14 := lt_of_lt_of_eq t.isLt (show cfg0.N = 14 from N_0)
  by_cases h0 : t.val % 14 = 0
  · by_cases h1 : 6 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      by_cases hz : t.val = 0
      · rw [PhiS_castSucc m c t, PhiS_zero m c _ _ hz, PhiA0_eq]
        rw [outsAt0_A m c t h0 h1]
        unfold sout0_A_0
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        iintro ⟨H0, H1, H2, H3, H4, H5, H6, H7, H8, H9, H10, H11, ⟨%es0, HS0⟩, HS1, HS2, HS3⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _)
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      · exfalso; have hN : t.val < 14 := lt_of_lt_of_eq t.isLt (show cfg0.N = 14 from N_0); omega
  · by_cases h1 : 6 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      by_cases hz : t.val = 0
      · exfalso; have hN : t.val < 14 := lt_of_lt_of_eq t.isLt (show cfg0.N = 14 from N_0); omega
      · rw [PhiS_castSucc m c t, PhiS_pos m c _ _ hz]
        rw [outsAt0_C m c t h0 h1]
        unfold sout0_C_0
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        iintro ⟨H0, H1, H2, H3, H4, H5, H6, H7, H8, H9, H10, H11, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      by_cases hz : t.val = 0
      · exfalso; have hN : t.val < 14 := lt_of_lt_of_eq t.isLt (show cfg0.N = 14 from N_0); omega
      · rw [PhiS_castSucc m c t, PhiS_pos m c _ _ hz]
        rw [outsAt0_B m c t h0 h1]
        unfold sout0_B_0
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        iintro ⟨H0, H1, H2, H3, H4, H5, H6, H7, H8, H9, H10, H11, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 14 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel.Hand

end
-- ==== Proof.Body.Runs.lean ====
/- What the whole-body runs of the idealised kernel share: the branch conditions in closed form, the memrefs of a grid point, the scratch buffers. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Where the body stores a token's scale in the block of carried scales: the row is `s - 6` as a 32-bit word. -/
theorem k0_off121_eq : ∀ i : grid0.Coords, k0_off121 i = ![(((i 0).val + 4294967290) % 4294967296), 0] := by decide +kernel
instance closedOff_k0_off121 (i : grid0.Coords) : ClosedOff (k0_off121 i) := ⟨![(((i 0).val + 4294967290) % 4294967296), 0], k0_off121_eq i⟩

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the points from point 6 on — decided over the grid. -/
theorem hcond0_1 : ∀ t : Fin cfg0.N, cond0_1 (grid0.coords t) ↔ 6 ≤ t.val :=
  (by decide +kernel : ∀ t : Fin grid0.N, cond0_1 (grid0.coords t) ↔ 6 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x960x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x960x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S960x960 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x960x960 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S960x960 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S960x17 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x960x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x960x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x960x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x960x256 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x256 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S17x960x128 .f32 := Memref.whole cc0_scratch0
abbrev scM0_1 : Memref sig .tc .vmem S22x960x256 .f32 := Memref.whole cc0_scratch1
abbrev scM0_2 : Memref sig .tc .vmem S960x256 .f32 := Memref.whole cc0_scratch2
abbrev scM0_3 : Memref sig .tc .vmem S960x256 .bf16 := Memref.whole cc0_scratch3
/-- The scratch `arg13` the kernel carries between points, as a view: what it holds is stated through it. -/
abbrev VS0_0 : View sig .tc .vmem S17x960x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.Body.RunA.lean ====
/- The body run at the first grid point (parameters broadcast, history loaded, no quantisation). -/
module

public import proofs.«01_k».proof.Proof.Body.Runs

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16896000 in
/-- The whole-body run at the first grid point: the pieces the body's stores leave in the two results' buffers (`L8`, `L9`), in the row
    buffer of the convolution (`LS1`, over the contents `xs1` it had) and, where they are written, in the other buffers, WITH the
    proof that the body runs from the inputs' contents to these pieces. The run itself finds the pieces. -/
noncomputable def kernelRun0_A (c : Dev nD) (i : grid0.Coords) (arg1 : Memref sig .tc .vmem S1x960x256 .bf16) (harg1 : arg1.IsWhole) (arg2 : Memref sig .tc .vmem S1x960x256 .bf16) (harg2 : arg2.IsWhole) (arg3 : Memref sig .tc .vmem S960x960 .bf16) (harg3 : arg3.IsWhole) (arg4 : Memref sig .tc .vmem S2x960x960 .bf16) (harg4 : arg4.IsWhole) (arg5 : Memref sig .tc .vmem S960x960 .bf16) (harg5 : arg5.IsWhole) (arg6 : Memref sig .tc .vmem S960x17 .f32) (harg6 : arg6.IsWhole) (arg7 : Memref sig .tc .vmem S8x960x256 .fp8e4m3) (harg7 : arg7.IsWhole) (arg8 : Memref sig .tc .vmem S8x256 .f32) (harg8 : arg8.IsWhole) (arg9 : Memref sig .tc .vmem S1x960x256 .bf16) (harg9 : arg9.IsWhole) (arg10 : Memref sig .tc .vmem S1x960x256 .bf16) (harg10 : arg10.IsWhole) (arg11 : Memref sig .tc .vmem S1x960x256 .fp8e4m3) (harg11 : arg11.IsWhole) (arg12 : Memref sig .tc .vmem S8x256 .f32) (harg12 : arg12.IsWhole) (arg13 : Memref sig .tc .vmem S17x960x128 .f32) (harg13 : arg13.IsWhole) (arg14 : Memref sig .tc .vmem S22x960x256 .f32) (harg14 : arg14.IsWhole) (arg15 : Memref sig .tc .vmem S960x256 .f32) (harg15 : arg15.IsWhole) (arg16 : Memref sig .tc .vmem S960x256 .bf16) (harg16 : arg16.IsWhole) (hc0 : cond0_0 i) (hc1 : ¬cond0_1 i)
    (x0 : Vec F S1x960x256 .bf16) (x1 : Vec F S1x960x256 .bf16) (x2 : Vec F S960x960 .bf16) (x3 : Vec F S2x960x960 .bf16) (x4 : Vec F S960x960 .bf16) (x5 : Vec F S960x17 .f32) (x6 : Vec F S8x960x256 .fp8e4m3) (x7 : Vec F S8x256 .f32) (xs1 : Vec F S22x960x256 .f32) :
    Σ' (L8 : List (View.Piece (Elt F) S1x960x256 .bf16)) (L9 : List (View.Piece (Elt F) S1x960x256 .bf16)) (LS0 : List (View.Piece (Elt F) S17x960x128 .f32)), { LS1 : List (View.Piece (Elt F) S22x960x256 .f32) //
      ∀ (E : Set ℕ) (K : PUnit → sProp 𝕄) (d10 : Vec F S1x960x256 .fp8e4m3) (d11 : Vec F S8x256 .f32),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare d10 ∗ owns (c : Thread nD τ) arg12 fullShare d11 ∗ (∃ d, owns (c : Thread nD τ) arg13 fullShare d) ∗ owns (c : Thread nD τ) arg14 fullShare xs1 ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare d10 ∗ owns (c : Thread nD τ) arg12 fullShare d11 ∗ (∃ f, arg13.view.loc (c : Thread nD τ) ↦[arg13.view.set]{fullShare} arg13.view.writes (Elt F) f LS0) ∗ (arg14.view.loc (c : Thread nD τ) ↦[arg14.view.set]{fullShare} arg14.view.writes (Elt F) (harg14.unread xs1) LS1) ∗ (∃ d, owns (c : Thread nD τ) arg15 fullShare d) ∗ (∃ d, owns (c : Thread nD τ) arg16 fullShare d)) -∗ K ⟨⟩))
          ⊢ wp frame (wpE (defs₀ (F := F)) Variants.none c none) E (cc0_conv_module i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K d10 d11 => ?run⟩
  case run =>
    simp only [cc0_conv_module_eq_skeleton]; unfold cc0_conv_module_skel
    simp only [k0_part260_eq_skeleton, k0_part132_eq_skeleton, k0_part113_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part114_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part261_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%ds0, %fs0, -, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg14.eq_unread hfs1; obtain rfl := harg12.eq_unread hf11; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    isplitl [HS1]; · iexact HS1
    isplitl [HS2]
    · iexists _, _; isplitr; swap; · iexact HS2
      ipureintro; rfl
    iexists _, _; isplitr; swap; · iexact HS3
    ipureintro; rfl

end Cert.KernelIdeal.Hand

end
-- ==== Proof.Spec.lean ====
/- The mathematics of the convolution module over the extended reals, one token of all streams at a time. -/
module

public import Idealize.ShloMosaic.PureOps.Ideal

@[expose] public section

noncomputable section

namespace Cert.Conv

open Idealize.ShloMosaic

/-- One number per feature. -/
abbrev Col : Type := Fin 960 → EReal

/-- One token of every stream: feature by stream. -/
abbrev Plane : Type := Fin 960 → Fin 256 → EReal

/-- One over the number of features. -/
def invD : EReal := ((960⁻¹ : ℝ) : EReal)

/-- What is added to a variance before its root is taken. -/
def eps : EReal := Ideal.ofBits .f32 0x3727C5AC#32

/-- A linear layer without its bias. -/
def lin (w : Fin 960 → Fin 960 → EReal) (v : Plane) : Plane := fun d b => ∑ k, w d k * v k b

/-- The residual stream after attention: the input, plus the projection of the attention's output and its bias. -/
def hid (P : Fin 17 → Col) (wo : Fin 960 → Fin 960 → EReal) (x a : Plane) : Plane := fun k b => x k b + (lin wo a k b + P 0 k)

/-- The mean of a stream's features. -/
def mean (h : Plane) (b : Fin 256) : EReal := (∑ d, h d b) * invD

/-- One over the root of their variance. -/
def rstd (h : Plane) (b : Fin 256) : EReal := Ideal.rsqrt ((∑ d, (h d b - mean h b) * (h d b - mean h b)) * invD + eps)

/-- Layer normalisation. -/
def norm (P : Fin 17 → Col) (h : Plane) : Plane := fun k b => (h k b - mean h b) * rstd h b * P 1 k + P 2 k

/-- The gated linear unit: the first layer's result times the logistic of the second's. -/
def glu (P : Fin 17 → Col) (w : Fin 2 → Fin 960 → Fin 960 → EReal) (c : Plane) : Plane := fun k b =>
  (lin (w 0) c k b + P 3 k) * Ideal.logistic (lin (w 1) c k b + P 4 k)

/-- Nine taps of a depthwise convolution, added from the oldest token to the newest. -/
def taps (z w : Fin 9 → EReal) : EReal :=
  z 0 * w 0 + z 1 * w 1 + z 2 * w 2 + z 3 * w 3 + z 4 * w 4 + z 5 * w 5 + z 6 * w 6 + z 7 * w 7 + z 8 * w 8

/-- `u · σ(u)` -/
def silu (u : EReal) : EReal := u * Ideal.logistic u

/-- The parameter of tap `j`. -/
def tap (P : Fin 17 → Col) (j : Fin 9) : Col := P ⟨8 + j.val, by omega⟩

/-- The depthwise convolution of nine tokens, its scale and offset, and the activation. -/
def conv (P : Fin 17 → Col) (z : Fin 9 → Plane) : Plane := fun k b =>
  silu (taps (fun j => z j k b) (fun j => tap P j k) * P 5 k + P 6 k)

/-- The result: the residual stream plus the last layer. -/
def out (P : Fin 17 → Col) (w2 : Fin 960 → Fin 960 → EReal) (h u : Plane) : Plane := fun k b => h k b + (lin w2 u k b + P 7 k)

end Cert.Conv

end
-- ==== Proof.Rows.lean ====
/- Vectors of 32 rows of a feature-by-stream plane, and how the operations of the kernel's body act on them. Everything is read
   at an index, so that a chunk of the body is proved once, for a row offset that is a variable. -/
module

public import proofs.«01_k».proof.Proof.Spec
public import proofs.«01_k».proof.Proof.Gen.KernelIdeal
public import Idealize.ShloMosaic.Lib.Pointwise
public import Idealize.ShloMosaic.Lib.WholeRead
public import Idealize.ShloMosaic.Lib.Pipeline.Value

@[expose] public section

noncomputable section

namespace Cert.KernelIdeal.Hand

open Cert.KernelIdeal.Gen Cert.Conv
open Idealize.ShloMosaic Idealize.ShloMosaic.TcCoe Idealize.SL.Sem

/-- Row `ρ` of the chunk of rows that begins at `r`. -/
def rowAt (r : ℕ) (h : r + 32 ≤ 960) (ρ : Fin 32) : Fin 960 := ⟨r + ρ.val, by omega⟩

/-- `V` is the chunk of the plane `G` that begins at row `r`. -/
def Rows (r : ℕ) (V : S32x256.Idx → EReal) (G : Plane) : Prop :=
  ∀ (h : r + 32 ≤ 960) (ρ : Fin 32) (b : Fin 256), V (ix2 ρ b) = G (rowAt r h ρ) b

/-- The same of a vector with a leading unit axis. -/
def Rows1 (r : ℕ) (V : S1x32x256.Idx → EReal) (G : Plane) : Prop :=
  ∀ (h : r + 32 ≤ 960) (ρ : Fin 32) (b : Fin 256), V (ix3 0 ρ b) = G (rowAt r h ρ) b

/-- A chunk of a parameter, the same in all lanes. -/
def RowsP (r : ℕ) (V : S1x32x128.Idx → EReal) (P : Col) : Prop :=
  ∀ (h : r + 32 ≤ 960) (ρ : Fin 32) (l : Fin 128), V (ix3 0 ρ l) = P (rowAt r h ρ)

variable {r : ℕ}

/-- A row of one number per stream. -/
def RowIs (V : S1x256.Idx → EReal) (μ : Fin 256 → EReal) : Prop := ∀ b : Fin 256, V (ix2 0 b) = μ b

/-- A parameter's chunk laid over both halves of the lanes. -/
def wide (V : FVec Ideal S1x32x128 .f32) : FVec Ideal S32x256 .f32 :=
  concatenate S32x256 1 [⟨S32x128, shapeCast S32x128 V shapeCasts_S1x32x128_S32x128⟩,
    ⟨S32x128, shapeCast S32x128 V shapeCasts_S1x32x128_S32x128⟩] concatenates_S32x128_S32x128_S32x256_d1

theorem wide_apply {V : FVec Ideal S1x32x128 .f32} {P : Col} (hV : RowsP r V P) (h : r + 32 ≤ 960)
    (ρ : Fin 32) (b : Fin 256) : wide V (ix2 ρ b) = P (rowAt r h ρ) := by
  unfold wide
  pointwise
  split <;> exact hV h ρ _

/-- The residual stream after attention: input plus projection plus bias. -/
theorem rows_hid {X : FVec Ideal S1x32x256 .bf16} {D : FVec Ideal S960x256 .f32} {V : FVec Ideal S1x32x128 .f32}
    {x d : Plane} {p : Col} (hX : Rows1 r X x) (hD : ∀ k b, D (ix2 k b) = d k b) (hV : RowsP r V p) {e1 e2 e3} :
    Rows r (addf (extf .f32 (shapeCast S32x256 X e1) e2) (addf (extractStridedSlice S32x256 ![r, 0] D e3) (wide V)))
      (fun k b => x k b + (d k b + p k)) := by
  intro h ρ b
  pointwise
  rw [hX h, hD, wide_apply hV h]; rfl

theorem rows_of_eq {V : S32x256.Idx → EReal} {G G' : Plane} (e : G = G') (h : Rows r V G') : Rows r V G := e ▸ h

/-- A chunk stored as it is. -/
theorem rows_cast {φ : FTy} {V : FVec Ideal S32x256 φ} {G : Plane} (hV : Rows r V G) {e1} :
    Rows r (shapeCast S32x256 V e1) G := by
  intro h ρ b
  pointwise
  exact hV h ρ b

/-- A chunk stored under a leading unit axis. -/
theorem rows1_cast {φ : FTy} {V : FVec Ideal S32x256 φ} {G : Plane} (hV : Rows r V G) {e1} :
    Rows1 r (shapeCast S1x32x256 V e1) G := by
  intro h ρ b
  pointwise
  exact hV h ρ b

/-- The square of a chunk's distance from the mean. -/
theorem rows_sq {H : FVec Ideal S32x256 .f32} {m : FVec Ideal S1x256 .f32} {g : Plane} {μ : Fin 256 → EReal} (hH : Rows r H g)
    (hm : RowIs m μ) :
    Rows r (mulf (subf H (broadcastTo S32x256 m broadcasts_S1x256_S32x256))
      (subf H (broadcastTo S32x256 m broadcasts_S1x256_S32x256)))
      (fun k b => (g k b - μ b) * (g k b - μ b)) := by
  intro h ρ b
  pointwise
  rw [hH h, hm]

/-- A normalised chunk. -/
theorem rows_norm {H : FVec Ideal S32x256 .f32} {m s : FVec Ideal S1x256 .f32} {G B : FVec Ideal S1x32x128 .f32} {g : Plane}
    {μ σ : Fin 256 → EReal} {pg pb : Col} (hH : Rows r H g) (hm : RowIs m μ) (hs : RowIs s σ)
    (hG : RowsP r G pg) (hB : RowsP r B pb) {e7} :
    Rows r (truncf .bf16 (addf (mulf (mulf (subf H (broadcastTo S32x256 m broadcasts_S1x256_S32x256))
        (broadcastTo S32x256 s broadcasts_S1x256_S32x256)) (wide G))
        (wide B)) e7) (fun k b => (g k b - μ b) * σ b * pg k + pb k) := by
  intro h ρ b
  pointwise
  rw [hH h, hm, hs, wide_apply hG h, wide_apply hB h]

/-- A gated chunk: the value's chunk times the logistic of the gate's. -/
theorem rows_glu {r' : ℕ} {DA DB : FVec Ideal S480x256 .f32} {A B : FVec Ideal S1x32x128 .f32} {a g : Plane} {pa pb : Col} (m : ℕ)
    (hr : r = m + r') (hm : m + 480 ≤ 960)
    (hDA : ∀ (k : Fin 480) b, DA (ix2 k b) = a ⟨m + k.val, by omega⟩ b)
    (hDB : ∀ (k : Fin 480) b, DB (ix2 k b) = g ⟨m + k.val, by omega⟩ b) (hA : RowsP r A pa) (hB : RowsP r B pb)
    {e1 e4} :
    Rows r (mulf (addf (extractStridedSlice S32x256 ![r', 0] DA e1) (wide A))
        (logistic (addf (extractStridedSlice S32x256 ![r', 0] DB e4) (wide B))))
      (fun k b => (a k b + pa k) * Ideal.logistic (g k b + pb k)) := by
  intro h ρ b
  subst hr
  pointwise
  rw [hDA, hDB, wide_apply hA h, wide_apply hB h]
  have : (⟨m + (r' + ρ.val), by omega⟩ : Fin 960) = rowAt (m + r') h ρ := Fin.ext (by simp [rowAt]; omega)
  simp only [this]

/-- A chunk of the convolution's output: nine taps, the scale and offset, the activation. -/
theorem rows_conv {Z0 Z1 Z2 Z3 Z4 Z5 Z6 Z7 : FVec Ideal S1x32x256 .f32} {G : FVec Ideal S32x256 .f32}
    {W0 W1 W2 W3 W4 W5 W6 W7 W8 P Q : FVec Ideal S1x32x128 .f32} {z : Fin 9 → Plane} {w : Fin 9 → Col} {p q : Col}
    (h0 : Rows1 r Z0 (z 0)) (h1 : Rows1 r Z1 (z 1)) (h2 : Rows1 r Z2 (z 2)) (h3 : Rows1 r Z3 (z 3)) (h4 : Rows1 r Z4 (z 4))
    (h5 : Rows1 r Z5 (z 5)) (h6 : Rows1 r Z6 (z 6)) (h7 : Rows1 r Z7 (z 7)) (h8 : Rows r G (z 8))
    (k0 : RowsP r W0 (w 0)) (k1 : RowsP r W1 (w 1)) (k2 : RowsP r W2 (w 2)) (k3 : RowsP r W3 (w 3)) (k4 : RowsP r W4 (w 4))
    (k5 : RowsP r W5 (w 5)) (k6 : RowsP r W6 (w 6)) (k7 : RowsP r W7 (w 7)) (k8 : RowsP r W8 (w 8)) (hp : RowsP r P p)
    (hq : RowsP r Q q)
    {U : FVec Ideal S32x256 .f32} {et}
    (hU : U = addf (mulf (addf (addf (addf (addf (addf (addf (addf (addf (mulf (shapeCast S32x256 Z0 shapeCasts_S1x32x256_S32x256) (wide W0))
          (mulf (shapeCast S32x256 Z1 shapeCasts_S1x32x256_S32x256) (wide W1))) (mulf (shapeCast S32x256 Z2 shapeCasts_S1x32x256_S32x256) (wide W2)))
          (mulf (shapeCast S32x256 Z3 shapeCasts_S1x32x256_S32x256) (wide W3))) (mulf (shapeCast S32x256 Z4 shapeCasts_S1x32x256_S32x256) (wide W4)))
          (mulf (shapeCast S32x256 Z5 shapeCasts_S1x32x256_S32x256) (wide W5))) (mulf (shapeCast S32x256 Z6 shapeCasts_S1x32x256_S32x256) (wide W6)))
          (mulf (shapeCast S32x256 Z7 shapeCasts_S1x32x256_S32x256) (wide W7))) (mulf G (wide W8))) (wide P)) (wide Q)) :
    Rows r (truncf .bf16 (mulf U (logistic U)) et) (fun k b => silu (taps (fun j => z j k b) (fun j => w j k) * p k + q k)) := by
  intro h ρ b
  have e : U (ix2 ρ b) = taps (fun j => z j (rowAt r h ρ) b) (fun j => w j (rowAt r h ρ)) * p (rowAt r h ρ) + q (rowAt r h ρ) := by
    rw [hU]
    pointwise
    rw [h0 h, h1 h, h2 h, h3 h, h4 h, h5 h, h6 h, h7 h, h8 h, wide_apply k0 h, wide_apply k1 h, wide_apply k2 h,
      wide_apply k3 h, wide_apply k4 h, wide_apply k5 h, wide_apply k6 h, wide_apply k7 h,
      wide_apply k8 h, wide_apply hp h, wide_apply hq h]
    rfl
  show U (ix2 ρ b) * Ideal.logistic (U (ix2 ρ b)) = _
  rw [e]; rfl

/-- A chunk of the result: the residual stream plus the last projection and its bias. -/
theorem rows_out {H : FVec Ideal S32x256 .f32} {D : FVec Ideal S960x256 .f32} {V : FVec Ideal S1x32x128 .f32}
    {x d : Plane} {p : Col} (hH : Rows r H x) (hD : ∀ k b, D (ix2 k b) = d k b) (hV : RowsP r V p) {e3 et} :
    Rows r (truncf .bf16 (addf H (addf (extractStridedSlice S32x256 ![r, 0] D e3) (wide V))) et)
      (fun k b => x k b + (d k b + p k)) := by
  intro h ρ b
  pointwise
  rw [hH h, hD, wide_apply hV h]; rfl

/-! ## Sums over all rows, taken chunk by chunk -/

/-- Row `ρ` of the first `n` chunks of a plane, added up. -/
structure Acc (n : ℕ) (V : S32x256.Idx → EReal) (G : Plane) : Prop where
  sum : ∀ (ρ : Fin 32) (b : Fin 256), V (ix2 ρ b) = ∑ q ∈ Finset.range n, if h : 32 * q + 32 ≤ 960 then G (rowAt (32 * q) h ρ) b else 0

theorem acc_zero {G : Plane} : Acc 0 (constant (F := Ideal) S32x256 .f32 0#32) G := by
  refine ⟨fun ρ b => ?_⟩
  pointwise
  simp

theorem acc_succ (n : ℕ) (hr : r = 32 * n) (hn : n < 30) {V W : FVec Ideal S32x256 .f32} {G : Plane} (hV : Acc n V G)
    (hW : Rows r W G) : Acc (n + 1) (addf V W) G := by
  refine ⟨fun ρ b => ?_⟩
  subst hr
  rw [Finset.sum_range_succ, dif_pos (by omega), ← hV.sum ρ b, ← hW (by omega) ρ b]
  rfl

theorem sum_chunks {V : S32x256.Idx → EReal} {G : Plane} (hV : Acc 30 V G) (b : Fin 256) :
    ∑ ρ, V (ix2 ρ b) = ∑ d, G d b := by
  simp only [hV.sum _ b]
  rw [Finset.sum_comm, Finset.sum_range (n := 30), ← (finProdFinEquiv (m := 30) (n := 32)).sum_comp, Fintype.sum_prod_type]
  refine Finset.sum_congr rfl fun q _ => Finset.sum_congr rfl fun ρ _ => ?_
  rw [dif_pos (by omega)]
  exact congrArg (fun k => G k b) (Fin.ext (by simp [rowAt, finProdFinEquiv]; omega))

theorem inv_d_eq : (Named.named κ "inv_d" 0x3A888889#32 : Ideal .f32) = invD :=
  IdealRules.named_const.ideal_named_scalar _ _ _ _ rfl

/-- The column sums of a plane. -/
theorem sum_of_acc {V : FVec Ideal S32x256 .f32} {G : Plane} (hV : Acc 30 V G) {e1 e2 e3} (b : Fin 256) :
    multiReduction (F := Ideal) .add [0] S256 V 0x00000000#32 e1 e2 e3 (ix1 b) = ∑ d, G d b := by
  pointwise
  exact sum_chunks hV b

/-- The row of column means. -/
theorem mean_row {V : FVec Ideal S32x256 .f32} {G : Plane} (hV : Acc 30 V G) {e1 e2 e3 e4} :
    RowIs (mulf (shapeCast S1x256 (multiReduction (F := Ideal) .add [0] S256 V 0x00000000#32 e1 e2 e3) e4)
      (broadcast S1x256 (Named.named κ "inv_d" 0x3A888889#32 : Ideal .f32))) (mean G) := by
  intro b
  unfold mean
  pointwise
  rw [sum_chunks hV b, inv_d_eq]

/-- The row of the reciprocals of the columns' deviations. -/
theorem rs_row {V : FVec Ideal S32x256 .f32} {G : Plane}
    (hV : Acc 30 V (fun k b => (G k b - mean G b) * (G k b - mean G b))) {e1 e2 e3 e4} :
    RowIs (rsqrt (addf (mulf (shapeCast S1x256 (multiReduction (F := Ideal) .add [0] S256 V 0x00000000#32 e1 e2 e3) e4)
      (broadcast S1x256 (Named.named κ "inv_d" 0x3A888889#32 : Ideal .f32)))
      (broadcast S1x256 (Scalar.ofBits .f32 0x3727C5AC#32 : Ideal .f32)))) (rstd G) := by
  intro b
  unfold rstd
  pointwise
  rw [sum_chunks hV b, inv_d_eq]; rfl

/-! ## The products -/

theorem dot_whole {A : FVec Ideal S960x960 .bf16} {B : FVec Ideal S960x256 .bf16} {w : Fin 960 → Fin 960 → EReal} {v : Plane}
    (hA : ∀ d k, A (ix2 d k) = w d k) (hB : ∀ k b, B (ix2 k b) = v k b) (d : Fin 960) (b : Fin 256) :
    matmul dot_S960x960_S960x256_S960x256_1_0_0_1_n_n none A B (constant (F := Ideal) S960x256 .f32 0#32) (ix2 d b)
      = lin w v d b := by
  unfold lin
  pointwise
  exact Finset.sum_congr rfl fun k _ => by rw [hA, hB]

theorem dot_half {A : FVec Ideal S480x960 .bf16} {B : FVec Ideal S960x256 .bf16} {w : Fin 960 → Fin 960 → EReal} {v : Plane} (m : ℕ)
    (hm : m + 480 ≤ 960) (hA : ∀ (d : Fin 480) k, A (ix2 d k) = w ⟨m + d.val, by omega⟩ k) (hB : ∀ k b, B (ix2 k b) = v k b)
    (d : Fin 480) (b : Fin 256) :
    matmul dot_S480x960_S960x256_S480x256_1_0_0_1_n_n none A B (constant (F := Ideal) S480x256 .f32 0#32) (ix2 d b)
      = lin w v ⟨m + d.val, by omega⟩ b := by
  unfold lin
  pointwise
  exact Finset.sum_congr rfl fun k _ => by rw [hA, hB]

/-! ## Filling the buffers -/

/-- A parameter's column laid over the lanes. -/
theorem par_chunk {V : FVec Ideal S96x1 .f32} {p : Fin 96 → EReal} (hV : ∀ k, V (ix2 k 0) = p k) {e1 e2 e3 e4} (k : Fin 96) (l : Fin 128) :
    shapeCast S1x96x128 (broadcastTo S96x128 (shapeCast S96x1 (shapeCast S96x1 V e1) e2) e3) e4 (ix3 0 k l) = p k := by
  pointwise
  exact hV k

/-- A chunk of codes times their scales. -/
theorem rows_code {V : FVec Ideal S1x32x256 .fp8e4m3} {S : FVec Ideal S1x256 .f32} {q : Plane} {σ : Fin 256 → EReal} (hV : Rows1 r V q)
    (hS : RowIs S σ) {e1 e2 e3 e5} :
    Rows r (mulf (extf .f32 (shapeCast S32x256 V e1) e2) (broadcastTo S32x256 (shapeCast S1x256 S e3) e5)) (fun k b => q k b * σ b) := by
  intro h ρ b
  pointwise
  rw [hV h, hS]

end Cert.KernelIdeal.Hand

end
-- ==== Proof.Loads.lean ====
/- What the loads of the kernel's body read: chunks of blocks whose entries are known, and chunks of a buffer that the body itself
   has filled. -/
module

public import proofs.«01_k».proof.Proof.Rows

@[expose] public section

noncomputable section

namespace Cert.KernelIdeal.Hand

open Cert.KernelIdeal.Gen Cert.Conv
open Idealize.ShloMosaic Idealize.ShloMosaic.TcCoe Idealize.SL.Sem

variable {r : ℕ} {κ : Kind} {sp : Space}

theorem idx2_ext {n0 n1 : ℕ} {x y : (⟨2, ![n0, n1]⟩ : Shape).Idx} (h0 : (x 0).val = (y 0).val) (h1 : (x 1).val = (y 1).val) :
    x = y := by
  funext a
  match a with
  | 0 => exact Fin.ext h0
  | 1 => exact Fin.ext h1

theorem idx3_ext {n0 n1 n2 : ℕ} {x y : (⟨3, ![n0, n1, n2]⟩ : Shape).Idx} (h0 : (x 0).val = (y 0).val)
    (h1 : (x 1).val = (y 1).val) (h2 : (x 2).val = (y 2).val) : x = y := by
  funext a
  match a with
  | 0 => exact Fin.ext h0
  | 1 => exact Fin.ext h1
  | 2 => exact Fin.ext h2

/-! ## Blocks whose entries are known -/

/-- A chunk of a block with one plane. -/
theorem rows1_unread {m : Memref sig κ sp S1x960x256 .bf16} (h : m.IsWhole) {x : Vec Ideal S1x960x256 .bf16} {G : Plane}
    (hx : ∀ k b, x (ix3 0 k b) = G k b) {inb} :
    Rows1 r (m.view.readAt (Elt Ideal) (Rect.unit (s := S1x960x256) ![0, r, 0] S1x32x256.size inb).toLoadRect (h.unread x)) G := by
  intro hr ρ b
  rw [h.readAt_unread, ← hx]
  exact congrArg x (idx3_ext (by simp) (by simp [rowAt]) (by simp))

/-- A chunk of plane `n` of a block of planes. -/
theorem rows1_plane {m : Memref sig κ sp S22x960x256 .f32} (h : m.IsWhole) {x : Vec Ideal S22x960x256 .f32} {G : Plane}
    (n : ℕ) (hn : n < 22) (hx : ∀ k b, x (ix3 ⟨n, hn⟩ k b) = G k b) {off : Fin 3 → ℕ} (ho : off = ![n, r, 0]) {inb} :
    Rows1 r (m.view.readAt (Elt Ideal) (Rect.unit (s := S22x960x256) off S1x32x256.size inb).toLoadRect (h.unread x)) G := by
  intro hr ρ b
  subst ho
  rw [h.readAt_unread, ← hx]
  exact congrArg x (idx3_ext (by simp) (by simp [rowAt]) (by simp))

/-- A chunk of plane `n` of the codes. -/
theorem rows1_codes {m : Memref sig κ sp S8x960x256 .fp8e4m3} (h : m.IsWhole) {x : Vec Ideal S8x960x256 .fp8e4m3} {q : Fin 8 → Plane}
    (hx : ∀ n k b, x (ix3 n k b) = q n k b) (n : ℕ) (hn : n < 8) {inb} :
    Rows1 r (m.view.readAt (Elt Ideal) (Rect.unit (s := S8x960x256) ![n, r, 0] S1x32x256.size inb).toLoadRect (h.unread x)) (q ⟨n, hn⟩) := by
  intro hr ρ b
  rw [h.readAt_unread, ← hx]
  exact congrArg x (idx3_ext (by simp) (by simp [rowAt]) (by simp))

/-- Row `n` of the scales. -/
theorem row_scales {m : Memref sig κ sp S8x256 .f32} (h : m.IsWhole) {x : Vec Ideal S8x256 .f32} {σ : Fin 8 → Fin 256 → EReal}
    (hx : ∀ n b, x (ix2 n b) = σ n b) (n : ℕ) (hn : n < 8) {inb} :
    RowIs (m.view.readAt (Elt Ideal) (Rect.unit (s := S8x256) ![n, 0] S1x256.size inb).toLoadRect (h.unread x)) (σ ⟨n, hn⟩) := by
  intro b
  rw [h.readAt_unread, ← hx]
  exact congrArg x (idx2_ext (by simp) (by simp))

/-- A chunk of a parameter's column. -/
theorem col_unread {m : Memref sig κ sp S960x17 .f32} (h : m.IsWhole) {x : Vec Ideal S960x17 .f32} {P : Fin 17 → Col}
    (hx : ∀ k j, x (ix2 k j) = P j k) (j : ℕ) (hj : j < 17) (hr : r + 96 ≤ 960) {inb} (k : Fin 96) :
    m.view.readAt (Elt Ideal) (Rect.unit (s := S960x17) ![r, j] S96x1.size inb).toLoadRect (h.unread x) (ix2 k 0)
      = P ⟨j, hj⟩ ⟨r + k.val, by omega⟩ := by
  rw [h.readAt_unread, ← hx]
  exact congrArg x (idx2_ext (by simp) (by simp))

/-- A chunk of a parameter from the block that holds all of them, each laid over the lanes. -/
theorem rowsP_unread {m : Memref sig κ sp S17x960x128 .f32} (h : m.IsWhole) {x : Vec Ideal S17x960x128 .f32} {P : Fin 17 → Col}
    (hx : ∀ j k l, x (ix3 j k l) = P j k) (j : ℕ) (hj : j < 17) {inb} :
    RowsP r (m.view.readAt (Elt Ideal) (Rect.unit (s := S17x960x128) ![j, r, 0] S1x32x128.size inb).toLoadRect (h.unread x)) (P ⟨j, hj⟩) := by
  intro hr ρ l
  rw [h.readAt_unread, ← hx _ _ l]
  exact congrArg x (idx3_ext (by simp) (by simp [rowAt]) (by simp))

theorem cast_plane {V : FVec Ideal S1x960x256 .bf16} {G : Plane} (hV : ∀ k b, V (ix3 0 k b) = G k b) {e} (k : Fin 960) (b : Fin 256) :
    shapeCast S960x256 V e (ix2 k b) = G k b := by
  pointwise
  exact hV k b

theorem cast_half {V : FVec Ideal S1x480x960 .bf16} {w : Fin 480 → Fin 960 → EReal} (hV : ∀ d k, V (ix3 0 d k) = w d k) {e}
    (d : Fin 480) (k : Fin 960) : shapeCast S480x960 V e (ix2 d k) = w d k := by
  pointwise
  exact hV d k

/-- The whole of a block with one plane, the unit axis dropped. -/
theorem plane_unread {m : Memref sig κ sp S1x960x256 .bf16} (h : m.IsWhole) {x : Vec Ideal S1x960x256 .bf16} {G : Plane}
    (hx : ∀ k b, x (ix3 0 k b) = G k b) {inb e} (k : Fin 960) (b : Fin 256) :
    shapeCast S960x256 (m.view.readAt (Elt Ideal) (Rect.unit (s := S1x960x256) ![0, 0, 0] S1x960x256.size inb).toLoadRect (h.unread x)) e (ix2 k b) = G k b := by
  refine cast_plane (fun k b => ?_) k b
  rw [h.readAt_unread, ← hx]
  exact congrArg x (idx3_ext (by simp) (by simp) (by simp))

/-- A whole square matrix. -/
theorem square_unread {m : Memref sig κ sp S960x960 .bf16} (h : m.IsWhole) {x : Vec Ideal S960x960 .bf16}
    {w : Fin 960 → Fin 960 → EReal} (hx : ∀ d k, x (ix2 d k) = w d k) {inb e} (d k : Fin 960) :
    shapeCast S960x960 (m.view.readAt (Elt Ideal) (Rect.unit (s := S960x960) ![0, 0] S960x960.size inb).toLoadRect (h.unread x)) e (ix2 d k) = w d k := by
  pointwise
  rw [h.readAt_unread, ← hx]
  exact congrArg x (idx2_ext (by simp) (by simp))

/-- Half of the rows, from row `n` on, of one of two square matrices. -/
theorem half_unread {m : Memref sig κ sp S2x960x960 .bf16} (h : m.IsWhole) {x : Vec Ideal S2x960x960 .bf16}
    {w : Fin 2 → Fin 960 → Fin 960 → EReal} (hx : ∀ j d k, x (ix3 j d k) = w j d k) (j n : ℕ) (hj : j < 2) (hn : n + 480 ≤ 960) {inb e}
    (d : Fin 480) (k : Fin 960) :
    shapeCast S480x960 (m.view.readAt (Elt Ideal) (Rect.unit (s := S2x960x960) ![j, n, 0] S1x480x960.size inb).toLoadRect (h.unread x)) e
      (ix2 d k) = w ⟨j, hj⟩ ⟨n + d.val, by omega⟩ k := by
  refine cast_half (w := fun d k => w ⟨j, hj⟩ ⟨n + d.val, by omega⟩ k) (fun d k => ?_) d k
  rw [h.readAt_unread, ← hx]
  exact congrArg x (idx3_ext (by simp) (by simp) (by simp))

/-! ## Lists of stores -/

section Lists

variable {s : Shape} {e : EltTy} (L : List (View.Piece (Elt Ideal) s e)) (G : s.Idx → Elt Ideal e)

/-- Every store of the list puts entries of `G` in their places. -/
def Agree : Prop := ∀ p ∈ L, ∀ x : p.1.shape.Idx, p.2 x = G (p.1.emb x)

theorem agree_nil : Agree ([] : List (View.Piece (Elt Ideal) s e)) G := fun _ hp => absurd hp List.not_mem_nil

theorem agree_cons {L G} {p : View.Piece (Elt Ideal) s e} (hp : ∀ x : p.1.shape.Idx, p.2 x = G (p.1.emb x)) (hL : Agree L G) :
    Agree (p :: L) G := fun q hq => by
  obtain rfl | hq := List.mem_cons.mp hq
  · exact hp
  · exact hL q hq

end Lists

/-- A plane as the contents of a buffer. -/
def flat (G : Plane) : S960x256.Idx → EReal := fun x => G (x 0) (x 1)

/-- A plane as the contents of a block with one plane. -/
def flat1 (G : Plane) : S1x960x256.Idx → EReal := fun x => G (x 1) (x 2)

theorem agree_rows {L : List (View.Piece (Elt Ideal) S960x256 .f32)} {V : FVec Ideal S32x256 .f32} {G : Plane} (hV : Rows r V G)
    (hL : Agree L (flat G)) {inb} : Agree (⟨Rect.unit (s := S960x256) ![r, 0] S32x256.size inb, V⟩ :: L) (flat G) := by
  refine agree_cons (fun x => ?_) hL
  have hr : r + 32 ≤ 960 := inb 0
  rw [eq_ix2 x]
  refine (hV hr (x 0) (x 1)).trans ?_
  exact congrArg₂ G (Fin.ext (by simp [rowAt])) (Fin.ext (by simp))

theorem agree_rows_bf16 {L : List (View.Piece (Elt Ideal) S960x256 .bf16)} {V : FVec Ideal S32x256 .bf16} {G : Plane} (hV : Rows r V G)
    (hL : Agree L (flat G)) {inb} : Agree (⟨Rect.unit (s := S960x256) ![r, 0] S32x256.size inb, V⟩ :: L) (flat G) := by
  refine agree_cons (fun x => ?_) hL
  have hr : r + 32 ≤ 960 := inb 0
  rw [eq_ix2 x]
  refine (hV hr (x 0) (x 1)).trans ?_
  exact congrArg₂ G (Fin.ext (by simp [rowAt])) (Fin.ext (by simp))

theorem agree_rows1 {L : List (View.Piece (Elt Ideal) S1x960x256 .bf16)} {V : FVec Ideal S1x32x256 .bf16} {G : Plane} (hV : Rows1 r V G)
    (hL : Agree L (flat1 G)) {inb} : Agree (⟨Rect.unit (s := S1x960x256) ![0, r, 0] S1x32x256.size inb, V⟩ :: L) (flat1 G) := by
  refine agree_cons (fun x => ?_) hL
  have hr : r + 32 ≤ 960 := inb 1
  rw [eq_ix3 x, show x 0 = (0 : Fin 1) from Subsingleton.elim (α := Fin 1) _ _]
  refine (hV hr (x 1) (x 2)).trans ?_
  exact congrArg₂ G (Fin.ext (by simp [rowAt])) (Fin.ext (by simp))

/-- The stores of the list put entries of `Z` in their places, and plane `n` is written up to row `hi`. -/
def Band (L : List (View.Piece (Elt Ideal) S22x960x256 .f32)) (Z : S22x960x256.Idx → EReal) (n : Fin 22) (hi : ℕ) : Prop :=
  Agree L Z ∧ ∀ (k : Fin 960) (b : Fin 256), k.val < hi → ∃ p ∈ L, ix3 n k b ∈ p.1.set

theorem band_zero {L : List (View.Piece (Elt Ideal) S22x960x256 .f32)} {Z : S22x960x256.Idx → EReal} {n : Fin 22} (hL : Agree L Z) :
    Band L Z n 0 := ⟨hL, fun _ _ h => absurd h (Nat.not_lt_zero _)⟩

theorem band_succ {L : List (View.Piece (Elt Ideal) S22x960x256 .f32)} {V : FVec Ideal S1x32x256 .f32} {G : Plane}
    {Z : S22x960x256.Idx → EReal} {n : Fin 22} {hi : ℕ} (hV : Rows1 r V G) (hZ : ∀ k b, Z (ix3 n k b) = G k b)
    {off : Fin 3 → ℕ} (ho : off = ![n.val, r, 0]) (hr : hi = r + 32) (hL : Band L Z n r) {inb} :
    Band (⟨Rect.unit (s := S22x960x256) off S1x32x256.size inb, V⟩ :: L) Z n hi := by
  subst ho hr
  refine ⟨agree_cons (fun x => ?_) hL.1, fun k b hk => ?_⟩
  · have hr : r + 32 ≤ 960 := inb 1
    rw [eq_ix3 x, show x 0 = (0 : Fin 1) from Subsingleton.elim (α := Fin 1) _ _]
    refine (hV hr (x 1) (x 2)).trans ((hZ _ _).symm.trans ?_)
    exact congrArg Z (idx3_ext (by simp) (by simp [rowAt]) (by simp))
  · by_cases h : k.val < r
    · obtain ⟨p, hp, hm⟩ := hL.2 k b h
      exact ⟨p, List.mem_cons_of_mem _ hp, hm⟩
    · refine ⟨_, List.mem_cons_self, ?_⟩
      have e : ix3 n k b = (Rect.unit (s := S22x960x256) ![n.val, r, 0] S1x32x256.size inb).emb
          (ix3 (0 : Fin 1) (⟨k.val - r, by omega⟩ : Fin 32) b) :=
        idx3_ext (by simp) (by simp; omega) (by simp)
      rw [e]
      exact LoadRect.idx_mem (Rect.unit (s := S22x960x256) ![n.val, r, 0] S1x32x256.size inb).toLoadRect _

/-- The parameters as the contents of the buffer in which each is laid over the lanes. -/
def flatP (P : Fin 17 → Col) : S17x960x128.Idx → EReal := fun x => P (x 0) (x 1)

theorem agree_par {L : List (View.Piece (Elt Ideal) S17x960x128 .f32)} {V : FVec Ideal S1x96x128 .f32} {P : Fin 17 → Col} (j : ℕ)
    (hj : j < 17) (hr : r + 96 ≤ 960) (hV : ∀ (k : Fin 96) (l : Fin 128), V (ix3 0 k l) = P ⟨j, hj⟩ ⟨r + k.val, by omega⟩)
    (hL : Agree L (flatP P)) {inb} : Agree (⟨Rect.unit (s := S17x960x128) ![j, r, 0] S1x96x128.size inb, V⟩ :: L) (flatP P) := by
  refine agree_cons (fun x => ?_) hL
  rw [eq_ix3 x, show x 0 = (0 : Fin 1) from Subsingleton.elim (α := Fin 1) _ _]
  refine (hV (x 1) (x 2)).trans ?_
  exact congrArg₂ P (Fin.ext (by simp)) (Fin.ext (by simp))

/-- The stores of the list put entries of `Y` in their places, and the rows of the planes, counted through, are written up to `hi`. -/
def Full (L : List (View.Piece (Elt Ideal) S22x960x256 .f32)) (Y : S22x960x256.Idx → EReal) (hi : ℕ) : Prop :=
  Agree L Y ∧ ∀ (n : Fin 22) (k : Fin 960) (b : Fin 256), 960 * n.val + k.val < hi → ∃ p ∈ L, ix3 n k b ∈ p.1.set

theorem full_nil {Y : S22x960x256.Idx → EReal} : Full [] Y 0 := ⟨agree_nil _, fun _ _ _ h => absurd h (Nat.not_lt_zero _)⟩

theorem full_succ {L : List (View.Piece (Elt Ideal) S22x960x256 .f32)} {V : FVec Ideal S1x32x256 .f32} {G : Plane}
    {Y : S22x960x256.Idx → EReal} (n : ℕ) (hn : n < 22) {hi : ℕ} (hV : Rows1 r V G) (hY : ∀ k b, Y (ix3 ⟨n, hn⟩ k b) = G k b)
    {off : Fin 3 → ℕ} (ho : off = ![n, r, 0]) (hr : hi = 960 * n + r + 32) (hL : Full L Y (960 * n + r)) {inb} :
    Full (⟨Rect.unit (s := S22x960x256) off S1x32x256.size inb, V⟩ :: L) Y hi := by
  subst ho hr
  have hr : r + 32 ≤ 960 := inb 1
  refine ⟨agree_cons (fun x => ?_) hL.1, fun n' k b hk => ?_⟩
  · rw [eq_ix3 x, show x 0 = (0 : Fin 1) from Subsingleton.elim (α := Fin 1) _ _]
    refine (hV hr (x 1) (x 2)).trans ((hY _ _).symm.trans ?_)
    exact congrArg Y (idx3_ext (by simp) (by simp [rowAt]) (by simp))
  · by_cases h : 960 * n'.val + k.val < 960 * n + r
    · obtain ⟨p, hp, hm⟩ := hL.2 n' k b h
      exact ⟨p, List.mem_cons_of_mem _ hp, hm⟩
    · refine ⟨_, List.mem_cons_self, ?_⟩
      have e : ix3 n' k b = (Rect.unit (s := S22x960x256) ![n, r, 0] S1x32x256.size inb).emb
          (ix3 (0 : Fin 1) (⟨k.val - r, by omega⟩ : Fin 32) b) :=
        idx3_ext (by simp; omega) (by simp; omega) (by simp)
      rw [e]
      exact LoadRect.idx_mem (Rect.unit (s := S22x960x256) ![n, r, 0] S1x32x256.size inb).toLoadRect _

/-- The stores put entries of `Y` in their places, and the eight planes of the history are among them. -/
def Hist (L : List (View.Piece (Elt Ideal) S22x960x256 .f32)) (Y : S22x960x256.Idx → EReal) : Prop :=
  Agree L Y ∧ ∀ (n : Fin 22) (k : Fin 960) (b : Fin 256), n.val < 8 → ∃ p ∈ L, ix3 n k b ∈ p.1.set

theorem hist_of_full {L : List (View.Piece (Elt Ideal) S22x960x256 .f32)} {Y : S22x960x256.Idx → EReal} {hi : ℕ} (h : Full L Y hi)
    (hh : 7680 ≤ hi) : Hist L Y := ⟨h.1, fun n k b hn => h.2 n k b (by omega)⟩

/-- A store past the history may be left off. -/
theorem hist_tail {L : List (View.Piece (Elt Ideal) S22x960x256 .f32)} {V : FVec Ideal S1x32x256 .f32} {Y : S22x960x256.Idx → EReal}
    {off : Fin 3 → ℕ} {inb} (h : Hist (⟨Rect.unit (s := S22x960x256) off S1x32x256.size inb, V⟩ :: L) Y) {n : ℕ} (ho : off = ![n + 8, r, 0]) :
    Hist L Y := by
  subst ho
  refine ⟨fun p hp => h.1 p (List.mem_cons_of_mem _ hp), fun n' k b hn => ?_⟩
  obtain ⟨p, hp, hm⟩ := h.2 n' k b hn
  obtain rfl | hp := List.mem_cons.mp hp
  · obtain ⟨j, -, e⟩ := LoadRect.mem_set _ |>.mp hm 0
    simp at e
    omega
  · exact ⟨p, hp, hm⟩

/-! ## Loads of what was stored -/

/-- A chunk of a plane of the history, over whatever the buffer held. -/
theorem rows1_hist {m : Memref sig κ sp S22x960x256 .f32} {f : m.view.ty.Contents (Elt Ideal)}
    {L : List (View.Piece (Elt Ideal) S22x960x256 .f32)} {Y : S22x960x256.Idx → EReal} {G : Plane} (h : Hist L Y) (n : ℕ) (hn : n < 22)
    (h8 : n < 8) (hY : ∀ k b, Y (ix3 ⟨n, hn⟩ k b) = G k b) {off : Fin 3 → ℕ} (ho : off = ![n, r, 0]) {inb} :
    Rows1 r (m.view.readAt (Elt Ideal) (Rect.unit (s := S22x960x256) off S1x32x256.size inb).toLoadRect (m.view.writes (Elt Ideal) f L)) G := by
  intro hr ρ b
  subst ho
  rw [View.readAt_apply, ← hY]
  have e : (Rect.unit (s := S22x960x256) ![n, r, 0] S1x32x256.size inb).toLoadRect.idx (ix3 (0 : Fin 1) ρ b)
      = ix3 (⟨n, hn⟩ : Fin 22) (rowAt r hr ρ) b := idx3_ext (by simp) (by simp [rowAt]) (by simp)
  rw [e]
  exact View.read_writes_apply_of_pieces m.view f Y L h.1 _ (h.2 ⟨n, hn⟩ _ _ h8)

theorem cov_apply {s : Shape} {e : EltTy} {v : View sig κ sp s e} {L : List (View.Piece (Elt Ideal) s e)} {G : s.Idx → Elt Ideal e}
    (hL : Agree L G) (hc : ∀ y : s.Idx, ∃ p ∈ L, y ∈ p.1.set) {B : LoadRect s} (j) : v.readCov L B j = G (B.idx j) := by
  rw [View.readCov_eq_canon']
  exact View.canon_apply_of_pieces G L hL _ (hc _)

/-- A chunk of a plane that was stored. -/
theorem rows_cov {v : View sig κ sp S960x256 .f32} {L : List (View.Piece (Elt Ideal) S960x256 .f32)} {G : Plane}
    (hL : Agree L (flat G)) (hc : ∀ y : S960x256.Idx, ∃ p ∈ L, y ∈ p.1.set) {inb} :
    Rows r (v.readCov L (Rect.unit (s := S960x256) ![r, 0] S32x256.size inb).toLoadRect) G := by
  intro hr ρ b
  refine (cov_apply hL hc _).trans ?_
  exact congrArg₂ G (Fin.ext (by simp [rowAt])) (Fin.ext (by simp))

/-- A chunk of a parameter from the buffer that was filled with all of them. -/
theorem rowsP_cov {v : View sig κ sp S17x960x128 .f32} {L : List (View.Piece (Elt Ideal) S17x960x128 .f32)} {P : Fin 17 → Col}
    (hL : Agree L (flatP P)) (hc : ∀ y : S17x960x128.Idx, ∃ p ∈ L, y ∈ p.1.set) (j : ℕ) (hj : j < 17) {inb} :
    RowsP r (v.readCov L (Rect.unit (s := S17x960x128) ![j, r, 0] S1x32x128.size inb).toLoadRect) (P ⟨j, hj⟩) := by
  intro hr ρ l
  refine (cov_apply hL hc _).trans ?_
  exact congrArg₂ P (Fin.ext (by simp)) (Fin.ext (by simp [rowAt]))

/-- The whole of a plane that was stored. -/
theorem plane_cov {v : View sig κ sp S960x256 .bf16} {L : List (View.Piece (Elt Ideal) S960x256 .bf16)} {G : Plane}
    (hL : Agree L (flat G)) (hc : ∀ y : S960x256.Idx, ∃ p ∈ L, y ∈ p.1.set) {inb} (k : Fin 960) (b : Fin 256) :
    v.readCov L (Rect.unit (s := S960x256) ![0, 0] S960x256.size inb).toLoadRect (ix2 k b) = G k b := by
  refine (cov_apply hL hc _).trans ?_
  exact congrArg₂ G (Fin.ext (by simp)) (Fin.ext (by simp))

/-- The same of a block with one plane, the unit axis dropped. -/
theorem plane1_cov {v : View sig κ sp S1x960x256 .bf16} {L : List (View.Piece (Elt Ideal) S1x960x256 .bf16)} {G : Plane}
    (hL : Agree L (flat1 G)) (hc : ∀ y : S1x960x256.Idx, ∃ p ∈ L, y ∈ p.1.set) {inb e} (k : Fin 960) (b : Fin 256) :
    shapeCast S960x256 (v.readCov L (Rect.unit (s := S1x960x256) ![0, 0, 0] S1x960x256.size inb).toLoadRect) e (ix2 k b) = G k b := by
  refine cast_plane (fun k b => ?_) k b
  refine (cov_apply hL hc _).trans ?_
  exact congrArg₂ G (Fin.ext (by simp)) (Fin.ext (by simp))

end Cert.KernelIdeal.Hand

end
-- ==== Proof.ValA.lean ====
/- The values of the body's run at grid point 0. -/
module

public import proofs.«01_k».proof.Proof.Body.RunA
public import proofs.«01_k».proof.Proof.Loads

@[expose] public section

noncomputable section

namespace Cert.KernelIdeal.Hand

open Cert.KernelIdeal.Gen Cert.Conv
open Idealize.ShloMosaic Idealize.ShloMosaic.TcCoe Idealize.SL.Sem

namespace A

variable (c : Dev nD) (i : grid0.Coords) (arg1 : Memref sig .tc .vmem S1x960x256 .bf16) (harg1 : arg1.IsWhole) (arg2 : Memref sig .tc .vmem S1x960x256 .bf16) (harg2 : arg2.IsWhole) (arg3 : Memref sig .tc .vmem S960x960 .bf16) (harg3 : arg3.IsWhole) (arg4 : Memref sig .tc .vmem S2x960x960 .bf16) (harg4 : arg4.IsWhole) (arg5 : Memref sig .tc .vmem S960x960 .bf16) (harg5 : arg5.IsWhole) (arg6 : Memref sig .tc .vmem S960x17 .f32) (harg6 : arg6.IsWhole) (arg7 : Memref sig .tc .vmem S8x960x256 .fp8e4m3) (harg7 : arg7.IsWhole) (arg8 : Memref sig .tc .vmem S8x256 .f32) (harg8 : arg8.IsWhole) (arg9 : Memref sig .tc .vmem S1x960x256 .bf16) (harg9 : arg9.IsWhole) (arg10 : Memref sig .tc .vmem S1x960x256 .bf16) (harg10 : arg10.IsWhole) (arg11 : Memref sig .tc .vmem S1x960x256 .fp8e4m3) (harg11 : arg11.IsWhole) (arg12 : Memref sig .tc .vmem S8x256 .f32) (harg12 : arg12.IsWhole) (arg13 : Memref sig .tc .vmem S17x960x128 .f32) (harg13 : arg13.IsWhole) (arg14 : Memref sig .tc .vmem S22x960x256 .f32) (harg14 : arg14.IsWhole) (arg15 : Memref sig .tc .vmem S960x256 .f32) (harg15 : arg15.IsWhole) (arg16 : Memref sig .tc .vmem S960x256 .bf16) (harg16 : arg16.IsWhole)

/-- The residual stream's chunks cover its buffer. -/
theorem cover_hid (x0 x1 : Vec Ideal S1x960x256 .bf16) (x2 : Vec Ideal S960x960 .bf16) (x5 : Vec Ideal S960x17 .f32) : ∀ y : S960x256.Idx, ∃ p ∈ (kernelRun0_A.sl.HS2_30 (F := Ideal) c arg1 harg1 arg2 harg2 arg3 harg3 arg6 harg6 arg13 x0 x1 x2 x5), y ∈ p.1.set :=
  View.cover_of_tiled _ S32x256.size (by rfl)

/-- The normalised stream's chunks cover its buffer. -/
theorem cover_norm (x0 x1 : Vec Ideal S1x960x256 .bf16) (x2 : Vec Ideal S960x960 .bf16) (x5 : Vec Ideal S960x17 .f32) :
    ∀ y : S960x256.Idx, ∃ p ∈ (kernelRun0_A.sl.HS3_30 (F := Ideal) c arg1 harg1 arg2 harg2 arg3 harg3 arg6 harg6 arg13 arg15 x0 x1 x2 x5), y ∈ p.1.set :=
  View.cover_of_tiled _ S32x256.size (by rfl)

variable
  {x0 x1 : Vec Ideal S1x960x256 .bf16} {x2 : Vec Ideal S960x960 .bf16} {x3 : Vec Ideal S2x960x960 .bf16} {x4 : Vec Ideal S960x960 .bf16}
  {x5 : Vec Ideal S960x17 .f32} {xs1 : Vec Ideal S22x960x256 .f32}
  {X T : Plane} {P : Fin 17 → Col} {wo w2 : Fin 960 → Fin 960 → EReal} {w1 : Fin 2 → Fin 960 → Fin 960 → EReal}
  (h0 : ∀ k b, x0 (ix3 0 k b) = X k b) (h1 : ∀ k b, x1 (ix3 0 k b) = T k b) (h2 : ∀ d k, x2 (ix2 d k) = wo d k)
  (hp : ∀ k j, x5 (ix2 k j) = P j k)

include hp

/-- The parameters, each laid over the lanes. -/
theorem agree_pars : Agree (kernelRun0_A.sl.HS0_170 (F := Ideal) c arg6 harg6 x5) (flatP P) := by
  repeat' (first
    | refine agree_par _ (by decide) (by decide) (par_chunk (col_unread harg6 hp _ (by decide) (by decide))) ?_
    | exact agree_nil _)

omit hp in
theorem cover_pars : ∀ y : S17x960x128.Idx, ∃ p ∈ (kernelRun0_A.sl.HS0_170 (F := Ideal) c arg6 harg6 x5), y ∈ p.1.set :=
  View.cover_of_tiled _ S1x96x128.size (by rfl)

include h0 h1 h2

/-- The residual stream after attention. -/
theorem agree_hid : Agree (kernelRun0_A.sl.HS2_30 (F := Ideal) c arg1 harg1 arg2 harg2 arg3 harg3 arg6 harg6 arg13 x0 x1 x2 x5) (flat (hid P wo X T)) := by
  have hq := agree_pars c arg6 harg6  hp
  have hv := cover_pars c arg6 harg6  (x5 := x5)
  repeat' (first
    | refine agree_rows (rows_cast (rows_hid (rows1_unread harg1 h0)
        (dot_whole (square_unread harg3 h2) (plane_unread harg2 h1)) (rowsP_cov hq hv 0 (by decide)))) ?_
    | exact agree_nil _)

/-- The means. -/
theorem mean_eq : RowIs (kernelRun0_A.sl.r_12 (F := Ideal) c arg1 harg1 arg2 harg2 arg3 harg3 arg6 harg6 arg13 x0 x1 x2 x5) (mean (hid P wo X T)) := by
  have hq := agree_pars c arg6 harg6  hp
  have hv := cover_pars c arg6 harg6  (x5 := x5)
  refine mean_row ?_
  repeat' (first
    | refine acc_succ _ ?_ ?_ ?_ (rows_hid (rows1_unread harg1 h0)
        (dot_whole (square_unread harg3 h2) (plane_unread harg2 h1)) (rowsP_cov hq hv 0 (by decide)))
    | exact acc_zero
    | rfl
    | decide)

/-- One over the deviations. -/
theorem rstd_eq : RowIs (kernelRun0_A.sl.r_15 (F := Ideal) c arg1 harg1 arg2 harg2 arg3 harg3 arg6 harg6 arg13 arg15 x0 x1 x2 x5) (rstd (hid P wo X T)) := by
  have hq := agree_pars c arg6 harg6  hp
  have hv := cover_pars c arg6 harg6  (x5 := x5)
  have hh := agree_hid c arg1 harg1 arg2 harg2 arg3 harg3 arg6 harg6 arg13  h0 h1 h2 hp
  have hc := cover_hid c arg1 harg1 arg2 harg2 arg3 harg3 arg6 harg6 arg13  x0 x1 x2 x5
  have hm := mean_eq c arg1 harg1 arg2 harg2 arg3 harg3 arg6 harg6 arg13  h0 h1 h2 hp
  refine rs_row ?_
  repeat' (first
    | refine acc_succ _ ?_ ?_ ?_ (rows_sq (rows_cov hh hc) hm)
    | exact acc_zero
    | rfl
    | decide)

/-- The normalised stream. -/
theorem agree_norm : Agree (kernelRun0_A.sl.HS3_30 (F := Ideal) c arg1 harg1 arg2 harg2 arg3 harg3 arg6 harg6 arg13 arg15 x0 x1 x2 x5) (flat (norm P (hid P wo X T))) := by
  have hq := agree_pars c arg6 harg6  hp
  have hv := cover_pars c arg6 harg6  (x5 := x5)
  have hh := agree_hid c arg1 harg1 arg2 harg2 arg3 harg3 arg6 harg6 arg13  h0 h1 h2 hp
  have hc := cover_hid c arg1 harg1 arg2 harg2 arg3 harg3 arg6 harg6 arg13  x0 x1 x2 x5
  have hm := mean_eq c arg1 harg1 arg2 harg2 arg3 harg3 arg6 harg6 arg13  h0 h1 h2 hp
  have hs := rstd_eq c arg1 harg1 arg2 harg2 arg3 harg3 arg6 harg6 arg13 arg15  h0 h1 h2 hp
  repeat' (first
    | refine agree_rows_bf16 (rows_cast (rows_norm (rows_cov hh hc) hm hs (rowsP_cov hq hv 1 (by decide))
        (rowsP_cov hq hv 2 (by decide)))) ?_
    | exact agree_nil _)

variable (h3 : ∀ j d k, x3 (ix3 j d k) = w1 j d k) (h4 : ∀ d k, x4 (ix2 d k) = w2 d k)
  {x6 : Vec Ideal S8x960x256 .fp8e4m3} {x7 : Vec Ideal S8x256 .f32} {q : Fin 8 → Plane} {σ : Fin 8 → Fin 256 → EReal}
  (h6 : ∀ n k b, x6 (ix3 n k b) = q n k b) (h7 : ∀ n b, x7 (ix2 n b) = σ n b)
  (hc0 : cond0_0 i) (hc1 : ¬cond0_1 i) (hi : (i 0).val = 0) {Y : S22x960x256.Idx → EReal} {Z : ℕ → Plane}
  (hY : ∀ n (hn : n < 22), n < 9 → ∀ k b, Y (ix3 ⟨n, hn⟩ k b) = Z n k b)
  (hz : ∀ n : Fin 8, Z n.val = fun k b => q n k b * σ n b)
  (hg : Z 8 = glu P w1 (norm P (hid P wo X T)))

include h6 h7 hY hz in
omit h0 h1 h2 hp in
/-- The eight planes of the history: codes times scales. -/
theorem full_history : Full (kernelRun0_A.sl.HS1_240 (F := Ideal) c arg7 harg7 arg8 harg8 x6 x7) Y 7680 := by
  have hn : ∀ n (hn : n < 22) (h8 : n < 8), ∀ k b, Y (ix3 ⟨n, hn⟩ k b) = q ⟨n, h8⟩ k b * σ ⟨n, h8⟩ b := fun n _ h8 k b => by
    rw [hY _ _ (by omega), hz ⟨n, h8⟩]
  repeat' (first
    | refine full_succ _ (by decide) (rows1_cast (rows_code (rows1_codes harg7 h6 _ (by decide)) (row_scales harg8 h7 _ (by decide))))
        (hn _ _ _) rfl ?_ ?_
    | exact full_nil
    | rfl)

include h3 h6 h7 hY hz hg hi

/-- The history and the new row, which is the gated linear unit. -/
theorem full_new : Full (kernelRun0_A.sl.HS1_270 (F := Ideal) c i arg1 harg1 arg2 harg2 arg3 harg3 arg4 harg4 arg6 harg6 arg7 harg7 arg8 harg8 arg13 arg15 arg16 x0 x1 x2 x3 x5 x6 x7) Y 8640 := by
  have hq := agree_pars c arg6 harg6  hp
  have hv := cover_pars c arg6 harg6  (x5 := x5)
  have hh := agree_norm c arg1 harg1 arg2 harg2 arg3 harg3 arg6 harg6 arg13 arg15  h0 h1 h2 hp
  have hc := cover_norm c arg1 harg1 arg2 harg2 arg3 harg3 arg6 harg6 arg13 arg15  x0 x1 x2 x5
  have h240 : Full (kernelRun0_A.sl.HS1_240 (F := Ideal) c arg7 harg7 arg8 harg8 x6 x7) Y (960 * 8 + 0) := full_history c arg7 harg7 arg8 harg8  h6 h7 hY hz
  have hn : ∀ k b, Y (ix3 ⟨8, by decide⟩ k b) = glu P w1 (norm P (hid P wo X T)) k b := fun k b => by
    rw [hY _ _ (by decide), hg]
  have ho : ∀ {off : Fin 3 → ℕ} {r : ℕ}, off = ![(i 0).val + 8, r, 0] → off = ![8, r, 0] := fun h => by rw [h, hi]
  repeat' (first
    | exact h240
    | refine full_succ 8 _ (rows1_cast (rows_glu _ ?_ (by decide)
        (dot_half _ (by decide) (half_unread harg4 h3 0 _ (by decide) (by decide)) (plane_cov hh hc))
        (dot_half _ (by decide) (half_unread harg4 h3 1 _ (by decide) (by decide)) (plane_cov hh hc))
        (rowsP_cov hq hv 3 (by decide)) (rowsP_cov hq hv 4 (by decide)))) hn (ho ClosedOff.eq) ?_ ?_
    | rfl)

set_option maxHeartbeats 4000000 in
/-- The convolution's output. -/
theorem agree_conv : Agree (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1).2.1 (flat1 (conv P fun j => Z ((i 0).val + j.val))) := by
  have hq := agree_pars c arg6 harg6  hp
  have hv := cover_pars c arg6 harg6  (x5 := x5)
  have hh := agree_norm c arg1 harg1 arg2 harg2 arg3 harg3 arg6 harg6 arg13 arg15  h0 h1 h2 hp
  have hc := cover_norm c arg1 harg1 arg2 harg2 arg3 harg3 arg6 harg6 arg13 arg15  x0 x1 x2 x5
  have hw : ∀ j : Fin 8, (i 0).val + j.val < 22 := fun j => by omega
  have hw' : ∀ j : Fin 8, (i 0).val + j.val < 8 := fun j => by omega
  have hl : ∀ j : Fin 8, ∀ k b, Y (ix3 ⟨(i 0).val + j.val, hw j⟩ k b) = Z ((i 0).val + j.val) k b := fun j =>
    hY _ (hw j) (by omega)
  have hg' : Z ((i 0).val + 8) = glu P w1 (norm P (hid P wo X T)) := by rw [hi]; exact hg
  have hH := hist_of_full (full_new c i arg1 harg1 arg2 harg2 arg3 harg3 arg4 harg4 arg6 harg6 arg7 harg7 arg8 harg8 arg13 arg15 arg16  h0 h1 h2 hp h3 h6 h7 hi hY hz hg) (by decide)
  repeat' (first
    | refine agree_rows1 (rows1_cast (rows_conv (z := fun j => Z ((i 0).val + j.val)) (w := tap P) (p := P 5) (q := P 6)
        (rows1_hist hH _ (hw 0) (hw' 0) (hl 0) ClosedOff.eq) (rows1_hist hH _ (hw 1) (hw' 1) (hl 1) ClosedOff.eq)
        (rows1_hist hH _ (hw 2) (hw' 2) (hl 2) ClosedOff.eq) (rows1_hist hH _ (hw 3) (hw' 3) (hl 3) ClosedOff.eq)
        (rows1_hist hH _ (hw 4) (hw' 4) (hl 4) ClosedOff.eq) (rows1_hist hH _ (hw 5) (hw' 5) (hl 5) ClosedOff.eq)
        (rows1_hist hH _ (hw 6) (hw' 6) (hl 6) ClosedOff.eq) (rows1_hist hH _ (hw 7) (hw' 7) (hl 7) ClosedOff.eq)
        ?_
        (rowsP_cov hq hv 8 (by decide)) (rowsP_cov hq hv 9 (by decide)) (rowsP_cov hq hv 10 (by decide))
        (rowsP_cov hq hv 11 (by decide)) (rowsP_cov hq hv 12 (by decide)) (rowsP_cov hq hv 13 (by decide))
        (rowsP_cov hq hv 14 (by decide)) (rowsP_cov hq hv 15 (by decide)) (rowsP_cov hq hv 16 (by decide))
        (rowsP_cov hq hv 5 (by decide)) (rowsP_cov hq hv 6 (by decide)) rfl)) (have hH := hist_tail hH ClosedOff.eq; ?_)
    | (refine rows_of_eq hg' ?_
       refine rows_glu _ ?_ (by decide) (dot_half _ (by decide) (half_unread harg4 h3 0 _ (by decide) (by decide)) (plane_cov hh hc))
          (dot_half _ (by decide) (half_unread harg4 h3 1 _ (by decide) (by decide)) (plane_cov hh hc))
          (rowsP_cov hq hv 3 (by decide)) (rowsP_cov hq hv 4 (by decide)))
    | exact agree_nil _
    | rfl)

/-- Its chunks cover the result's buffer. -/
theorem cover_conv : ∀ y : S1x960x256.Idx, ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1).2.1, y ∈ p.1.set :=
  View.cover_of_tiled _ S1x32x256.size (by rfl)

include h4

/-- The first result. -/
theorem agree_out : Agree (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1).1 (flat1 (out P w2 (hid P wo X T) (conv P fun j => Z ((i 0).val + j.val)))) := by
  have hq := agree_pars c arg6 harg6  hp
  have hv := cover_pars c arg6 harg6  (x5 := x5)
  have hh := agree_hid c arg1 harg1 arg2 harg2 arg3 harg3 arg6 harg6 arg13  h0 h1 h2 hp
  have hc := cover_hid c arg1 harg1 arg2 harg2 arg3 harg3 arg6 harg6 arg13  x0 x1 x2 x5
  have hu := agree_conv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 (x4 := x4) (xs1 := xs1) h6 h7 hc0 hc1 hi hY hz hg
  have hd := cover_conv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 (x4 := x4) (xs1 := xs1) h6 h7 hc0 hc1 hi hY hz hg
  repeat' (first
    | refine agree_rows1 (rows1_cast (rows_out (rows_cov hh hc) (dot_whole (square_unread harg5 h4) (plane1_cov hu hd))
        (rowsP_cov hq hv 7 (by decide)))) ?_
    | exact agree_nil _)

theorem cover_out : ∀ y : S1x960x256.Idx, ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1).1, y ∈ p.1.set :=
  View.cover_of_tiled _ S1x32x256.size (by rfl)

end A

end Cert.KernelIdeal.Hand

end
-- ==== Proof.Body.RunB.lean ====
/- The body run at grid points 1 to 5 (no initialisation, no quantisation). -/
module

public import proofs.«01_k».proof.Proof.Body.Runs

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8464000 in
/-- The whole-body run at grid points 1 to 5: the pieces the body's stores leave in the two results' buffers (`L8`, `L9`), in the row
    buffer of the convolution (`LS1`, over the contents `xs1` it had) and, where they are written, in the other buffers, WITH the
    proof that the body runs from the inputs' contents to these pieces. The run itself finds the pieces. -/
noncomputable def kernelRun0_B (c : Dev nD) (i : grid0.Coords) (arg1 : Memref sig .tc .vmem S1x960x256 .bf16) (harg1 : arg1.IsWhole) (arg2 : Memref sig .tc .vmem S1x960x256 .bf16) (harg2 : arg2.IsWhole) (arg3 : Memref sig .tc .vmem S960x960 .bf16) (harg3 : arg3.IsWhole) (arg4 : Memref sig .tc .vmem S2x960x960 .bf16) (harg4 : arg4.IsWhole) (arg5 : Memref sig .tc .vmem S960x960 .bf16) (harg5 : arg5.IsWhole) (arg6 : Memref sig .tc .vmem S960x17 .f32) (harg6 : arg6.IsWhole) (arg7 : Memref sig .tc .vmem S8x960x256 .fp8e4m3) (harg7 : arg7.IsWhole) (arg8 : Memref sig .tc .vmem S8x256 .f32) (harg8 : arg8.IsWhole) (arg9 : Memref sig .tc .vmem S1x960x256 .bf16) (harg9 : arg9.IsWhole) (arg10 : Memref sig .tc .vmem S1x960x256 .bf16) (harg10 : arg10.IsWhole) (arg11 : Memref sig .tc .vmem S1x960x256 .fp8e4m3) (harg11 : arg11.IsWhole) (arg12 : Memref sig .tc .vmem S8x256 .f32) (harg12 : arg12.IsWhole) (arg13 : Memref sig .tc .vmem S17x960x128 .f32) (harg13 : arg13.IsWhole) (arg14 : Memref sig .tc .vmem S22x960x256 .f32) (harg14 : arg14.IsWhole) (arg15 : Memref sig .tc .vmem S960x256 .f32) (harg15 : arg15.IsWhole) (arg16 : Memref sig .tc .vmem S960x256 .bf16) (harg16 : arg16.IsWhole) (hc0 : ¬cond0_0 i) (hc1 : ¬cond0_1 i)
    (x0 : Vec F S1x960x256 .bf16) (x1 : Vec F S1x960x256 .bf16) (x2 : Vec F S960x960 .bf16) (x3 : Vec F S2x960x960 .bf16) (x4 : Vec F S960x960 .bf16) (x5 : Vec F S960x17 .f32) (x6 : Vec F S8x960x256 .fp8e4m3) (x7 : Vec F S8x256 .f32) (xs0 : Vec F S17x960x128 .f32) (xs1 : Vec F S22x960x256 .f32) :
    Σ' (L8 : List (View.Piece (Elt F) S1x960x256 .bf16)) (L9 : List (View.Piece (Elt F) S1x960x256 .bf16)), { LS1 : List (View.Piece (Elt F) S22x960x256 .f32) //
      ∀ (E : Set ℕ) (K : PUnit → sProp 𝕄) (d10 : Vec F S1x960x256 .fp8e4m3) (d11 : Vec F S8x256 .f32),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare d10 ∗ owns (c : Thread nD τ) arg12 fullShare d11 ∗ owns (c : Thread nD τ) arg13 fullShare xs0 ∗ owns (c : Thread nD τ) arg14 fullShare xs1 ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare d10 ∗ owns (c : Thread nD τ) arg12 fullShare d11 ∗ owns (c : Thread nD τ) arg13 fullShare xs0 ∗ (arg14.view.loc (c : Thread nD τ) ↦[arg14.view.set]{fullShare} arg14.view.writes (Elt F) (harg14.unread xs1) LS1) ∗ (∃ d, owns (c : Thread nD τ) arg15 fullShare d) ∗ (∃ d, owns (c : Thread nD τ) arg16 fullShare d)) -∗ K ⟨⟩))
          ⊢ wp frame (wpE (defs₀ (F := F)) Variants.none c none) E (cc0_conv_module i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K d10 d11 => ?run⟩
  case run =>
    simp only [cc0_conv_module_eq_skeleton]; unfold cc0_conv_module_skel
    simp only [k0_part260_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part261_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%fs0, %hfs0, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs0; obtain rfl := harg14.eq_unread hfs1; obtain rfl := harg12.eq_unread hf11; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]
    · iexists _; isplitr; · ipureintro; exact harg13.read_unread _
      iexact HS0
    isplitl [HS1]; · iexact HS1
    isplitl [HS2]
    · iexists _, _; isplitr; swap; · iexact HS2
      ipureintro; rfl
    iexists _, _; isplitr; swap; · iexact HS3
    ipureintro; rfl

end Cert.KernelIdeal.Hand

end
-- ==== Proof.ValB.lean ====
/- The values of the body's run at grid points 1 to 5. -/
module

public import proofs.«01_k».proof.Proof.Body.RunB
public import proofs.«01_k».proof.Proof.Loads

@[expose] public section

noncomputable section

namespace Cert.KernelIdeal.Hand

open Cert.KernelIdeal.Gen Cert.Conv
open Idealize.ShloMosaic Idealize.ShloMosaic.TcCoe Idealize.SL.Sem

namespace B

variable (c : Dev nD) (i : grid0.Coords) (arg1 : Memref sig .tc .vmem S1x960x256 .bf16) (harg1 : arg1.IsWhole) (arg2 : Memref sig .tc .vmem S1x960x256 .bf16) (harg2 : arg2.IsWhole) (arg3 : Memref sig .tc .vmem S960x960 .bf16) (harg3 : arg3.IsWhole) (arg4 : Memref sig .tc .vmem S2x960x960 .bf16) (harg4 : arg4.IsWhole) (arg5 : Memref sig .tc .vmem S960x960 .bf16) (harg5 : arg5.IsWhole) (arg6 : Memref sig .tc .vmem S960x17 .f32) (harg6 : arg6.IsWhole) (arg7 : Memref sig .tc .vmem S8x960x256 .fp8e4m3) (harg7 : arg7.IsWhole) (arg8 : Memref sig .tc .vmem S8x256 .f32) (harg8 : arg8.IsWhole) (arg9 : Memref sig .tc .vmem S1x960x256 .bf16) (harg9 : arg9.IsWhole) (arg10 : Memref sig .tc .vmem S1x960x256 .bf16) (harg10 : arg10.IsWhole) (arg11 : Memref sig .tc .vmem S1x960x256 .fp8e4m3) (harg11 : arg11.IsWhole) (arg12 : Memref sig .tc .vmem S8x256 .f32) (harg12 : arg12.IsWhole) (arg13 : Memref sig .tc .vmem S17x960x128 .f32) (harg13 : arg13.IsWhole) (arg14 : Memref sig .tc .vmem S22x960x256 .f32) (harg14 : arg14.IsWhole) (arg15 : Memref sig .tc .vmem S960x256 .f32) (harg15 : arg15.IsWhole) (arg16 : Memref sig .tc .vmem S960x256 .bf16) (harg16 : arg16.IsWhole)

/-- The residual stream's chunks cover its buffer. -/
theorem cover_hid (x0 x1 : Vec Ideal S1x960x256 .bf16) (x2 : Vec Ideal S960x960 .bf16) (xs0 : Vec Ideal S17x960x128 .f32) : ∀ y : S960x256.Idx, ∃ p ∈ (kernelRun0_B.sl.HS2_30 (F := Ideal) c arg1 harg1 arg2 harg2 arg3 harg3 arg13 harg13 x0 x1 x2 xs0), y ∈ p.1.set :=
  View.cover_of_tiled _ S32x256.size (by rfl)

/-- The normalised stream's chunks cover its buffer. -/
theorem cover_norm (x0 x1 : Vec Ideal S1x960x256 .bf16) (x2 : Vec Ideal S960x960 .bf16) (xs0 : Vec Ideal S17x960x128 .f32) :
    ∀ y : S960x256.Idx, ∃ p ∈ (kernelRun0_B.sl.HS3_30 (F := Ideal) c arg1 harg1 arg2 harg2 arg3 harg3 arg13 harg13 arg15 x0 x1 x2 xs0), y ∈ p.1.set :=
  View.cover_of_tiled _ S32x256.size (by rfl)

variable
  {x0 x1 : Vec Ideal S1x960x256 .bf16} {x2 : Vec Ideal S960x960 .bf16} {x3 : Vec Ideal S2x960x960 .bf16} {x4 : Vec Ideal S960x960 .bf16}
  {xs0 : Vec Ideal S17x960x128 .f32} {xs1 : Vec Ideal S22x960x256 .f32}
  {X T : Plane} {P : Fin 17 → Col} {wo w2 : Fin 960 → Fin 960 → EReal} {w1 : Fin 2 → Fin 960 → Fin 960 → EReal}
  (h0 : ∀ k b, x0 (ix3 0 k b) = X k b) (h1 : ∀ k b, x1 (ix3 0 k b) = T k b) (h2 : ∀ d k, x2 (ix2 d k) = wo d k)
  (hp : ∀ j k l, xs0 (ix3 j k l) = P j k)

include h0 h1 h2 hp

/-- The residual stream after attention. -/
theorem agree_hid : Agree (kernelRun0_B.sl.HS2_30 (F := Ideal) c arg1 harg1 arg2 harg2 arg3 harg3 arg13 harg13 x0 x1 x2 xs0) (flat (hid P wo X T)) := by
  repeat' (first
    | refine agree_rows (rows_cast (rows_hid (rows1_unread harg1 h0)
        (dot_whole (square_unread harg3 h2) (plane_unread harg2 h1)) (rowsP_unread harg13 hp 0 (by decide)))) ?_
    | exact agree_nil _)

/-- The means. -/
theorem mean_eq : RowIs (kernelRun0_B.sl.r_1 (F := Ideal) c arg1 harg1 arg2 harg2 arg3 harg3 arg13 harg13 x0 x1 x2 xs0) (mean (hid P wo X T)) := by
  refine mean_row ?_
  repeat' (first
    | refine acc_succ _ ?_ ?_ ?_ (rows_hid (rows1_unread harg1 h0)
        (dot_whole (square_unread harg3 h2) (plane_unread harg2 h1)) (rowsP_unread harg13 hp 0 (by decide)))
    | exact acc_zero
    | rfl
    | decide)

/-- One over the deviations. -/
theorem rstd_eq : RowIs (kernelRun0_B.sl.r_4 (F := Ideal) c arg1 harg1 arg2 harg2 arg3 harg3 arg13 harg13 arg15 x0 x1 x2 xs0) (rstd (hid P wo X T)) := by
  have hh := agree_hid c arg1 harg1 arg2 harg2 arg3 harg3 arg13 harg13  h0 h1 h2 hp
  have hc := cover_hid c arg1 harg1 arg2 harg2 arg3 harg3 arg13 harg13  x0 x1 x2 xs0
  have hm := mean_eq c arg1 harg1 arg2 harg2 arg3 harg3 arg13 harg13  h0 h1 h2 hp
  refine rs_row ?_
  repeat' (first
    | refine acc_succ _ ?_ ?_ ?_ (rows_sq (rows_cov hh hc) hm)
    | exact acc_zero
    | rfl
    | decide)

/-- The normalised stream. -/
theorem agree_norm : Agree (kernelRun0_B.sl.HS3_30 (F := Ideal) c arg1 harg1 arg2 harg2 arg3 harg3 arg13 harg13 arg15 x0 x1 x2 xs0) (flat (norm P (hid P wo X T))) := by
  have hh := agree_hid c arg1 harg1 arg2 harg2 arg3 harg3 arg13 harg13  h0 h1 h2 hp
  have hc := cover_hid c arg1 harg1 arg2 harg2 arg3 harg3 arg13 harg13  x0 x1 x2 xs0
  have hm := mean_eq c arg1 harg1 arg2 harg2 arg3 harg3 arg13 harg13  h0 h1 h2 hp
  have hs := rstd_eq c arg1 harg1 arg2 harg2 arg3 harg3 arg13 harg13 arg15  h0 h1 h2 hp
  repeat' (first
    | refine agree_rows_bf16 (rows_cast (rows_norm (rows_cov hh hc) hm hs (rowsP_unread harg13 hp 1 (by decide))
        (rowsP_unread harg13 hp 2 (by decide)))) ?_
    | exact agree_nil _)

variable (h3 : ∀ j d k, x3 (ix3 j d k) = w1 j d k) (h4 : ∀ d k, x4 (ix2 d k) = w2 d k)
  {x5 : Vec Ideal S960x17 .f32} {x6 : Vec Ideal S8x960x256 .fp8e4m3} {x7 : Vec Ideal S8x256 .f32}
  (hc0 : ¬cond0_0 i) (hc1 : ¬cond0_1 i) {Z : ℕ → Plane}
  (hz : ∀ n (hn : n < 22), n < (i 0).val + 8 → ∀ k b, xs1 (ix3 ⟨n, hn⟩ k b) = Z n k b)
  (hg : Z ((i 0).val + 8) = glu P w1 (norm P (hid P wo X T)))

include h3

/-- The new row of the convolution's buffer is the gated linear unit. -/
theorem band_new (n : Fin 22) (hn : n.val = (i 0).val + 8) (Y : S22x960x256.Idx → EReal)
    (hY : ∀ k b, Y (ix3 n k b) = glu P w1 (norm P (hid P wo X T)) k b) : Band (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1).2.2.1 Y n 960 := by
  have hh := agree_norm c arg1 harg1 arg2 harg2 arg3 harg3 arg13 harg13 arg15  h0 h1 h2 hp
  have hc := cover_norm c arg1 harg1 arg2 harg2 arg3 harg3 arg13 harg13 arg15  x0 x1 x2 xs0
  repeat' (first
    | refine band_succ (rows1_cast (rows_glu _ ?_ (by decide) (dot_half _ (by decide) (half_unread harg4 h3 0 _ (by decide) (by decide)) (plane_cov hh hc))
        (dot_half _ (by decide) (half_unread harg4 h3 1 _ (by decide) (by decide)) (plane_cov hh hc))
        (rowsP_unread harg13 hp 3 (by decide)) (rowsP_unread harg13 hp 4 (by decide)))) hY (by rw [hn]; exact ClosedOff.eq) ?_ ?_
    | exact band_zero (agree_nil _)
    | rfl)

include hz hg

/-- The convolution's output. -/
theorem agree_conv : Agree (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1).2.1 (flat1 (conv P fun j => Z ((i 0).val + j.val))) := by
  have hh := agree_norm c arg1 harg1 arg2 harg2 arg3 harg3 arg13 harg13 arg15  h0 h1 h2 hp
  have hc := cover_norm c arg1 harg1 arg2 harg2 arg3 harg3 arg13 harg13 arg15  x0 x1 x2 xs0
  have hi : (i 0).val < 14 := (i 0).isLt
  have hw : ∀ j : Fin 8, (i 0).val + j.val < 22 := fun j => by omega
  have hl : ∀ j : Fin 8, ∀ k b, xs1 (ix3 ⟨(i 0).val + j.val, hw j⟩ k b) = Z ((i 0).val + j.val) k b := fun j =>
    hz _ (hw j) (by omega)
  repeat' (first
    | refine agree_rows1 (rows1_cast (rows_conv (z := fun j => Z ((i 0).val + j.val)) (w := tap P) (p := P 5) (q := P 6)
        (rows1_plane harg14 _ (hw 0) (hl 0) ClosedOff.eq) (rows1_plane harg14 _ (hw 1) (hl 1) ClosedOff.eq)
        (rows1_plane harg14 _ (hw 2) (hl 2) ClosedOff.eq) (rows1_plane harg14 _ (hw 3) (hl 3) ClosedOff.eq)
        (rows1_plane harg14 _ (hw 4) (hl 4) ClosedOff.eq) (rows1_plane harg14 _ (hw 5) (hl 5) ClosedOff.eq)
        (rows1_plane harg14 _ (hw 6) (hl 6) ClosedOff.eq) (rows1_plane harg14 _ (hw 7) (hl 7) ClosedOff.eq)
        ?_
        (rowsP_unread harg13 hp 8 (by decide)) (rowsP_unread harg13 hp 9 (by decide)) (rowsP_unread harg13 hp 10 (by decide))
        (rowsP_unread harg13 hp 11 (by decide)) (rowsP_unread harg13 hp 12 (by decide)) (rowsP_unread harg13 hp 13 (by decide))
        (rowsP_unread harg13 hp 14 (by decide)) (rowsP_unread harg13 hp 15 (by decide)) (rowsP_unread harg13 hp 16 (by decide))
        (rowsP_unread harg13 hp 5 (by decide)) (rowsP_unread harg13 hp 6 (by decide)) rfl)) ?_
    | (refine rows_of_eq hg ?_
       refine rows_glu _ ?_ (by decide) (dot_half _ (by decide) (half_unread harg4 h3 0 _ (by decide) (by decide)) (plane_cov hh hc))
          (dot_half _ (by decide) (half_unread harg4 h3 1 _ (by decide) (by decide)) (plane_cov hh hc))
          (rowsP_unread harg13 hp 3 (by decide)) (rowsP_unread harg13 hp 4 (by decide)))
    | exact agree_nil _
    | rfl)

/-- Its chunks cover the result's buffer. -/
theorem cover_conv : ∀ y : S1x960x256.Idx, ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1).2.1, y ∈ p.1.set :=
  View.cover_of_tiled _ S1x32x256.size (by rfl)

include h4

/-- The first result. -/
theorem agree_out : Agree (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1).1 (flat1 (out P w2 (hid P wo X T) (conv P fun j => Z ((i 0).val + j.val)))) := by
  have hh := agree_hid c arg1 harg1 arg2 harg2 arg3 harg3 arg13 harg13  h0 h1 h2 hp
  have hc := cover_hid c arg1 harg1 arg2 harg2 arg3 harg3 arg13 harg13  x0 x1 x2 xs0
  have hu := agree_conv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 (x4 := x4) (x5 := x5) (x6 := x6) (x7 := x7) hc0 hc1 hz hg
  have hd := cover_conv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 (x4 := x4) (x5 := x5) (x6 := x6) (x7 := x7) hc0 hc1 hz hg
  repeat' (first
    | refine agree_rows1 (rows1_cast (rows_out (rows_cov hh hc) (dot_whole (square_unread harg5 h4) (plane1_cov hu hd))
        (rowsP_unread harg13 hp 7 (by decide)))) ?_
    | exact agree_nil _)

theorem cover_out : ∀ y : S1x960x256.Idx, ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1).1, y ∈ p.1.set :=
  View.cover_of_tiled _ S1x32x256.size (by rfl)

end B

end Cert.KernelIdeal.Hand

end
-- ==== Proof.Body.RunC.lean ====
/- The body run at grid points 6 to 13 (no initialisation, quantisation of the new rows). -/
module

public import proofs.«01_k».proof.Proof.Body.Runs

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 9728000 in
/-- The whole-body run at grid points 6 to 13: the pieces the body's stores leave in the two results' buffers (`L8`, `L9`), in the row
    buffer of the convolution (`LS1`, over the contents `xs1` it had) and, where they are written, in the other buffers, WITH the
    proof that the body runs from the inputs' contents to these pieces. The run itself finds the pieces. -/
noncomputable def kernelRun0_C (c : Dev nD) (i : grid0.Coords) (arg1 : Memref sig .tc .vmem S1x960x256 .bf16) (harg1 : arg1.IsWhole) (arg2 : Memref sig .tc .vmem S1x960x256 .bf16) (harg2 : arg2.IsWhole) (arg3 : Memref sig .tc .vmem S960x960 .bf16) (harg3 : arg3.IsWhole) (arg4 : Memref sig .tc .vmem S2x960x960 .bf16) (harg4 : arg4.IsWhole) (arg5 : Memref sig .tc .vmem S960x960 .bf16) (harg5 : arg5.IsWhole) (arg6 : Memref sig .tc .vmem S960x17 .f32) (harg6 : arg6.IsWhole) (arg7 : Memref sig .tc .vmem S8x960x256 .fp8e4m3) (harg7 : arg7.IsWhole) (arg8 : Memref sig .tc .vmem S8x256 .f32) (harg8 : arg8.IsWhole) (arg9 : Memref sig .tc .vmem S1x960x256 .bf16) (harg9 : arg9.IsWhole) (arg10 : Memref sig .tc .vmem S1x960x256 .bf16) (harg10 : arg10.IsWhole) (arg11 : Memref sig .tc .vmem S1x960x256 .fp8e4m3) (harg11 : arg11.IsWhole) (arg12 : Memref sig .tc .vmem S8x256 .f32) (harg12 : arg12.IsWhole) (arg13 : Memref sig .tc .vmem S17x960x128 .f32) (harg13 : arg13.IsWhole) (arg14 : Memref sig .tc .vmem S22x960x256 .f32) (harg14 : arg14.IsWhole) (arg15 : Memref sig .tc .vmem S960x256 .f32) (harg15 : arg15.IsWhole) (arg16 : Memref sig .tc .vmem S960x256 .bf16) (harg16 : arg16.IsWhole) (hc0 : ¬cond0_0 i) (hc1 : cond0_1 i)
    (x0 : Vec F S1x960x256 .bf16) (x1 : Vec F S1x960x256 .bf16) (x2 : Vec F S960x960 .bf16) (x3 : Vec F S2x960x960 .bf16) (x4 : Vec F S960x960 .bf16) (x5 : Vec F S960x17 .f32) (x6 : Vec F S8x960x256 .fp8e4m3) (x7 : Vec F S8x256 .f32) (d11 : Vec F S8x256 .f32) (xs0 : Vec F S17x960x128 .f32) (xs1 : Vec F S22x960x256 .f32) :
    Σ' (L8 : List (View.Piece (Elt F) S1x960x256 .bf16)) (L9 : List (View.Piece (Elt F) S1x960x256 .bf16)) (L10 : List (View.Piece (Elt F) S1x960x256 .fp8e4m3)) (L11 : List (View.Piece (Elt F) S8x256 .f32)), { LS1 : List (View.Piece (Elt F) S22x960x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare d11 ∗ owns (c : Thread nD τ) arg13 fullShare xs0 ∗ owns (c : Thread nD τ) arg14 fullShare xs1 ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (arg12.view.loc (c : Thread nD τ) ↦[arg12.view.set]{fullShare} arg12.view.writes (Elt F) (harg12.unread d11) L11) ∗ owns (c : Thread nD τ) arg13 fullShare xs0 ∗ (arg14.view.loc (c : Thread nD τ) ↦[arg14.view.set]{fullShare} arg14.view.writes (Elt F) (harg14.unread xs1) LS1) ∗ (∃ d, owns (c : Thread nD τ) arg15 fullShare d) ∗ (∃ d, owns (c : Thread nD τ) arg16 fullShare d)) -∗ K ⟨⟩))
          ⊢ wp frame (wpE (defs₀ (F := F)) Variants.none c none) E (cc0_conv_module i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_conv_module_eq_skeleton]; unfold cc0_conv_module_skel
    simp only [k0_part260_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part261_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part131_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%fs0, %hfs0, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs0; obtain rfl := harg14.eq_unread hfs1; obtain rfl := harg12.eq_unread hf11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexact H11
    isplitl [HS0]
    · iexists _; isplitr; · ipureintro; exact harg13.read_unread _
      iexact HS0
    isplitl [HS1]; · iexact HS1
    isplitl [HS2]
    · iexists _, _; isplitr; swap; · iexact HS2
      ipureintro; rfl
    iexists _, _; isplitr; swap; · iexact HS3
    ipureintro; rfl

end Cert.KernelIdeal.Hand

end
-- ==== Proof.ValC.lean ====
/- The values of the body's run at grid points 6 to 13. -/
module

public import proofs.«01_k».proof.Proof.Body.RunC
public import proofs.«01_k».proof.Proof.Loads

@[expose] public section

noncomputable section

namespace Cert.KernelIdeal.Hand

open Cert.KernelIdeal.Gen Cert.Conv
open Idealize.ShloMosaic Idealize.ShloMosaic.TcCoe Idealize.SL.Sem

namespace C

variable (c : Dev nD) (i : grid0.Coords) (arg1 : Memref sig .tc .vmem S1x960x256 .bf16) (harg1 : arg1.IsWhole) (arg2 : Memref sig .tc .vmem S1x960x256 .bf16) (harg2 : arg2.IsWhole) (arg3 : Memref sig .tc .vmem S960x960 .bf16) (harg3 : arg3.IsWhole) (arg4 : Memref sig .tc .vmem S2x960x960 .bf16) (harg4 : arg4.IsWhole) (arg5 : Memref sig .tc .vmem S960x960 .bf16) (harg5 : arg5.IsWhole) (arg6 : Memref sig .tc .vmem S960x17 .f32) (harg6 : arg6.IsWhole) (arg7 : Memref sig .tc .vmem S8x960x256 .fp8e4m3) (harg7 : arg7.IsWhole) (arg8 : Memref sig .tc .vmem S8x256 .f32) (harg8 : arg8.IsWhole) (arg9 : Memref sig .tc .vmem S1x960x256 .bf16) (harg9 : arg9.IsWhole) (arg10 : Memref sig .tc .vmem S1x960x256 .bf16) (harg10 : arg10.IsWhole) (arg11 : Memref sig .tc .vmem S1x960x256 .fp8e4m3) (harg11 : arg11.IsWhole) (arg12 : Memref sig .tc .vmem S8x256 .f32) (harg12 : arg12.IsWhole) (arg13 : Memref sig .tc .vmem S17x960x128 .f32) (harg13 : arg13.IsWhole) (arg14 : Memref sig .tc .vmem S22x960x256 .f32) (harg14 : arg14.IsWhole) (arg15 : Memref sig .tc .vmem S960x256 .f32) (harg15 : arg15.IsWhole) (arg16 : Memref sig .tc .vmem S960x256 .bf16) (harg16 : arg16.IsWhole)

/-- The residual stream's chunks cover its buffer. -/
theorem cover_hid (x0 x1 : Vec Ideal S1x960x256 .bf16) (x2 : Vec Ideal S960x960 .bf16) (xs0 : Vec Ideal S17x960x128 .f32) : ∀ y : S960x256.Idx, ∃ p ∈ (kernelRun0_C.sl.HS2_30 (F := Ideal) c arg1 harg1 arg2 harg2 arg3 harg3 arg13 harg13 x0 x1 x2 xs0), y ∈ p.1.set :=
  View.cover_of_tiled _ S32x256.size (by rfl)

/-- The normalised stream's chunks cover its buffer. -/
theorem cover_norm (x0 x1 : Vec Ideal S1x960x256 .bf16) (x2 : Vec Ideal S960x960 .bf16) (xs0 : Vec Ideal S17x960x128 .f32) :
    ∀ y : S960x256.Idx, ∃ p ∈ (kernelRun0_C.sl.HS3_30 (F := Ideal) c arg1 harg1 arg2 harg2 arg3 harg3 arg13 harg13 arg15 x0 x1 x2 xs0), y ∈ p.1.set :=
  View.cover_of_tiled _ S32x256.size (by rfl)

variable
  {x0 x1 : Vec Ideal S1x960x256 .bf16} {x2 : Vec Ideal S960x960 .bf16} {x3 : Vec Ideal S2x960x960 .bf16} {x4 : Vec Ideal S960x960 .bf16}
  {xs0 : Vec Ideal S17x960x128 .f32} {xs1 : Vec Ideal S22x960x256 .f32}
  {X T : Plane} {P : Fin 17 → Col} {wo w2 : Fin 960 → Fin 960 → EReal} {w1 : Fin 2 → Fin 960 → Fin 960 → EReal}
  (h0 : ∀ k b, x0 (ix3 0 k b) = X k b) (h1 : ∀ k b, x1 (ix3 0 k b) = T k b) (h2 : ∀ d k, x2 (ix2 d k) = wo d k)
  (hp : ∀ j k l, xs0 (ix3 j k l) = P j k)

include h0 h1 h2 hp

/-- The residual stream after attention. -/
theorem agree_hid : Agree (kernelRun0_C.sl.HS2_30 (F := Ideal) c arg1 harg1 arg2 harg2 arg3 harg3 arg13 harg13 x0 x1 x2 xs0) (flat (hid P wo X T)) := by
  repeat' (first
    | refine agree_rows (rows_cast (rows_hid (rows1_unread harg1 h0)
        (dot_whole (square_unread harg3 h2) (plane_unread harg2 h1)) (rowsP_unread harg13 hp 0 (by decide)))) ?_
    | exact agree_nil _)

/-- The means. -/
theorem mean_eq : RowIs (kernelRun0_C.sl.r_1 (F := Ideal) c arg1 harg1 arg2 harg2 arg3 harg3 arg13 harg13 x0 x1 x2 xs0) (mean (hid P wo X T)) := by
  refine mean_row ?_
  repeat' (first
    | refine acc_succ _ ?_ ?_ ?_ (rows_hid (rows1_unread harg1 h0)
        (dot_whole (square_unread harg3 h2) (plane_unread harg2 h1)) (rowsP_unread harg13 hp 0 (by decide)))
    | exact acc_zero
    | rfl
    | decide)

/-- One over the deviations. -/
theorem rstd_eq : RowIs (kernelRun0_C.sl.r_4 (F := Ideal) c arg1 harg1 arg2 harg2 arg3 harg3 arg13 harg13 arg15 x0 x1 x2 xs0) (rstd (hid P wo X T)) := by
  have hh := agree_hid c arg1 harg1 arg2 harg2 arg3 harg3 arg13 harg13  h0 h1 h2 hp
  have hc := cover_hid c arg1 harg1 arg2 harg2 arg3 harg3 arg13 harg13  x0 x1 x2 xs0
  have hm := mean_eq c arg1 harg1 arg2 harg2 arg3 harg3 arg13 harg13  h0 h1 h2 hp
  refine rs_row ?_
  repeat' (first
    | refine acc_succ _ ?_ ?_ ?_ (rows_sq (rows_cov hh hc) hm)
    | exact acc_zero
    | rfl
    | decide)

/-- The normalised stream. -/
theorem agree_norm : Agree (kernelRun0_C.sl.HS3_30 (F := Ideal) c arg1 harg1 arg2 harg2 arg3 harg3 arg13 harg13 arg15 x0 x1 x2 xs0) (flat (norm P (hid P wo X T))) := by
  have hh := agree_hid c arg1 harg1 arg2 harg2 arg3 harg3 arg13 harg13  h0 h1 h2 hp
  have hc := cover_hid c arg1 harg1 arg2 harg2 arg3 harg3 arg13 harg13  x0 x1 x2 xs0
  have hm := mean_eq c arg1 harg1 arg2 harg2 arg3 harg3 arg13 harg13  h0 h1 h2 hp
  have hs := rstd_eq c arg1 harg1 arg2 harg2 arg3 harg3 arg13 harg13 arg15  h0 h1 h2 hp
  repeat' (first
    | refine agree_rows_bf16 (rows_cast (rows_norm (rows_cov hh hc) hm hs (rowsP_unread harg13 hp 1 (by decide))
        (rowsP_unread harg13 hp 2 (by decide)))) ?_
    | exact agree_nil _)

variable (h3 : ∀ j d k, x3 (ix3 j d k) = w1 j d k) (h4 : ∀ d k, x4 (ix2 d k) = w2 d k)
  {x5 : Vec Ideal S960x17 .f32} {x6 : Vec Ideal S8x960x256 .fp8e4m3} {x7 d11 : Vec Ideal S8x256 .f32}
  (hc0 : ¬cond0_0 i) (hc1 : cond0_1 i) {Z : ℕ → Plane}
  (hz : ∀ n (hn : n < 22), n < (i 0).val + 8 → ∀ k b, xs1 (ix3 ⟨n, hn⟩ k b) = Z n k b)
  (hg : Z ((i 0).val + 8) = glu P w1 (norm P (hid P wo X T)))

include h3

/-- The new row of the convolution's buffer is the gated linear unit. -/
theorem band_new (n : Fin 22) (hn : n.val = (i 0).val + 8) (Y : S22x960x256.Idx → EReal)
    (hY : ∀ k b, Y (ix3 n k b) = glu P w1 (norm P (hid P wo X T)) k b) : Band (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 d11 xs0 xs1).2.2.2.2.1 Y n 960 := by
  have hh := agree_norm c arg1 harg1 arg2 harg2 arg3 harg3 arg13 harg13 arg15  h0 h1 h2 hp
  have hc := cover_norm c arg1 harg1 arg2 harg2 arg3 harg3 arg13 harg13 arg15  x0 x1 x2 xs0
  repeat' (first
    | refine band_succ (rows1_cast (rows_glu _ ?_ (by decide) (dot_half _ (by decide) (half_unread harg4 h3 0 _ (by decide) (by decide)) (plane_cov hh hc))
        (dot_half _ (by decide) (half_unread harg4 h3 1 _ (by decide) (by decide)) (plane_cov hh hc))
        (rowsP_unread harg13 hp 3 (by decide)) (rowsP_unread harg13 hp 4 (by decide)))) hY (by rw [hn]; exact ClosedOff.eq) ?_ ?_
    | exact band_zero (agree_nil _)
    | rfl)

include hz hg

/-- The convolution's output. -/
theorem agree_conv : Agree (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 d11 xs0 xs1).2.1 (flat1 (conv P fun j => Z ((i 0).val + j.val))) := by
  have hh := agree_norm c arg1 harg1 arg2 harg2 arg3 harg3 arg13 harg13 arg15  h0 h1 h2 hp
  have hc := cover_norm c arg1 harg1 arg2 harg2 arg3 harg3 arg13 harg13 arg15  x0 x1 x2 xs0
  have hi : (i 0).val < 14 := (i 0).isLt
  have hw : ∀ j : Fin 8, (i 0).val + j.val < 22 := fun j => by omega
  have hl : ∀ j : Fin 8, ∀ k b, xs1 (ix3 ⟨(i 0).val + j.val, hw j⟩ k b) = Z ((i 0).val + j.val) k b := fun j =>
    hz _ (hw j) (by omega)
  repeat' (first
    | refine agree_rows1 (rows1_cast (rows_conv (z := fun j => Z ((i 0).val + j.val)) (w := tap P) (p := P 5) (q := P 6)
        (rows1_plane harg14 _ (hw 0) (hl 0) ClosedOff.eq) (rows1_plane harg14 _ (hw 1) (hl 1) ClosedOff.eq)
        (rows1_plane harg14 _ (hw 2) (hl 2) ClosedOff.eq) (rows1_plane harg14 _ (hw 3) (hl 3) ClosedOff.eq)
        (rows1_plane harg14 _ (hw 4) (hl 4) ClosedOff.eq) (rows1_plane harg14 _ (hw 5) (hl 5) ClosedOff.eq)
        (rows1_plane harg14 _ (hw 6) (hl 6) ClosedOff.eq) (rows1_plane harg14 _ (hw 7) (hl 7) ClosedOff.eq)
        ?_
        (rowsP_unread harg13 hp 8 (by decide)) (rowsP_unread harg13 hp 9 (by decide)) (rowsP_unread harg13 hp 10 (by decide))
        (rowsP_unread harg13 hp 11 (by decide)) (rowsP_unread harg13 hp 12 (by decide)) (rowsP_unread harg13 hp 13 (by decide))
        (rowsP_unread harg13 hp 14 (by decide)) (rowsP_unread harg13 hp 15 (by decide)) (rowsP_unread harg13 hp 16 (by decide))
        (rowsP_unread harg13 hp 5 (by decide)) (rowsP_unread harg13 hp 6 (by decide)) rfl)) ?_
    | (refine rows_of_eq hg ?_
       refine rows_glu _ ?_ (by decide) (dot_half _ (by decide) (half_unread harg4 h3 0 _ (by decide) (by decide)) (plane_cov hh hc))
          (dot_half _ (by decide) (half_unread harg4 h3 1 _ (by decide) (by decide)) (plane_cov hh hc))
          (rowsP_unread harg13 hp 3 (by decide)) (rowsP_unread harg13 hp 4 (by decide)))
    | exact agree_nil _
    | rfl)

/-- Its chunks cover the result's buffer. -/
theorem cover_conv : ∀ y : S1x960x256.Idx, ∃ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 d11 xs0 xs1).2.1, y ∈ p.1.set :=
  View.cover_of_tiled _ S1x32x256.size (by rfl)

include h4

/-- The first result. -/
theorem agree_out : Agree (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 d11 xs0 xs1).1 (flat1 (out P w2 (hid P wo X T) (conv P fun j => Z ((i 0).val + j.val)))) := by
  have hh := agree_hid c arg1 harg1 arg2 harg2 arg3 harg3 arg13 harg13  h0 h1 h2 hp
  have hc := cover_hid c arg1 harg1 arg2 harg2 arg3 harg3 arg13 harg13  x0 x1 x2 xs0
  have hu := agree_conv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 (x4 := x4) (x5 := x5) (x6 := x6) (x7 := x7) (d11 := d11) hc0 hc1 hz hg
  have hd := cover_conv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 (x4 := x4) (x5 := x5) (x6 := x6) (x7 := x7) (d11 := d11) hc0 hc1 hz hg
  repeat' (first
    | refine agree_rows1 (rows1_cast (rows_out (rows_cov hh hc) (dot_whole (square_unread harg5 h4) (plane1_cov hu hd))
        (rowsP_unread harg13 hp 7 (by decide)))) ?_
    | exact agree_nil _)

theorem cover_out : ∀ y : S1x960x256.Idx, ∃ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 d11 xs0 xs1).1, y ∈ p.1.set :=
  View.cover_of_tiled _ S1x32x256.size (by rfl)

end C

end Cert.KernelIdeal.Hand

end
-- ==== Proof.Steps.lean ====
/- What one run of the kernel's body does, in each of its three cases, as a statement about the entries of its buffers: the two results
   of the token, the parameters laid over the lanes, and one more row of the convolution's buffer. -/
module

public import proofs.«01_k».proof.Proof.ValA
public import proofs.«01_k».proof.Proof.ValB
public import proofs.«01_k».proof.Proof.ValC

@[expose] public section

set_option maxRecDepth 16384

noncomputable section

namespace Cert.KernelIdeal.Hand

open Cert.KernelIdeal.Gen Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The first `n` rows of the convolution's buffer are those of `Z`. -/
def Holds (Z : ℕ → Plane) (n : ℕ) (x : Vec Ideal S22x960x256 .f32) : Prop :=
  ∀ k (hk : k < 22), k < n → ∀ a b, x (ix3 ⟨k, hk⟩ a b) = Z k a b

/-- The rows of `Z` as one array. -/
def rows (Z : ℕ → Plane) : S22x960x256.Idx → EReal := fun x => Z (x 0).val (x 1) (x 2)

/-- An entry that the stores either leave alone or set to `G`, and that was `G` before them, is `G` after them. -/
theorem read_writes_same {κ : Kind} {sp : Space} {s : Shape} {e : EltTy} (v : View sig κ sp s e) (f : v.ty.Contents (Elt Ideal))
    (G : s.Idx → Elt Ideal e) (y : s.Idx) (hy : v.read (Elt Ideal) f y = G y) :
    ∀ L : List (View.Piece (Elt Ideal) s e), (∀ p ∈ L, ∀ x : p.1.shape.Idx, p.2 x = G (p.1.emb x)) →
      v.read (Elt Ideal) (v.writes (Elt Ideal) f L) y = G y
  | [], _ => hy
  | p :: L, hG => by
    by_cases h : y ∈ p.1.set
    · obtain ⟨x, rfl⟩ : ∃ x, p.1.emb x = y := p.1.exists_idx_of_mem h
      obtain ⟨r, w⟩ := p
      rw [View.read_writes_cons_emb]
      exact hG ⟨r, w⟩ List.mem_cons_self x
    · rw [View.read_writes_cons_miss _ _ _ _ _ h]
      exact read_writes_same v f G y hy L fun q hq => hG q (List.mem_cons_of_mem _ hq)

/-- An entry that some store sets to `G`. -/
theorem read_writes_of_mem {κ : Kind} {sp : Space} {s : Shape} {e : EltTy} (v : View sig κ sp s e) (f : v.ty.Contents (Elt Ideal))
    {G : s.Idx → Elt Ideal e} {L : List (View.Piece (Elt Ideal) s e)} (hL : ∀ p ∈ L, ∀ x : p.1.shape.Idx, p.2 x = G (p.1.emb x))
    (y : s.Idx) (hy : ∃ p ∈ L, y ∈ p.1.set) : v.read (Elt Ideal) (v.writes (Elt Ideal) f L) y = G y :=
  View.read_writes_apply_of_pieces v f G L hL y hy

/-- One more row is written. -/
theorem holds_band {m : Memref sig .tc .vmem S22x960x256 .f32} (h : m.IsWhole) {Z : ℕ → Plane} {n : ℕ} (hn : n < 22)
    {x : Vec Ideal S22x960x256 .f32} (hx : Holds Z n x) {L : List (View.Piece (Elt Ideal) S22x960x256 .f32)}
    (hL : Band L (rows Z) ⟨n, hn⟩ 960) :
    Holds Z (n + 1) (m.view.read (Elt Ideal) (m.view.writes (Elt Ideal) (h.unread x) L)) := by
  intro k hk hkn a b
  rcases Nat.lt_succ_iff_lt_or_eq.mp hkn with hlt | rfl
  · exact read_writes_same m.view _ (rows Z) _ (by rw [h.read_unread]; exact hx k hk hlt a b) L hL.1
  · exact (read_writes_of_mem m.view _ hL.1 (ix3 ⟨k, hk⟩ a b) (hL.2 a b a.isLt)).trans rfl

/-- The first nine rows are written. -/
theorem holds_full (v : View sig .tc .vmem S22x960x256 .f32) (f : v.ty.Contents (Elt Ideal)) {Z : ℕ → Plane}
    {L : List (View.Piece (Elt Ideal) S22x960x256 .f32)} (hL : Full L (rows Z) 8640) :
    Holds Z 9 (v.read (Elt Ideal) (v.writes (Elt Ideal) f L)) := by
  intro k hk hkn a b
  exact (read_writes_of_mem v f hL.1 (ix3 ⟨k, hk⟩ a b) (hL.2 ⟨k, hk⟩ a b (by have := a.isLt; show 960 * k + a.val < 8640; omega))).trans rfl

/-- Stores of entries of `G` that cover a buffer leave `G` in it. -/
theorem read_of_agree {s : Shape} {e : EltTy} (v : View sig .tc .vmem s e) (f : v.ty.Contents (Elt Ideal)) {G : s.Idx → Elt Ideal e}
    {L : List (View.Piece (Elt Ideal) s e)} (hL : ∀ p ∈ L, ∀ x : p.1.shape.Idx, p.2 x = G (p.1.emb x))
    (hc : ∀ y, ∃ p ∈ L, y ∈ p.1.set) : v.read (Elt Ideal) (v.writes (Elt Ideal) f L) = G :=
  funext fun y => View.read_writes_apply_of_pieces v f G L hL y (hc y)

variable (c : Dev nD) (i : grid0.Coords) (arg1 : Memref sig .tc .vmem S1x960x256 .bf16) (harg1 : arg1.IsWhole) (arg2 : Memref sig .tc .vmem S1x960x256 .bf16) (harg2 : arg2.IsWhole) (arg3 : Memref sig .tc .vmem S960x960 .bf16) (harg3 : arg3.IsWhole) (arg4 : Memref sig .tc .vmem S2x960x960 .bf16) (harg4 : arg4.IsWhole) (arg5 : Memref sig .tc .vmem S960x960 .bf16) (harg5 : arg5.IsWhole) (arg6 : Memref sig .tc .vmem S960x17 .f32) (harg6 : arg6.IsWhole) (arg7 : Memref sig .tc .vmem S8x960x256 .fp8e4m3) (harg7 : arg7.IsWhole) (arg8 : Memref sig .tc .vmem S8x256 .f32) (harg8 : arg8.IsWhole) (arg9 : Memref sig .tc .vmem S1x960x256 .bf16) (harg9 : arg9.IsWhole) (arg10 : Memref sig .tc .vmem S1x960x256 .bf16) (harg10 : arg10.IsWhole) (arg11 : Memref sig .tc .vmem S1x960x256 .fp8e4m3) (harg11 : arg11.IsWhole) (arg12 : Memref sig .tc .vmem S8x256 .f32) (harg12 : arg12.IsWhole) (arg13 : Memref sig .tc .vmem S17x960x128 .f32) (harg13 : arg13.IsWhole) (arg14 : Memref sig .tc .vmem S22x960x256 .f32) (harg14 : arg14.IsWhole) (arg15 : Memref sig .tc .vmem S960x256 .f32) (harg15 : arg15.IsWhole) (arg16 : Memref sig .tc .vmem S960x256 .bf16) (harg16 : arg16.IsWhole)
  {x0 x1 : Vec Ideal S1x960x256 .bf16} {x2 : Vec Ideal S960x960 .bf16} {x3 : Vec Ideal S2x960x960 .bf16} {x4 : Vec Ideal S960x960 .bf16}
  {x5 : Vec Ideal S960x17 .f32} {x6 : Vec Ideal S8x960x256 .fp8e4m3} {x7 : Vec Ideal S8x256 .f32}
  {X T : Plane} {P : Fin 17 → Col} {wo w2 : Fin 960 → Fin 960 → EReal} {w1 : Fin 2 → Fin 960 → Fin 960 → EReal}
  {q : Fin 8 → Plane} {σ : Fin 8 → Fin 256 → EReal} {Z : ℕ → Plane}
  (h0 : ∀ k b, x0 (ix3 0 k b) = X k b) (h1 : ∀ k b, x1 (ix3 0 k b) = T k b) (h2 : ∀ d k, x2 (ix2 d k) = wo d k)
  (h3 : ∀ j d k, x3 (ix3 j d k) = w1 j d k) (h4 : ∀ d k, x4 (ix2 d k) = w2 d k)
  (hg : Z ((i 0).val + 8) = glu P w1 (norm P (hid P wo X T)))

include h0 h1 h2 h3 h4 hg

/-- The first token. -/
theorem run_A (hc0 : cond0_0 i) (hc1 : ¬cond0_1 i) (hp : ∀ k j, x5 (ix2 k j) = P j k) (h6 : ∀ n k b, x6 (ix3 n k b) = q n k b) (h7 : ∀ n b, x7 (ix2 n b) = σ n b) (hi : (i 0).val = 0)
    (hz : ∀ n : Fin 8, Z n.val = fun k b => q n k b * σ n b) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (flat1 (out P w2 (hid P wo X T) (conv P fun j => Z ((i 0).val + j.val)))) ∗ owns (c : Thread nD τ) arg10 fullShare (flat1 (conv P fun j => Z ((i 0).val + j.val))) ∗ (∃ d, owns (c : Thread nD τ) arg11 fullShare d) ∗ (∃ d, owns (c : Thread nD τ) arg12 fullShare d) ∗ owns (c : Thread nD τ) arg13 fullShare (flatP P) ∗ (∃ z, ⌜Holds Z ((i 0).val + 8 + 1) z⌝ ∗ owns (c : Thread nD τ) arg14 fullShare z) ∗ (∃ d, owns (c : Thread nD τ) arg15 fullShare d) ∗ (∃ d, owns (c : Thread nD τ) arg16 fullShare d)) -∗ Q ⟨⟩))
      ⊢ wp frame (wpE (defs₀ (F := Ideal)) Variants.none c none) E (cc0_conv_module i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  have hg' : Z 8 = glu P w1 (norm P (hid P wo X T)) := by rw [← hg, hi]
  have hY : ∀ n (hn : n < 22), n < 9 → ∀ k b, rows Z (ix3 ⟨n, hn⟩ k b) = Z n k b := fun _ _ _ _ _ => rfl
  iintro ⟨H0, H1, H2, H3, H4, H5, H6, H7, H8, H9, ⟨%d10, H10⟩, ⟨%d11, H11⟩, HS0, ⟨%xs1, HS1⟩, HS2, HS3, Hk⟩
  iapply ((kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs1).2.2.2.2 E Q d10 d11)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  iintro ⟨H0, H1, H2, H3, H4, H5, H6, H7, ⟨%e8, H8⟩, ⟨%e9, H9⟩, H10, H11, ⟨%es0, HS0⟩, HS1, HS2, HS3⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact read_of_agree _ _ (A.agree_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 h4 (xs1 := xs1) h6 h7 hc0 hc1 hi hY hz hg') (A.cover_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 h4 (xs1 := xs1) h6 h7 hc0 hc1 hi hY hz hg')
  isplitl [H9]
  · unfold owns; iexists _; isplitr
    swap; · iexact H9
    ipureintro; exact read_of_agree _ _ (A.agree_conv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 (x4 := x4) (xs1 := xs1) h6 h7 hc0 hc1 hi hY hz hg') (A.cover_conv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 (x4 := x4) (xs1 := xs1) h6 h7 hc0 hc1 hi hY hz hg')
  isplitl [H10]; · iexists _; iexact H10
  isplitl [H11]; · iexists _; iexact H11
  isplitl [HS0]
  · unfold owns; iexists _; isplitr
    swap; · iexact HS0
    ipureintro; exact read_of_agree _ _ (A.agree_pars c arg6 harg6 hp) (A.cover_pars c arg6 harg6 (x5 := x5))
  isplitl [HS1]
  · iexists _; isplitr
    swap
    · unfold owns; iexists _; isplitr
      swap; · iexact HS1
      ipureintro; rfl
    ipureintro; exact (by rw [hi]; exact holds_full _ _ (A.full_new c i arg1 harg1 arg2 harg2 arg3 harg3 arg4 harg4 arg6 harg6 arg7 harg7 arg8 harg8 arg13 arg15 arg16 h0 h1 h2 hp h3 h6 h7 hi hY hz hg'))
  isplitl [HS2]; · iexact HS2
  iexact HS3

/-- Tokens 1 to 5. -/
theorem run_B (hc0 : ¬cond0_0 i) (hc1 : ¬cond0_1 i) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (flatP P) ∗ (∃ z, ⌜Holds Z ((i 0).val + 8) z⌝ ∗ owns (c : Thread nD τ) arg14 fullShare z) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (flat1 (out P w2 (hid P wo X T) (conv P fun j => Z ((i 0).val + j.val)))) ∗ owns (c : Thread nD τ) arg10 fullShare (flat1 (conv P fun j => Z ((i 0).val + j.val))) ∗ (∃ d, owns (c : Thread nD τ) arg11 fullShare d) ∗ (∃ d, owns (c : Thread nD τ) arg12 fullShare d) ∗ owns (c : Thread nD τ) arg13 fullShare (flatP P) ∗ (∃ z, ⌜Holds Z ((i 0).val + 8 + 1) z⌝ ∗ owns (c : Thread nD τ) arg14 fullShare z) ∗ (∃ d, owns (c : Thread nD τ) arg15 fullShare d) ∗ (∃ d, owns (c : Thread nD τ) arg16 fullShare d)) -∗ Q ⟨⟩))
      ⊢ wp frame (wpE (defs₀ (F := Ideal)) Variants.none c none) E (cc0_conv_module i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  have hin : (i 0).val + 8 < 22 := by have := (i 0).isLt; simp [grid0] at this; omega
  have hp : ∀ j k l, flatP P (ix3 j k l) = P j k := fun _ _ _ => rfl
  iintro ⟨H0, H1, H2, H3, H4, H5, H6, H7, H8, H9, ⟨%d10, H10⟩, ⟨%d11, H11⟩, HS0, ⟨%xs1, %hz, HS1⟩, HS2, HS3, Hk⟩
  iapply ((kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 (flatP P) xs1).2.2.2 E Q d10 d11)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  iintro ⟨H0, H1, H2, H3, H4, H5, H6, H7, ⟨%e8, H8⟩, ⟨%e9, H9⟩, H10, H11, HS0, HS1, HS2, HS3⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact read_of_agree _ _ (B.agree_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 h4 (x5 := x5) (x6 := x6) (x7 := x7) hc0 hc1 hz hg) (B.cover_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 h4 (x5 := x5) (x6 := x6) (x7 := x7) hc0 hc1 hz hg)
  isplitl [H9]
  · unfold owns; iexists _; isplitr
    swap; · iexact H9
    ipureintro; exact read_of_agree _ _ (B.agree_conv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 (x4 := x4) (x5 := x5) (x6 := x6) (x7 := x7) hc0 hc1 hz hg) (B.cover_conv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 (x4 := x4) (x5 := x5) (x6 := x6) (x7 := x7) hc0 hc1 hz hg)
  isplitl [H10]; · iexists _; iexact H10
  isplitl [H11]; · iexists _; iexact H11
  isplitl [HS0]; · iexact HS0
  isplitl [HS1]
  · iexists _; isplitr
    swap
    · unfold owns; iexists _; isplitr
      swap; · iexact HS1
      ipureintro; rfl
    ipureintro; exact holds_band harg14 hin hz (B.band_new c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 (x4 := x4) (x5 := x5) (x6 := x6) (x7 := x7) (xs1 := xs1) hc0 hc1 ⟨_, hin⟩ rfl (rows Z) fun k b => congrFun (congrFun hg k) b)
  isplitl [HS2]; · iexact HS2
  iexact HS3

/-- Tokens 6 to 13. -/
theorem run_C (hc0 : ¬cond0_0 i) (hc1 : cond0_1 i) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (flatP P) ∗ (∃ z, ⌜Holds Z ((i 0).val + 8) z⌝ ∗ owns (c : Thread nD τ) arg14 fullShare z) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (flat1 (out P w2 (hid P wo X T) (conv P fun j => Z ((i 0).val + j.val)))) ∗ owns (c : Thread nD τ) arg10 fullShare (flat1 (conv P fun j => Z ((i 0).val + j.val))) ∗ (∃ d, owns (c : Thread nD τ) arg11 fullShare d) ∗ (∃ d, owns (c : Thread nD τ) arg12 fullShare d) ∗ owns (c : Thread nD τ) arg13 fullShare (flatP P) ∗ (∃ z, ⌜Holds Z ((i 0).val + 8 + 1) z⌝ ∗ owns (c : Thread nD τ) arg14 fullShare z) ∗ (∃ d, owns (c : Thread nD τ) arg15 fullShare d) ∗ (∃ d, owns (c : Thread nD τ) arg16 fullShare d)) -∗ Q ⟨⟩))
      ⊢ wp frame (wpE (defs₀ (F := Ideal)) Variants.none c none) E (cc0_conv_module i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  have hin : (i 0).val + 8 < 22 := by have := (i 0).isLt; simp [grid0] at this; omega
  have hp : ∀ j k l, flatP P (ix3 j k l) = P j k := fun _ _ _ => rfl
  iintro ⟨H0, H1, H2, H3, H4, H5, H6, H7, H8, H9, ⟨%d10, H10⟩, ⟨%d11, H11⟩, HS0, ⟨%xs1, %hz, HS1⟩, HS2, HS3, Hk⟩
  iapply ((kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 d11 (flatP P) xs1).2.2.2.2.2 E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [HS0]; · iexact HS0
  isplitl [HS1]; · iexact HS1
  isplitl [HS2]; · iexact HS2
  isplitl [HS3]; · iexact HS3
  iintro ⟨H0, H1, H2, H3, H4, H5, H6, H7, ⟨%e8, H8⟩, ⟨%e9, H9⟩, ⟨%e10, H10⟩, H11, HS0, HS1, HS2, HS3⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact read_of_agree _ _ (C.agree_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 h4 (x5 := x5) (x6 := x6) (x7 := x7) (d11 := d11) hc0 hc1 hz hg) (C.cover_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 h4 (x5 := x5) (x6 := x6) (x7 := x7) (d11 := d11) hc0 hc1 hz hg)
  isplitl [H9]
  · unfold owns; iexists _; isplitr
    swap; · iexact H9
    ipureintro; exact read_of_agree _ _ (C.agree_conv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 (x4 := x4) (x5 := x5) (x6 := x6) (x7 := x7) (d11 := d11) hc0 hc1 hz hg) (C.cover_conv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 (x4 := x4) (x5 := x5) (x6 := x6) (x7 := x7) (d11 := d11) hc0 hc1 hz hg)
  isplitl [H10]
  · iexists _; unfold owns; iexists _; isplitr
    swap; · iexact H10
    ipureintro; rfl
  isplitl [H11]
  · iexists _; unfold owns; iexists _; isplitr
    swap; · iexact H11
    ipureintro; rfl
  isplitl [HS0]; · iexact HS0
  isplitl [HS1]
  · iexists _; isplitr
    swap
    · unfold owns; iexists _; isplitr
      swap; · iexact HS1
      ipureintro; rfl
    ipureintro; exact holds_band harg14 hin hz (C.band_new c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 hp h3 (x4 := x4) (x5 := x5) (x6 := x6) (x7 := x7) (d11 := d11) (xs1 := xs1) hc0 hc1 ⟨_, hin⟩ rfl (rows Z) fun k b => congrFun (congrFun hg k) b)
  isplitl [HS2]; · iexact HS2
  iexact HS3

end Cert.KernelIdeal.Hand

end
-- ==== Proof.Args.lean ====
/- The convolution module over all tokens, as a function of its arguments. -/
module

public import proofs.«01_k».proof.Proof.Spec
public import Idealize.ShloMosaic.Lib.Pointwise.Index

@[expose] public section

noncomputable section

namespace Cert.Conv

open Idealize.ShloMosaic

/-- The arguments: token by token the input `X` and the attention's output `T`; the parameters `P`; the weights of the projection
    (`wo`), of the two halves of the first layer (`w1`) and of the last layer (`w2`); the codes `q` and the scales `σ` of the eight
    tokens before. -/
structure Args where
  X : Fin 14 → Plane
  T : Fin 14 → Plane
  P : Fin 17 → Col
  wo : Fin 960 → Fin 960 → EReal
  w1 : Fin 2 → Fin 960 → Fin 960 → EReal
  w2 : Fin 960 → Fin 960 → EReal
  q : Fin 8 → Plane
  σ : Fin 8 → Fin 256 → EReal

/-- The residual stream of token `t` after attention. -/
def Args.hidAt (A : Args) (t : Fin 14) : Plane := hid A.P A.wo (A.X t) (A.T t)

/-- The gated linear unit of token `t`. -/
def Args.gluAt (A : Args) (t : Fin 14) : Plane := glu A.P A.w1 (norm A.P (A.hidAt t))

/-- The convolution's input: the eight tokens before, decoded, and then the fourteen new ones. -/
def Args.z (A : Args) (n : ℕ) : Plane :=
  if h : n < 8 then fun k b => A.q ⟨n, h⟩ k b * A.σ ⟨n, h⟩ b
  else if h' : n - 8 < 14 then A.gluAt ⟨n - 8, h'⟩ else fun _ _ => 0

theorem Args.z_old (A : Args) (n : Fin 8) : A.z n.val = fun k b => A.q n k b * A.σ n b := by
  unfold Args.z; rw [dif_pos n.isLt]

theorem Args.z_new (A : Args) (t : Fin 14) : A.z (t.val + 8) = A.gluAt t := by
  unfold Args.z
  rw [dif_neg (by omega), dif_pos (by have := t.isLt; omega)]
  exact congrArg A.gluAt (Fin.ext (by simp))

/-- The convolution's output at token `t`. -/
def Args.convAt (A : Args) (t : Fin 14) : Plane := conv A.P fun j => A.z (t.val + j.val)

/-- The module's result at token `t`. -/
def Args.outAt (A : Args) (t : Fin 14) : Plane := out A.P A.w2 (A.hidAt t) (A.convAt t)

/-- The arrays that a program is given, in the order of its arguments. -/
structure Arrays where
  x : (⟨3, ![256, 14, 960]⟩ : Shape).Idx → EReal
  attn : (⟨3, ![14, 960, 256]⟩ : Shape).Idx → EReal
  w_o : (⟨3, ![10, 96, 960]⟩ : Shape).Idx → EReal
  b_o : (⟨1, ![960]⟩ : Shape).Idx → EReal
  ln_g : (⟨1, ![960]⟩ : Shape).Idx → EReal
  ln_b : (⟨1, ![960]⟩ : Shape).Idx → EReal
  w_pw1 : (⟨3, ![960, 2, 960]⟩ : Shape).Idx → EReal
  b_pw1 : (⟨2, ![2, 960]⟩ : Shape).Idx → EReal
  codes : (⟨3, ![256, 8, 960]⟩ : Shape).Idx → EReal
  scale : (⟨2, ![256, 8]⟩ : Shape).Idx → EReal
  dw_w : (⟨2, ![9, 960]⟩ : Shape).Idx → EReal
  bn_scale : (⟨1, ![960]⟩ : Shape).Idx → EReal
  bn_bias : (⟨1, ![960]⟩ : Shape).Idx → EReal
  w_pw2 : (⟨2, ![960, 960]⟩ : Shape).Idx → EReal
  b_pw2 : (⟨1, ![960]⟩ : Shape).Idx → EReal

/-- The parameters one by one. -/
def Arrays.param (a : Arrays) (j : Fin 17) (k : Fin 960) : EReal :=
  ![a.b_o (ix1 k), a.ln_g (ix1 k), a.ln_b (ix1 k), a.b_pw1 (ix2 0 k), a.b_pw1 (ix2 1 k), a.bn_scale (ix1 k), a.bn_bias (ix1 k), a.b_pw2 (ix1 k),
    a.dw_w (ix2 0 k), a.dw_w (ix2 1 k), a.dw_w (ix2 2 k), a.dw_w (ix2 3 k), a.dw_w (ix2 4 k), a.dw_w (ix2 5 k), a.dw_w (ix2 6 k), a.dw_w (ix2 7 k), a.dw_w (ix2 8 k)] j

/-- The arguments that the arrays hold. -/
def Arrays.args (a : Arrays) : Args where
  X t k b := a.x (ix3 b t k)
  T t k b := a.attn (ix3 t k b)
  P := a.param
  wo d k := a.w_o (ix3 ⟨k.val / 96, by omega⟩ ⟨k.val % 96, by omega⟩ d)
  w1 j d k := a.w_pw1 (ix3 k j d)
  w2 d k := a.w_pw2 (ix2 k d)
  q n k b := a.codes (ix3 b n k)
  σ n b := a.scale (ix2 b n)

end Cert.Conv

end
-- ==== Proof.Track.lean ====
/- The idealized kernel's pipeline with the contents of its buffers: after every token the results' buffers hold the token's two results,
   the parameters are laid out, and the convolution's buffer has one more row. From it the run of @main: the arguments' arrays end
   unchanged, and the first two results' arrays hold every token's results. -/
module

public import proofs.«01_k».proof.Proof.Steps
public import proofs.«01_k».proof.Proof.Args
public import Idealize.ShloMosaic.Lib.Claim
public import Idealize.ShloMosaic.Lib.Pipeline.ValueKit

@[expose] public section

set_option maxRecDepth 16384

noncomputable section

namespace Cert.KernelIdeal.Hand

open Cert.KernelIdeal.Gen Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The arguments of the region -/

/-- What the region's input arrays hold when it is entered. -/
def args (c : Dev nD) : Args where
  X t k b := V m c main_v0 (ix3 t k b)
  T t k b := V m c main_arg1 (ix3 t k b)
  P j k := V m c main_v17 (ix2 k j)
  wo d k := V m c main_v19 (ix2 d k)
  w1 j d k := V m c main_v20 (ix3 j d k)
  w2 d k := V m c main_v21 (ix2 d k)
  q n k b := V m c main_v1 (ix3 n k b)
  σ n b := V m c main_v2 (ix2 n b)

/-- The token of a grid point. -/
def tok (t : Fin cfg0.N) : Fin 14 := ⟨t.val, lt_of_lt_of_eq t.isLt (show cfg0.N = 14 from N_0)⟩

theorem coord (t : Fin cfg0.N) : (grid0.coords t 0).val = t.val :=
  (by decide +kernel : ∀ t : Fin grid0.N, (grid0.coords t 0).val = t.val) t

theorem index0 : ∀ t : Fin cfg0.N, win0_0.index t = ![(grid0.coords t 0).val, 0, 0] := (by decide +kernel : ∀ t : Fin grid0.N, _)
theorem index1 : ∀ t : Fin cfg0.N, win0_1.index t = ![(grid0.coords t 0).val, 0, 0] := (by decide +kernel : ∀ t : Fin grid0.N, _)
theorem index8 : ∀ t : Fin cfg0.N, win0_8.index t = ![(grid0.coords t 0).val, 0, 0] := (by decide +kernel : ∀ t : Fin grid0.N, _)
theorem index9 : ∀ t : Fin cfg0.N, win0_9.index t = ![(grid0.coords t 0).val, 0, 0] := (by decide +kernel : ∀ t : Fin grid0.N, _)

theorem index2 : ∀ t : Fin cfg0.N, win0_2.index t = ![0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0] := (by decide +kernel : ∀ t : Fin grid0.N, _)

theorem block0 (c : Dev nD) (t : Fin cfg0.N) : ∀ k b, iblk m c 0 t (ix3 0 k b) = (args m c).X (tok t) k b := by
  intro k b
  blk_ext [iblk, args, tok, index0 t, coord t]

theorem block1 (c : Dev nD) (t : Fin cfg0.N) : ∀ k b, iblk m c 1 t (ix3 0 k b) = (args m c).T (tok t) k b := by
  intro k b
  blk_ext [iblk, args, tok, index1 t, coord t]

theorem block2 (c : Dev nD) (t : Fin cfg0.N) : ∀ d k, iblk m c 2 t (ix2 d k) = (args m c).wo d k := by
  intro d k
  blk_ext [iblk, args, tok, index2 t]

theorem block3 (c : Dev nD) (t : Fin cfg0.N) : ∀ j d k, iblk m c 3 t (ix3 j d k) = (args m c).w1 j d k := by
  intro j d k
  blk_ext [iblk, args, tok, index3 t]

theorem block4 (c : Dev nD) (t : Fin cfg0.N) : ∀ d k, iblk m c 4 t (ix2 d k) = (args m c).w2 d k := by
  intro d k
  blk_ext [iblk, args, tok, index4 t]

theorem block5 (c : Dev nD) (t : Fin cfg0.N) : ∀ k j, iblk m c 5 t (ix2 k j) = (args m c).P j k := by
  intro k j
  blk_ext [iblk, args, tok, index5 t]

theorem block6 (c : Dev nD) (t : Fin cfg0.N) : ∀ n k b, iblk m c 6 t (ix3 n k b) = (args m c).q n k b := by
  intro n k b
  blk_ext [iblk, args, tok, index6 t]

theorem block7 (c : Dev nD) (t : Fin cfg0.N) : ∀ n b, iblk m c 7 t (ix2 n b) = (args m c).σ n b := by
  intro n b
  blk_ext [iblk, args, tok, index7 t]

/-! ## The pipeline's data -/

/-- The region's invariant after `n` tokens. Before the first one the scratch buffers hold anything; afterwards the parameters are laid
    over the lanes and the convolution's buffer has its first `8 + n` rows. -/
def PhiS (c : Dev nD) : ℕ → sProp 𝕄
  | 0 => Pipeline.ΦA spec0 c
  | n + 1 => iprop(iprop(owns (c : Thread nD τ) scM0_0 fullShare (flatP (args m c).P) ∗ (∃ z, ⌜Holds (args m c).z (n + 8 + 1) z⌝ ∗ owns (c : Thread nD τ) scM0_1 fullShare z) ∗ (∃ d, owns (c : Thread nD τ) scM0_2 fullShare d) ∗ (∃ d, owns (c : Thread nD τ) scM0_3 fullShare d)) ∗ (∃ r, prngReg c r))

theorem PhiS_zero (c : Dev nD) (n : ℕ) (hz : n = 0) : PhiS m c n = Pipeline.ΦA spec0 c := by subst hz; rfl

theorem PhiS_succ (c : Dev nD) (n : ℕ) :
    PhiS m c (n + 1) = iprop(iprop(owns (c : Thread nD τ) scM0_0 fullShare (flatP (args m c).P) ∗ (∃ z, ⌜Holds (args m c).z (n + 8 + 1) z⌝ ∗ owns (c : Thread nD τ) scM0_1 fullShare z) ∗ (∃ d, owns (c : Thread nD τ) scM0_2 fullShare d) ∗ (∃ d, owns (c : Thread nD τ) scM0_3 fullShare d)) ∗ (∃ r, prngReg c r)) := rfl

theorem PhiS_pos (c : Dev nD) (n : ℕ) (hz : n ≠ 0) :
    PhiS m c n = iprop(iprop(owns (c : Thread nD τ) scM0_0 fullShare (flatP (args m c).P) ∗ (∃ z, ⌜Holds (args m c).z (n + 8) z⌝ ∗ owns (c : Thread nD τ) scM0_1 fullShare z) ∗ (∃ d, owns (c : Thread nD τ) scM0_2 fullShare d) ∗ (∃ d, owns (c : Thread nD τ) scM0_3 fullShare d)) ∗ (∃ r, prngReg c r)) := by
  obtain ⟨n, rfl⟩ := Nat.exists_eq_succ_of_ne_zero hz
  rw [PhiS_succ, show n.succ + 8 = n + 8 + 1 from by omega]

/-- Nothing is said of the last two results. -/
def forgets0 : Fin 12 → Bool := fun w => w.val == 10 || w.val == 11

/-- The proof data: the arrays as the region finds them; after each point every input's buffer at its block and the first two results'
    buffers at the token's results. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => flat1 ((args m c).outAt (tok t))
    | ⟨9, _⟩ => flat1 ((args m c).convAt (tok t))
    | ⟨10, h⟩ => Pipeline.Dat.unnamed (cfg := cfg0) ⟨10, h⟩ t
    | ⟨11, h⟩ => Pipeline.Dat.unnamed (cfg := cfg0) ⟨11, h⟩ t
  Φ t := PhiS m c t.val
  q _ := fullShare
  owed _ := 0

theorem A_eq (c : Dev nD) (w : Fin cfg0.W) : (dats m 0 c).A w = V m c (Pipeline.arrRef spec0 w) := by
  dsimp only [dats]

theorem liveAt0_8 : ∀ t : Fin cfg0.N, cfg0.idle 8 (grid0.coords t) = false := fun _ => rfl
theorem liveAt0_9 : ∀ t : Fin cfg0.N, cfg0.idle 9 (grid0.coords t) = false := fun _ => rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = flat1 ((args m c).outAt (tok t)) := by dsimp only [dats]
theorem after0_9 (c : Dev nD) (t : Fin cfg0.N) : (dats m 0 c).after 9 t = flat1 ((args m c).convAt (tok t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d))

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from rfl]
  have hN : t.val < 14 := (tok t).isLt
  have hco := coord t
  have hg : (args m c).z ((grid0.coords t 0).val + 8) = glu (args m c).P (args m c).w1 (norm (args m c).P (hid (args m c).P (args m c).wo ((args m c).X (tok t)) ((args m c).T (tok t)))) := by
    rw [hco]; exact (args m c).z_new (tok t)
  have hz : ∀ n : Fin 8, (args m c).z n.val = fun k b => (args m c).q n k b * (args m c).σ n b := (args m c).z_old
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  have e8 : (args m c).outAt (tok t) = out (args m c).P (args m c).w2 (hid (args m c).P (args m c).wo ((args m c).X (tok t)) ((args m c).T (tok t)))
      (conv (args m c).P fun j => (args m c).z ((grid0.coords t 0).val + j.val)) := by rw [hco]; rfl
  have e9 : (args m c).convAt (tok t) = conv (args m c).P fun j => (args m c).z ((grid0.coords t 0).val + j.val) := by rw [hco]; rfl
  rw [e8, e9]
  by_cases h0 : t.val % 14 = 0
  · have h1 : ¬6 ≤ t.val := by omega
    rw [PhiS_zero m c _ (by omega), PhiA0_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
    iapply (run_A c (grid0.coords t) _ _ _ _ _ _ _ _ _ _ _ _ _ _ _ _ _ _ _ _ _ _ _ _ _ _ _ _ _ _ _ _ (block0 m c t) (block1 m c t) (block2 m c t) (block3 m c t) (block4 m c t) hg ((hcond0_0 t).mpr h0) (fun h => h1 ((hcond0_1 t).mp h)) (block5 m c t) (block6 m c t) (block7 m c t) (by rw [hco]; omega) hz Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, HS0, ⟨%z', %hz', HS1⟩, HS2, HS3⟩
    isplitl [HS0 HS1 HS2 HS3 Hg]
    · isplitl [HS0 HS1 HS2 HS3]
      · isplitl [HS0]; · iexact HS0
        isplitl [HS1]
        · iexists z'; isplitr
          · ipureintro; rw [← hco]; exact hz'
          iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [PhiS_pos m c _ (by omega)]
    by_cases h1 : 6 ≤ t.val
    · iintro ⟨⟨⟨HS0, ⟨%z, %hz8, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
      iapply (run_C c (grid0.coords t) _ _ _ _ _ _ _ _ _ _ _ _ _ _ _ _ _ _ _ _ _ _ _ _ _ _ _ _ _ _ _ _ (block0 m c t) (block1 m c t) (block2 m c t) (block3 m c t) (block4 m c t) hg (fun h => h0 ((hcond0_0 t).mp h)) ((hcond0_1 t).mpr h1) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      isplitl [H11]; · iexact H11
      isplitl [HS0]; · iexact HS0
      isplitl [HS1]
      · iexists z; isplitr
        · ipureintro; rw [hco]; exact hz8
        iexact HS1
      isplitl [HS2]; · iexact HS2
      isplitl [HS3]; · iexact HS3
      iintro ⟨H0, H1, H2, H3, H4, H5, H6, H7, H8, H9, H10, H11, HS0, ⟨%z', %hz', HS1⟩, HS2, HS3⟩
      isplitl [HS0 HS1 HS2 HS3 Hg]
      · isplitl [HS0 HS1 HS2 HS3]
        · isplitl [HS0]; · iexact HS0
          isplitl [HS1]
          · iexists z'; isplitr
            · ipureintro; rw [← hco]; exact hz'
            iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · iintro ⟨⟨⟨HS0, ⟨%z, %hz8, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
      iapply (run_B c (grid0.coords t) _ _ _ _ _ _ _ _ _ _ _ _ _ _ _ _ _ _ _ _ _ _ _ _ _ _ _ _ _ _ _ _ (block0 m c t) (block1 m c t) (block2 m c t) (block3 m c t) (block4 m c t) hg (fun h => h0 ((hcond0_0 t).mp h)) (fun h => h1 ((hcond0_1 t).mp h)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      isplitl [H11]; · iexact H11
      isplitl [HS0]; · iexact HS0
      isplitl [HS1]
      · iexists z; isplitr
        · ipureintro; rw [hco]; exact hz8
        iexact HS1
      isplitl [HS2]; · iexact HS2
      isplitl [HS3]; · iexact HS3
      iintro ⟨H0, H1, H2, H3, H4, H5, H6, H7, H8, H9, H10, H11, HS0, ⟨%z', %hz', HS1⟩, HS2, HS3⟩
      isplitl [HS0 HS1 HS2 HS3 Hg]
      · isplitl [HS0 HS1 HS2 HS3]
        · isplitl [HS0]; · iexact HS0
          isplitl [HS1]
          · iexists z'; isplitr
            · ipureintro; rw [← hco]; exact hz'
            iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c cfg0.N from rfl, PhiS_pos m c _ (by have : cfg0.N = 14 := N_0; omega), PhiA0_eq]
  iintro ⟨⟨HS0, ⟨%z, %hz, HS1⟩, HS2, HS3⟩, Hg⟩
  isplitl [HS0 HS1 HS2 HS3]
  · isplitl [HS0]; · iexists _; iexact HS0
    isplitl [HS1]; · iexists _; iexact HS1
    isplitl [HS2]; · iexact HS2
    iexact HS3
  iexact Hg

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every array of the pipeline ends at what the data says of it, and every other buffer at what the region found. -/
theorem run_main : θ_run defs (onTc (τ := τ) (main (F := Ideal))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (fun c => (dats m 0 c).toRForget forgets0) (A_eq m) (run_main m ρ)

/-- The frame: the argument arrays end unchanged, and every semaphore's counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

/-! ## The results -/

/-- The first result's array: every token's result. -/
def outArr (A : Args) : S14x960x256.Idx → EReal := fun x => A.outAt (x 0) (x 1) (x 2)

/-- The second result's array: every token's convolution. -/
def convArr (A : Args) : S14x960x256.Idx → EReal := fun x => A.convAt (x 0) (x 1) (x 2)

theorem final8 (c : Dev nD) : (dats m 0 c).arrAt 8 cfg0.N = outArr (args m c) :=
  (dats m 0 c).arrAt_eq_of_covers 8 _ (by decide +kernel) fun t hf y => by
    blk_simp
    have e : (win0_8.blk t).view.emb y = ix3 (tok t) (y 1) (y 2) := by blk_ext [tok, index8 t, coord t]
    rw [after0_8, e]
    rfl

theorem final9 (c : Dev nD) : (dats m 0 c).arrAt 9 cfg0.N = convArr (args m c) :=
  (dats m 0 c).arrAt_eq_of_covers 9 _ (by decide +kernel) fun t hf y => by
    blk_simp
    have e : (win0_9.blk t).view.emb y = ix3 (tok t) (y 1) (y 2) := by blk_ext [tok, index9 t, coord t]
    rw [after0_9, e]
    rfl

/-- The run leaves every token's results in the first two results' arrays. -/
theorem values : θ_run defs (onTc (τ := τ) (main (F := Ideal))) ⟨m, fun _ => 0, ρ⟩ (fun r => ∀ c : Dev nD,
    r.2.mem ((c.tc : Thread nD τ).loc main_v22_0) = outArr (args m c) ∧ r.2.mem ((c.tc : Thread nD τ).loc main_v22_1) = convArr (args m c)) :=
  (θ_run defs _ _).mono (fun r h c => ⟨(((dats m 0 c).toRForget_arrAt_iff (fgt := forgets0) (w := 8) rfl _ _).mp ((h c).1 8)).trans (final8 m c),
    (((dats m 0 c).toRForget_arrAt_iff (fgt := forgets0) (w := 9) rfl _ _).mp ((h c).1 9)).trans (final9 m c)⟩) (run_main m ρ)

end Cert.KernelIdeal.Hand

end
-- ==== Proof.Entry.lean ====
/- What the host operations before the kernel's region make of @main's arguments. -/
module

public import proofs.«01_k».proof.Proof.Track
public import Idealize.ShloMosaic.Lib.StableHlo.ReadAt

@[expose] public section

set_option maxRecDepth 16384

noncomputable section

namespace Cert.KernelIdeal.Hand

open Cert.KernelIdeal.Gen Cert.Conv
open Idealize.ShloMosaic Idealize.ShloMosaic.TcCoe Idealize.ShloMosaic.Tactic Idealize.SL.Sem

variable (m : (ℓ : Loc nD τ sig) → Buf (Elt Ideal) ℓ)

/-- The arrays that @main is given. -/
def arrays (c : Dev nD) : Arrays where
  x := m ((c : Thread nD τ).loc main_arg0)
  attn := m ((c : Thread nD τ).loc main_arg1)
  w_o := m ((c : Thread nD τ).loc main_arg2)
  b_o := m ((c : Thread nD τ).loc main_arg3)
  ln_g := m ((c : Thread nD τ).loc main_arg4)
  ln_b := m ((c : Thread nD τ).loc main_arg5)
  w_pw1 := m ((c : Thread nD τ).loc main_arg6)
  b_pw1 := m ((c : Thread nD τ).loc main_arg7)
  codes := m ((c : Thread nD τ).loc main_arg8)
  scale := m ((c : Thread nD τ).loc main_arg9)
  dw_w := m ((c : Thread nD τ).loc main_arg10)
  bn_scale := m ((c : Thread nD τ).loc main_arg11)
  bn_bias := m ((c : Thread nD τ).loc main_arg12)
  w_pw2 := m ((c : Thread nD τ).loc main_arg13)
  b_pw2 := m ((c : Thread nD τ).loc main_arg14)

theorem args_X (c : Dev nD) : (args m c).X = (arrays m c).args.X := by
  funext t k b
  unfold args Arrays.args
  dsimp only
  entry_read
  pointwise
  try rfl

theorem args_T (c : Dev nD) : (args m c).T = (arrays m c).args.T := by
  funext t k b
  unfold args Arrays.args
  dsimp only
  entry_read
  pointwise
  try rfl

/-- Eight columns and the columns of a transposed array, one after another. -/
theorem columns_apply {u0 u1 u2 u3 u4 u5 u6 u7 : S960x1.Idx → EReal} {r0 r1 r2 r3 r4 r5 r6 r7 : EReal} {w : S9x960.Idx → EReal} {h h' h''} (k : Fin 960) (j : Fin 17)
    (e0 : u0 (ix2 k 0) = r0) (e1 : u1 (ix2 k 0) = r1) (e2 : u2 (ix2 k 0) = r2) (e3 : u3 (ix2 k 0) = r3) (e4 : u4 (ix2 k 0) = r4) (e5 : u5 (ix2 k 0) = r5) (e6 : u6 (ix2 k 0) = r6) (e7 : u7 (ix2 k 0) = r7) :
    (concatenate S960x17 1 [⟨S960x8, concatenate S960x8 1 [⟨S960x1, u0⟩, ⟨S960x1, u1⟩, ⟨S960x1, u2⟩, ⟨S960x1, u3⟩, ⟨S960x1, u4⟩, ⟨S960x1, u5⟩, ⟨S960x1, u6⟩, ⟨S960x1, u7⟩] h⟩,
      ⟨S960x9, transpose S960x9 [1, 0] w h'⟩] h'' : S960x17.Idx → EReal) (ix2 k j) =
    (![r0, r1, r2, r3, r4, r5, r6, r7, w (ix2 0 k), w (ix2 1 k), w (ix2 2 k), w (ix2 3 k), w (ix2 4 k), w (ix2 5 k), w (ix2 6 k), w (ix2 7 k), w (ix2 8 k)] : Fin 17 → EReal) j := by
  subst e0 e1 e2 e3 e4 e5 e6 e7
  fin_cases j <;> pointwise

theorem col_0 (c : Dev nD) (k : Fin 960) : StableHlo.upto hostOps0 (fun b => m (c, b)) 15 (Proc.tc.devRef main_v7) (ix2 k 0) = m (c, Proc.tc.devRef main_arg3) (ix1 k) := by
  after_reads_at

theorem col_1 (c : Dev nD) (k : Fin 960) : StableHlo.upto hostOps0 (fun b => m (c, b)) 15 (Proc.tc.devRef main_v8) (ix2 k 0) = m (c, Proc.tc.devRef main_arg4) (ix1 k) := by
  after_reads_at

theorem col_2 (c : Dev nD) (k : Fin 960) : StableHlo.upto hostOps0 (fun b => m (c, b)) 15 (Proc.tc.devRef main_v9) (ix2 k 0) = m (c, Proc.tc.devRef main_arg5) (ix1 k) := by
  after_reads_at

theorem col_3 (c : Dev nD) (k : Fin 960) : StableHlo.upto hostOps0 (fun b => m (c, b)) 15 (Proc.tc.devRef main_v10) (ix2 k 0) = m (c, Proc.tc.devRef main_arg7) (ix2 0 k) := by
  after_reads_at

theorem col_4 (c : Dev nD) (k : Fin 960) : StableHlo.upto hostOps0 (fun b => m (c, b)) 15 (Proc.tc.devRef main_v11) (ix2 k 0) = m (c, Proc.tc.devRef main_arg7) (ix2 1 k) := by
  after_reads_at

theorem col_5 (c : Dev nD) (k : Fin 960) : StableHlo.upto hostOps0 (fun b => m (c, b)) 15 (Proc.tc.devRef main_v12) (ix2 k 0) = m (c, Proc.tc.devRef main_arg11) (ix1 k) := by
  after_reads_at

theorem col_6 (c : Dev nD) (k : Fin 960) : StableHlo.upto hostOps0 (fun b => m (c, b)) 15 (Proc.tc.devRef main_v13) (ix2 k 0) = m (c, Proc.tc.devRef main_arg12) (ix1 k) := by
  after_reads_at

theorem col_7 (c : Dev nD) (k : Fin 960) : StableHlo.upto hostOps0 (fun b => m (c, b)) 15 (Proc.tc.devRef main_v14) (ix2 k 0) = m (c, Proc.tc.devRef main_arg14) (ix1 k) := by
  after_reads_at

theorem args_P (c : Dev nD) : (args m c).P = (arrays m c).args.P := by
  funext j k
  show V m c main_v17 (ix2 k j) = (arrays m c).param j k
  unfold V
  after_reads_simp
  exact columns_apply k j (col_0 m c k) (col_1 m c k) (col_2 m c k) (col_3 m c k) (col_4 m c k) (col_5 m c k) (col_6 m c k) (col_7 m c k)

theorem args_wo (c : Dev nD) : (args m c).wo = (arrays m c).args.wo := by
  funext d k
  unfold args Arrays.args
  dsimp only
  entry_read
  pointwise
  try rfl

theorem args_w1 (c : Dev nD) : (args m c).w1 = (arrays m c).args.w1 := by
  funext j d k
  unfold args Arrays.args
  dsimp only
  entry_read
  pointwise
  try rfl

theorem args_w2 (c : Dev nD) : (args m c).w2 = (arrays m c).args.w2 := by
  funext d k
  unfold args Arrays.args
  dsimp only
  entry_read
  pointwise
  try rfl

theorem args_q (c : Dev nD) : (args m c).q = (arrays m c).args.q := by
  funext n k b
  unfold args Arrays.args
  dsimp only
  entry_read
  pointwise
  try rfl

theorem args_σ (c : Dev nD) : (args m c).σ = (arrays m c).args.σ := by
  funext n b
  unfold args Arrays.args
  dsimp only
  entry_read
  pointwise
  try rfl

/-- The region's arguments are @main's. -/
theorem args_eq (c : Dev nD) : args m c = (arrays m c).args := by
  have e : ∀ {a b : Args}, a.X = b.X → a.T = b.T → a.P = b.P → a.wo = b.wo → a.w1 = b.w1 → a.w2 = b.w2 → a.q = b.q → a.σ = b.σ → a = b := by
    rintro ⟨⟩ ⟨⟩ rfl rfl rfl rfl rfl rfl rfl rfl
    rfl
  exact e (args_X m c) (args_T m c) (args_P m c) (args_wo m c) (args_w1 m c) (args_w2 m c) (args_q m c) (args_σ m c)

end Cert.KernelIdeal.Hand

end
-- ==== Proof.RefValue.lean ====
/- What the reference computes, entry by entry. -/
module

public import proofs.«01_k».proof.Proof.Gen.ReferenceIdeal.Frame
public import proofs.«01_k».proof.Proof.Args
public import Idealize.ShloMosaic.Lib.Claim
public import Idealize.ShloMosaic.Lib.Pipeline.ValueKit

@[expose] public section

set_option maxRecDepth 16384

noncomputable section

namespace Cert.ReferenceIdeal.Hand

open Cert.ReferenceIdeal.Gen Cert.Conv
open Idealize.ShloMosaic Idealize.ShloMosaic.TcCoe Idealize.ShloMosaic.Tactic Idealize.SL.Sem

/-- The division by the number of features is the product with its inverse. -/
theorem div_d (x : EReal) : Ideal.div x (Ideal.ofBits .f32 0x44700000#32) = x * invD := by
  rw [show Ideal.ofBits .f32 0x44700000#32 = ((960 : ℝ) : EReal) from by
    simp [Ideal.ofBits, Ideal.ieee, -EReal.coe_mul]; norm_num, Ideal.div_coe (by norm_num), one_div]
  rfl

section

variable {A : Args}
  {v0 v2 : Vec Ideal S256x14x960 .bf16} {v4 : Vec Ideal S960x960 .bf16} {v7 v30 v34 : Vec Ideal S1x1x960 .f32}

theorem lin_swap (w : Fin 960 → Fin 960 → EReal) (v : Plane) (d : Fin 960) (b : Fin 256) :
    ∑ x, v x b * w d x = lin w v d b := Finset.sum_congr rfl fun _ _ => mul_comm _ _

theorem hid_apply (h0 : ∀ t k b, v0 (ix3 b t k) = A.X t k b) (h2 : ∀ t k b, v2 (ix3 b t k) = A.T t k b)
    (h4 : ∀ d k, v4 (ix2 k d) = A.wo d k) (h7 : ∀ k, v7 (ix3 0 0 k) = A.P 0 k) (t : Fin 14) (k : Fin 960) (b : Fin 256) :
    k0_pay1 v0 v2 v4 v7 (ix3 b t k) = A.hidAt t k b := by
  unfold k0_pay1
  pointwise
  simp only [h0, h2, h4, h7]
  unfold Args.hidAt hid lin
  simp only [mul_comm]

theorem norm_apply {h : FVec Ideal S256x14x960 .f32} (hh : k0_pay1 v0 v2 v4 v7 = h) {H : Fin 14 → Plane}
    (hH : ∀ t k b, h (ix3 b t k) = H t k b) (h30 : ∀ k, v30 (ix3 0 0 k) = A.P 1 k) (h34 : ∀ k, v34 (ix3 0 0 k) = A.P 2 k)
    (t : Fin 14) (k : Fin 960) (b : Fin 256) :
    k0_pay2 v0 v2 v4 v7 v30 (ix3 b t k) + k0_pay3 v34 (ix3 b t k) = norm A.P (H t) k b := by
  unfold k0_pay2 k0_pay3
  rw [hh]
  pointwise
  simp only [hH, h30, h34, div_d]
  rfl

/-- The convolution's input, of the normalised stream `C`. -/
theorem z_apply {v33 v36 : FVec Ideal S256x14x960 .f32} {v39 v46 : Vec Ideal S1x960x960 .bf16} {v42 v49 : Vec Ideal S1x1x1x960 .f32}
    {v55 : Vec Ideal S256x8x960 .fp8e4m3} {v57 : Vec Ideal S256x8x1 .f32}
    (hC : ∀ t k b, v33 (ix3 b t k) + v36 (ix3 b t k) = norm A.P (A.hidAt t) k b)
    (h39 : ∀ d k, v39 (ix3 0 k d) = A.w1 0 d k) (h46 : ∀ d k, v46 (ix3 0 k d) = A.w1 1 d k)
    (h42 : ∀ k, v42 (ix4 0 0 0 k) = A.P 3 k) (h49 : ∀ k, v49 (ix4 0 0 0 k) = A.P 4 k)
    (h55 : ∀ n k b, v55 (ix3 b n k) = A.q n k b) (h57 : ∀ n b, v57 (ix3 b n 0) = A.σ n b)
    (n : Fin 22) (k : Fin 960) (b : Fin 256) :
    k0_pay4 v33 v36 v39 v42 v46 v49 v55 v57 (ix3 b n k) = A.z n.val k b := by
  unfold k0_pay4
  pointwise
  split
  next h =>
    rw [h55, h57, Args.z, dif_pos h]
  next h =>
    have hn : n.val - 8 < 14 := by omega
    rw [Args.z, dif_neg h, dif_pos hn]
    simp only [hC, h39, h46, h42, h49]
    unfold Args.gluAt glu
    rw [← lin_swap (A.w1 0), ← lin_swap (A.w1 1)]

variable {w0 w1 w2 w3 w4 w5 w6 w7 w8 : Vec Ideal S1x1x1x960 .f32} {v115 v119 : Vec Ideal S1x1x960 .f32}

/-- The convolution's output, of its input. -/
theorem conv_apply {v33 v36 : FVec Ideal S256x14x960 .f32} {v39 v46 : Vec Ideal S1x960x960 .bf16} {v42 v49 : Vec Ideal S1x1x1x960 .f32}
    {v55 : Vec Ideal S256x8x960 .fp8e4m3} {v57 : Vec Ideal S256x8x1 .f32} {v61 : FVec Ideal S256x22x960 .f32}
    (e : k0_pay4 v33 v36 v39 v42 v46 v49 v55 v57 = v61) (hz : ∀ (n : Fin 22) k b, v61 (ix3 b n k) = A.z n.val k b)
    (g0 : ∀ k, w0 (ix4 0 0 0 k) = A.P 8 k) (g1 : ∀ k, w1 (ix4 0 0 0 k) = A.P 9 k) (g2 : ∀ k, w2 (ix4 0 0 0 k) = A.P 10 k)
    (g3 : ∀ k, w3 (ix4 0 0 0 k) = A.P 11 k) (g4 : ∀ k, w4 (ix4 0 0 0 k) = A.P 12 k) (g5 : ∀ k, w5 (ix4 0 0 0 k) = A.P 13 k)
    (g6 : ∀ k, w6 (ix4 0 0 0 k) = A.P 14 k) (g7 : ∀ k, w7 (ix4 0 0 0 k) = A.P 15 k) (g8 : ∀ k, w8 (ix4 0 0 0 k) = A.P 16 k)
    (h115 : ∀ k, v115 (ix3 0 0 k) = A.P 5 k) (h119 : ∀ k, v119 (ix3 0 0 k) = A.P 6 k) (t : Fin 14) (k : Fin 960) (b : Fin 256) :
    k0_pay9 v61 (k0_pay7 v61 (k0_pay5 v33 v36 v39 v42 v46 v49 v55 v57 w0) (k0_pay6 v33 v36 v39 v42 v46 v49 v55 v57) w1 w2 w3 w4 w5 w6)
      (k0_pay8 v61) w7 w8 v115 v119 (ix3 b t k) = A.convAt t k b := by
  unfold k0_pay9 k0_pay7 k0_pay5 k0_pay6 k0_pay8
  rw [e]
  pointwise
  simp only [hz, g0, g1, g2, g3, g4, g5, g6, g7, g8, h115, h119, Nat.add_comm _ t.val]
  rfl

/-- The result, of the residual stream and the convolution's output. -/
theorem out_apply {v11 : FVec Ideal S256x14x960 .f32} {v61 : FVec Ideal S256x22x960 .f32} {v102 v103 : FVec Ideal S256x14x960 .f32}
    {v104 v110 : Vec Ideal S1x1x1x960 .f32} {v126 : Vec Ideal S960x960 .bf16} {v128 : Vec Ideal S1x1x960 .f32}
    (h11 : ∀ t k b, v11 (ix3 b t k) = A.hidAt t k b)
    (hu : ∀ t k b, k0_pay9 v61 v102 v103 v104 v110 v115 v119 (ix3 b t k) = A.convAt t k b)
    (h126 : ∀ d k, v126 (ix2 k d) = A.w2 d k) (h128 : ∀ k, v128 (ix3 0 0 k) = A.P 7 k) (t : Fin 14) (k : Fin 960) (b : Fin 256) :
    k0_pay10 v11 v61 v102 v103 v104 v110 v115 v119 v126 v128 (ix3 t k b) = A.outAt t k b := by
  unfold k0_pay10
  pointwise
  simp only [h11, hu, h126, h128]
  unfold Args.outAt out lin
  simp only [mul_comm]

end

/-! ## The results of the body -/

section

variable {A : Args} {x0 x1 : Vec Ideal S256x14x960 .bf16} {x2 x13 : Vec Ideal S960x960 .bf16} {x3 x4 x5 x11 x12 x14 : Vec Ideal S1x1x960 .f32}
  {x6 : Vec Ideal S2x960x960 .bf16} {x7 : Vec Ideal S2x1x1x960 .f32} {x8 : Vec Ideal S256x8x960 .fp8e4m3} {x9 : Vec Ideal S256x8x1 .f32}
  {x10 : Vec Ideal S9x1x1x960 .f32}

/-- The input blocks hold the arguments. -/
structure Holds (A : Args) (x0 x1 : Vec Ideal S256x14x960 .bf16) (x2 : Vec Ideal S960x960 .bf16) (x3 x4 x5 : Vec Ideal S1x1x960 .f32)
    (x6 : Vec Ideal S2x960x960 .bf16) (x7 : Vec Ideal S2x1x1x960 .f32) (x8 : Vec Ideal S256x8x960 .fp8e4m3) (x9 : Vec Ideal S256x8x1 .f32)
    (x10 : Vec Ideal S9x1x1x960 .f32) (x11 x12 : Vec Ideal S1x1x960 .f32) (x13 : Vec Ideal S960x960 .bf16) (x14 : Vec Ideal S1x1x960 .f32) :
    Prop where
  h0 : ∀ t k b, x0 (ix3 b t k) = A.X t k b
  h1 : ∀ t k b, x1 (ix3 b t k) = A.T t k b
  h2 : ∀ d k, x2 (ix2 k d) = A.wo d k
  h3 : ∀ k, x3 (ix3 0 0 k) = A.P 0 k
  h4 : ∀ k, x4 (ix3 0 0 k) = A.P 1 k
  h5 : ∀ k, x5 (ix3 0 0 k) = A.P 2 k
  h6 : ∀ j d k, x6 (ix3 j k d) = A.w1 j d k
  h7 : ∀ (j : Fin 2) k, x7 (ix4 j 0 0 k) = A.P ⟨3 + j.val, by omega⟩ k
  h8 : ∀ n k b, x8 (ix3 b n k) = A.q n k b
  h9 : ∀ n b, x9 (ix3 b n 0) = A.σ n b
  h10 : ∀ (j : Fin 9) k, x10 (ix4 j 0 0 k) = A.P ⟨8 + j.val, by omega⟩ k
  h11 : ∀ k, x11 (ix3 0 0 k) = A.P 5 k
  h12 : ∀ k, x12 (ix3 0 0 k) = A.P 6 k
  h13 : ∀ d k, x13 (ix2 k d) = A.w2 d k
  h14 : ∀ k, x14 (ix3 0 0 k) = A.P 7 k

/-- A row of an array with one axis of rows in front, loaded. -/
theorem ld_row4 {n : ℕ} (x : (⟨4, ![n, 1, 1, 960]⟩ : Shape).Idx → EReal) (j : ℕ) (hj : j < n) {inb} (k : Fin 960) :
    View.ld (Val := Elt Ideal) (e' := .f32) x (Rect.unit (s := ⟨4, ![n, 1, 1, 960]⟩) ![j, 0, 0, 0] S1x1x1x960.size inb) (ix4 0 0 0 k) = x (ix4 ⟨j, hj⟩ 0 0 k) := by
  refine congrArg x ?_
  funext a
  match a with
  | 0 => exact Fin.ext (by simp)
  | 1 => exact Fin.ext (by simp)
  | 2 => exact Fin.ext (by simp)
  | 3 => exact Fin.ext (by simp)

/-- A matrix of an array of matrices, loaded. -/
theorem ld_row3 (x : Vec Ideal S2x960x960 .bf16) (j : ℕ) (hj : j < 2) {inb} (k d : Fin 960) :
    View.ld x (Rect.unit (s := S2x960x960) ![j, 0, 0] S1x960x960.size inb) (ix3 0 k d) = x (ix3 ⟨j, hj⟩ k d) := by
  refine congrArg x ?_
  funext a
  match a with
  | 0 => exact Fin.ext (by simp)
  | 1 => exact Fin.ext (by simp)
  | 2 => exact Fin.ext (by simp)

theorem hid_of_holds (H : Holds A x0 x1 x2 x3 x4 x5 x6 x7 x8 x9 x10 x11 x12 x13 x14) (t : Fin 14) (k : Fin 960) (b : Fin 256) :
    k0_pay1 x0 x1 x2 x3 (ix3 b t k) = A.hidAt t k b := hid_apply H.h0 H.h1 H.h2 H.h3 t k b

theorem z_of_holds (H : Holds A x0 x1 x2 x3 x4 x5 x6 x7 x8 x9 x10 x11 x12 x13 x14) (n : Fin 22) (k : Fin 960) (b : Fin 256) :
    k0_pay14 x0 x1 x2 x3 x4 x5 x6 x7 x8 x9 x10 x11 x12 x13 x14 (ix3 b n k) = A.z n.val k b := by
  unfold k0_pay14 k0_pay12 k0_pay13
  simp (disch := decide) only [View.ld_unit_lit']
  exact z_apply (norm_apply rfl (hid_of_holds H) H.h4 H.h5)
    (fun d k => (ld_row3 x6 0 (by decide) k d).trans (H.h6 0 d k)) (fun d k => (ld_row3 x6 1 (by decide) k d).trans (H.h6 1 d k))
    (fun k => (ld_row4 x7 0 (by decide) k).trans (H.h7 0 k)) (fun k => (ld_row4 x7 1 (by decide) k).trans (H.h7 1 k))
    H.h8 H.h9 n k b

theorem conv_of_holds (H : Holds A x0 x1 x2 x3 x4 x5 x6 x7 x8 x9 x10 x11 x12 x13 x14) (t : Fin 14) (k : Fin 960) (b : Fin 256) :
    k0_pay9 (k0_pay14 x0 x1 x2 x3 x4 x5 x6 x7 x8 x9 x10 x11 x12 x13 x14) (k0_pay15 x0 x1 x2 x3 x4 x5 x6 x7 x8 x9 x10 x11 x12 x13 x14) (k0_pay16 x0 x1 x2 x3 x4 x5 x6 x7 x8 x9 x10 x11 x12 x13 x14) (View.ld x10 r0_16) (View.ld x10 r0_17) x11 x12 (ix3 b t k) = A.convAt t k b := by
  unfold k0_pay15 k0_pay16
  exact conv_apply rfl (z_of_holds H)
    (fun k => (ld_row4 x10 0 (by decide) k).trans (H.h10 0 k))
    (fun k => (ld_row4 x10 1 (by decide) k).trans (H.h10 1 k))
    (fun k => (ld_row4 x10 2 (by decide) k).trans (H.h10 2 k))
    (fun k => (ld_row4 x10 3 (by decide) k).trans (H.h10 3 k))
    (fun k => (ld_row4 x10 4 (by decide) k).trans (H.h10 4 k))
    (fun k => (ld_row4 x10 5 (by decide) k).trans (H.h10 5 k))
    (fun k => (ld_row4 x10 6 (by decide) k).trans (H.h10 6 k))
    (fun k => (ld_row4 x10 7 (by decide) k).trans (H.h10 7 k))
    (fun k => (ld_row4 x10 8 (by decide) k).trans (H.h10 8 k))
    H.h11 H.h12 t k b

theorem out15_of_holds (H : Holds A x0 x1 x2 x3 x4 x5 x6 x7 x8 x9 x10 x11 x12 x13 x14) (t : Fin 14) (k : Fin 960) (b : Fin 256) :
    out0_15 x0 x1 x2 x3 x4 x5 x6 x7 x8 x9 x10 x11 x12 x13 x14 (ix3 t k b) = A.outAt t k b := by
  unfold out0_15
  simp (disch := decide) only [View.canon_cons_unit_lit', View.ld_unit_lit']
  exact out_apply (hid_of_holds H) (conv_of_holds H) H.h13 H.h14 t k b

theorem out16_of_holds (H : Holds A x0 x1 x2 x3 x4 x5 x6 x7 x8 x9 x10 x11 x12 x13 x14) (t : Fin 14) (k : Fin 960) (b : Fin 256) :
    out0_16 x0 x1 x2 x3 x4 x5 x6 x7 x8 x9 x10 x11 x12 x13 x14 (ix3 t k b) = A.convAt t k b := by
  unfold out0_16
  simp (disch := decide) only [View.canon_cons_unit_lit', View.ld_unit_lit']
  unfold k0_pay11
  pointwise
  exact conv_of_holds H t k b

end

end Cert.ReferenceIdeal.Hand

end
-- ==== Proof.RefRun.lean ====
/- What the reference's run leaves in the arrays of its results. -/
module

public import proofs.«01_k».proof.Proof.RefValue
public import Idealize.ShloMosaic.Lib.StableHlo.ReadAt

@[expose] public section

set_option maxRecDepth 16384

noncomputable section

namespace Cert.ReferenceIdeal.Hand

open Cert.ReferenceIdeal.Gen Cert.Conv
open Idealize.ShloMosaic Idealize.ShloMosaic.TcCoe Idealize.ShloMosaic.Tactic Idealize.SL.Sem

variable (m : (ℓ : Loc nD τ sig) → Buf (Elt Ideal) ℓ) (ρ : Dev nD → PrngReg)

/-- The arrays that @main is given. -/
def arrays (c : Dev nD) : Arrays where
  x := m ((c : Thread nD τ).loc main_arg0)
  attn := m ((c : Thread nD τ).loc main_arg1)
  w_o := m ((c : Thread nD τ).loc main_arg2)
  b_o := m ((c : Thread nD τ).loc main_arg3)
  ln_g := m ((c : Thread nD τ).loc main_arg4)
  ln_b := m ((c : Thread nD τ).loc main_arg5)
  w_pw1 := m ((c : Thread nD τ).loc main_arg6)
  b_pw1 := m ((c : Thread nD τ).loc main_arg7)
  codes := m ((c : Thread nD τ).loc main_arg8)
  scale := m ((c : Thread nD τ).loc main_arg9)
  dw_w := m ((c : Thread nD τ).loc main_arg10)
  bn_scale := m ((c : Thread nD τ).loc main_arg11)
  bn_bias := m ((c : Thread nD τ).loc main_arg12)
  w_pw2 := m ((c : Thread nD τ).loc main_arg13)
  b_pw2 := m ((c : Thread nD τ).loc main_arg14)

/-! ## The input blocks -/

theorem index0 : ∀ t : Fin cfg0.N, win0_0.index t = ![0, 0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0, 0, 0] := (by decide +kernel : ∀ t : Fin grid0.N, _)
theorem index8 : ∀ t : Fin cfg0.N, win0_8.index t = ![0, 0, 0] := (by decide +kernel : ∀ t : Fin grid0.N, _)
theorem index9 : ∀ t : Fin cfg0.N, win0_9.index t = ![0, 0, 0] := (by decide +kernel : ∀ t : Fin grid0.N, _)
theorem index10 : ∀ t : Fin cfg0.N, win0_10.index t = ![0, 0, 0, 0] := (by decide +kernel : ∀ t : Fin grid0.N, _)
theorem index11 : ∀ t : Fin cfg0.N, win0_11.index t = ![0, 0, 0] := (by decide +kernel : ∀ t : Fin grid0.N, _)
theorem index12 : ∀ t : Fin cfg0.N, win0_12.index t = ![0, 0, 0] := (by decide +kernel : ∀ t : Fin grid0.N, _)
theorem index13 : ∀ t : Fin cfg0.N, win0_13.index t = ![0, 0] := (by decide +kernel : ∀ t : Fin grid0.N, _)
theorem index14 : ∀ t : Fin cfg0.N, win0_14.index t = ![0, 0, 0] := (by decide +kernel : ∀ t : Fin grid0.N, _)
theorem index15 : ∀ t : Fin cfg0.N, win0_15.index t = ![0, 0, 0] := (by decide +kernel : ∀ t : Fin grid0.N, _)
theorem index16 : ∀ t : Fin cfg0.N, win0_16.index t = ![0, 0, 0] := (by decide +kernel : ∀ t : Fin grid0.N, _)

theorem iblk0 (c : Dev nD) (t : Fin cfg0.N) : iblk m c 0 t = V m c main_arg0 := by blk_ext! [iblk, index0 t]
theorem iblk1 (c : Dev nD) (t : Fin cfg0.N) : iblk m c 1 t = V m c main_v0 := by blk_ext! [iblk, index1 t]
theorem iblk2 (c : Dev nD) (t : Fin cfg0.N) : iblk m c 2 t = V m c main_v1 := by blk_ext! [iblk, index2 t]
theorem iblk3 (c : Dev nD) (t : Fin cfg0.N) : iblk m c 3 t = V m c main_v2 := by blk_ext! [iblk, index3 t]
theorem iblk4 (c : Dev nD) (t : Fin cfg0.N) : iblk m c 4 t = V m c main_v3 := by blk_ext! [iblk, index4 t]
theorem iblk5 (c : Dev nD) (t : Fin cfg0.N) : iblk m c 5 t = V m c main_v4 := by blk_ext! [iblk, index5 t]
theorem iblk6 (c : Dev nD) (t : Fin cfg0.N) : iblk m c 6 t = V m c main_v5 := by blk_ext! [iblk, index6 t]
theorem iblk7 (c : Dev nD) (t : Fin cfg0.N) : iblk m c 7 t = V m c main_v6 := by blk_ext! [iblk, index7 t]
theorem iblk8 (c : Dev nD) (t : Fin cfg0.N) : iblk m c 8 t = V m c main_arg8 := by blk_ext! [iblk, index8 t]
theorem iblk9 (c : Dev nD) (t : Fin cfg0.N) : iblk m c 9 t = V m c main_v7 := by blk_ext! [iblk, index9 t]
theorem iblk10 (c : Dev nD) (t : Fin cfg0.N) : iblk m c 10 t = V m c main_v8 := by blk_ext! [iblk, index10 t]
theorem iblk11 (c : Dev nD) (t : Fin cfg0.N) : iblk m c 11 t = V m c main_v9 := by blk_ext! [iblk, index11 t]
theorem iblk12 (c : Dev nD) (t : Fin cfg0.N) : iblk m c 12 t = V m c main_v10 := by blk_ext! [iblk, index12 t]
theorem iblk13 (c : Dev nD) (t : Fin cfg0.N) : iblk m c 13 t = V m c main_arg13 := by blk_ext! [iblk, index13 t]
theorem iblk14 (c : Dev nD) (t : Fin cfg0.N) : iblk m c 14 t = V m c main_v11 := by blk_ext! [iblk, index14 t]

set_option maxHeartbeats 1000000 in
/-- The input blocks hold the arguments. -/
theorem holds (c : Dev nD) (t : Fin cfg0.N) : Holds (arrays m c).args (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) where
  h0 t k b := by rw [iblk0]; entry_read; pointwise; rfl
  h1 t k b := by rw [iblk1]; entry_read; pointwise; rfl
  h2 d k := by rw [iblk2]; entry_read; pointwise; rfl
  h3 k := by rw [iblk3]; entry_read; pointwise; rfl
  h4 k := by rw [iblk4]; entry_read; pointwise; rfl
  h5 k := by rw [iblk5]; entry_read; pointwise; rfl
  h6 j d k := by rw [iblk6]; entry_read; pointwise; rfl
  h7 j k := by rw [iblk7]; entry_read; pointwise; fin_cases j <;> rfl
  h8 n k b := by rw [iblk8]; entry_read; pointwise; rfl
  h9 n b := by rw [iblk9]; entry_read; pointwise; rfl
  h10 j k := by rw [iblk10]; entry_read; pointwise; fin_cases j <;> rfl
  h11 k := by rw [iblk11]; entry_read; pointwise; rfl
  h12 k := by rw [iblk12]; entry_read; pointwise; rfl
  h13 d k := by rw [iblk13]; entry_read; pointwise; rfl
  h14 k := by rw [iblk14]; entry_read; pointwise; rfl

/-! ## The results -/

/-- A result's array, of its value token by token. -/
def arr (z : Fin 14 → Plane) : S14x960x256.Idx → EReal := fun x => z (x 0) (x 1) (x 2)

theorem final15 (c : Dev nD) : (dats m 0 c).arrAt 15 cfg0.N = arr (arrays m c).args.outAt := by
  refine (dats m 0 c).arrAt_eq_of_after_last 15 t0_0 (by decide +kernel) _ fun j => ?_
  blk_simp [index15 t0_0]
  rw [after0_15]
  exact (congrArg _ (eq_ix3 j)).trans (out15_of_holds (holds m c t0_0) (j 0) (j 1) (j 2))

theorem final16 (c : Dev nD) : (dats m 0 c).arrAt 16 cfg0.N = arr (arrays m c).args.convAt := by
  refine (dats m 0 c).arrAt_eq_of_after_last 16 t0_0 (by decide +kernel) _ fun j => ?_
  blk_simp [index16 t0_0]
  rw [after0_16]
  exact (congrArg _ (eq_ix3 j)).trans (out16_of_holds (holds m c t0_0) (j 0) (j 1) (j 2))

/-- The run's results. -/
theorem values : θ_run defs (onTc (main (F := Ideal))) ⟨m, fun _ => 0, ρ⟩ (fun r => ∀ c : Dev nD,
    r.2.mem ((c : Thread nD τ).loc main_v12_0) = arr (arrays m c).args.outAt ∧
    r.2.mem ((c : Thread nD τ).loc main_v12_1) = arr (arrays m c).args.convAt) :=
  (θ_run defs _ _).mono (fun r h c => ⟨(h.out_eq c 15).trans (final15 m c), (h.out_eq c 16).trans (final16 m c)⟩) (run_main m ρ)

end Cert.ReferenceIdeal.Hand

end
-- ==== Proof.Qkv.Spec.lean ====
/- The projections of the first call, over the extended reals: every token is normalised, projected to keys and to values, and each head's
   features are quantised by a scale of their own, the largest magnitude over 127. -/
module

public import proofs.«01_k».proof.Proof.Spec
public import Idealize.ShloMosaic.Lib.Pointwise.Index

@[expose] public section

noncomputable section

namespace Cert.Proj

open Cert.Conv
open Idealize.ShloMosaic

/-- Layer normalisation with gain `P 0` and offset `P 1`. -/
def norm (P : Fin 5 → Col) (x : Plane) : Plane := fun k b => (x k b - mean x b) * rstd x b * P 0 k + P 1 k

/-- Projection `n` (queries, keys, values) of a normalised token, with its bias. -/
def proj (P : Fin 5 → Col) (w : Fin 3 → Fin 960 → Fin 960 → EReal) (n : Fin 3) (a : Plane) : Plane := fun d b =>
  lin (w n) a d b + P ⟨2 + n.val, by omega⟩ d

/-- Feature `k` of head `h`. -/
def feature (h : Fin 10) (k : Fin 96) : Fin 960 := ⟨h.val * 96 + k.val, by omega⟩

/-- The largest magnitude of a head's features. -/
def largest (v : Fin 96 → EReal) : EReal :=
  Finset.univ.fold max (Ideal.ofBits .f32 0xFF800000#32) fun k => FloatOps.absf (F := Ideal) (φ := .f32) (v k)

/-- The quantiser's scale of a head: its largest magnitude over 127, or one if all its features are zero. -/
def scaleOf (v : Fin 96 → EReal) : EReal := if 0 < largest v then Ideal.div (largest v) (Ideal.ofBits .f32 0x42FE0000#32) else 1

/-- The scale of head `h` of a token. -/
def scale (v : Plane) (h : Fin 10) (b : Fin 256) : EReal := scaleOf fun k => v (feature h k) b

/-- The quantiser's code of a feature: the feature over its head's scale, rounded to a whole number (ties to even) and kept within ±127. -/
def codeOf (s x : EReal) : BitVec 8 :=
  FloatOps.fptosi (F := Ideal) (φ := .f32) 8 (FloatOps.minimumf (F := Ideal) (φ := .f32) (Ideal.ofBits .f32 0x42FE0000#32)
    (FloatOps.maximumf (F := Ideal) (φ := .f32) (Ideal.ofBits .f32 0xC2FE0000#32) (FloatOps.roundeven (F := Ideal) (φ := .f32) (Ideal.div x s))))

/-- The code of feature `d` of a token. -/
def code (v : Plane) (d : Fin 960) (b : Fin 256) : BitVec 8 := codeOf (scale v ⟨d.val / 96, by omega⟩ b) (v d b)

/-- A feature of the head whose features begin at `r`. -/
theorem feat_lt {r : ℕ} (h : r + 96 ≤ 960) (k : Fin 96) : r + k.val < 960 := by omega

/-- Row `d` of the weights of projection `n`. -/
theorem wrow_lt (n : Fin 3) (d : Fin 960) : 960 * n.val + d.val < 2880 := by omega

/-- The arguments: token by token the input `X`; the parameters `P` (the normalisation's gain and offset, the three biases); the weights
    of the three projections. -/
structure Args where
  X : Fin 14 → Plane
  P : Fin 5 → Col
  w : Fin 3 → Fin 960 → Fin 960 → EReal

/-- Token `t`, normalised. -/
def Args.normAt (A : Args) (t : Fin 14) : Plane := norm A.P (A.X t)

/-- The scales of projection `n` of token `t`. -/
def Args.scaleAt (A : Args) (n : Fin 3) (t : Fin 14) : Fin 10 → Fin 256 → EReal := scale (proj A.P A.w n (A.normAt t))

/-- The array of the scales of projection `n`. -/
def Args.scales (A : Args) (n : Fin 3) : (⟨3, ![14, 10, 256]⟩ : Shape).Idx → EReal := fun x => A.scaleAt n (x 0) (x 1) (x 2)

/-- The codes of projection `n` of token `t`. -/
def Args.codeAt (A : Args) (n : Fin 3) (t : Fin 14) : Fin 960 → Fin 256 → BitVec 8 := code (proj A.P A.w n (A.normAt t))

/-- The array of the codes of projection `n`. -/
def Args.codes (A : Args) (n : Fin 3) : (⟨3, ![14, 960, 256]⟩ : Shape).Idx → BitVec 8 := fun x => A.codeAt n (x 0) (x 1) (x 2)

/-- The arrays that a program is given, in the order of its arguments. -/
structure Arrays where
  x : (⟨3, ![256, 14, 960]⟩ : Shape).Idx → EReal
  ln_g : (⟨1, ![960]⟩ : Shape).Idx → EReal
  ln_b : (⟨1, ![960]⟩ : Shape).Idx → EReal
  w_qkv : (⟨4, ![960, 3, 10, 96]⟩ : Shape).Idx → EReal
  b_qkv : (⟨3, ![3, 10, 96]⟩ : Shape).Idx → EReal

/-- The bias of projection `n`. -/
def Arrays.bias (a : Arrays) (n : Fin 3) (k : Fin 960) : EReal := a.b_qkv (ix3 n ⟨k.val / 96, by omega⟩ ⟨k.val % 96, by omega⟩)

/-- The arguments that the arrays hold. -/
def Arrays.args (a : Arrays) : Args where
  X t k b := a.x (ix3 b t k)
  P j k := ![a.ln_g (ix1 k), a.ln_b (ix1 k), a.bias 0 k, a.bias 1 k, a.bias 2 k] j
  w n d k := a.w_qkv (ix4 k n ⟨d.val / 96, by omega⟩ ⟨d.val % 96, by omega⟩)

end Cert.Proj

end
-- ==== Proof.Qkv.Rows.lean ====
/- The projections of the first call: how the loads, the operations and the stores of the call's body act on
   chunks of rows. The chunks of 32 rows are those of `Rows`. -/
module

public import proofs.«01_k».proof.Proof.Loads
public import proofs.«01_k».proof.Proof.Qkv.Spec
public import proofs.«01_k».proof.Proof.Gen.QkvIdeal

@[expose] public section

noncomputable section

namespace Cert.QkvIdeal.Hand

open Cert.QkvIdeal.Gen Cert.Proj
open Cert.Conv (Plane Col lin mean rstd invD)
open Cert.KernelIdeal.Hand (Rows Rows1 RowsP RowIs rowAt wide wide_apply Acc acc_succ sum_chunks idx2_ext idx3_ext Agree agree_nil
  agree_cons rows1_cast par_chunk cast_plane rows_norm rows_sq)
open Idealize.ShloMosaic Idealize.ShloMosaic.TcCoe Idealize.SL.Sem

/-! ## Chunks -/

variable {r : ℕ}

theorem acc_zero {G : Plane} : Acc 0 (broadcast S32x256 (Scalar.ofBits .f32 0x00000000#32 : Ideal .f32)) G := by
  refine ⟨fun ρ b => ?_⟩
  pointwise
  simp

/-- A chunk of the input. -/
theorem rows_ext {X : FVec Ideal S1x32x256 .bf16} {x : Plane} (hX : Rows1 r X x) {e1 e2} :
    Rows r (extf .f32 (shapeCast S32x256 X e1) e2) x := by
  intro h ρ b
  pointwise
  exact hX h ρ b

theorem inv_d_eq : (Named.named κ "inv_d" 0x3A888889#32 : Ideal .f32) = invD :=
  IdealRules.named_const.ideal_named_scalar _ _ _ _ rfl

/-- The row of column means. -/
theorem mean_row {V : FVec Ideal S32x256 .f32} {G : Plane} (hV : Acc 30 V G) {e1 e2 e3 e4} :
    RowIs (mulf (shapeCast S1x256 (multiReduction (F := Ideal) .add [0] S256 V 0x00000000#32 e1 e2 e3) e4)
      (broadcast S1x256 (Named.named κ "inv_d" 0x3A888889#32 : Ideal .f32))) (mean G) := by
  intro b
  unfold mean
  pointwise
  rw [sum_chunks hV b, inv_d_eq]

/-- The row of the reciprocals of the columns' deviations. -/
theorem rs_row {V : FVec Ideal S32x256 .f32} {G : Plane}
    (hV : Acc 30 V (fun k b => (G k b - mean G b) * (G k b - mean G b))) {e1 e2 e3 e4} :
    RowIs (rsqrt (addf (mulf (shapeCast S1x256 (multiReduction (F := Ideal) .add [0] S256 V 0x00000000#32 e1 e2 e3) e4)
      (broadcast S1x256 (Named.named κ "inv_d" 0x3A888889#32 : Ideal .f32)))
      (broadcast S1x256 (Scalar.ofBits .f32 0x3727C5AC#32 : Ideal .f32)))) (rstd G) := by
  intro b
  unfold rstd
  pointwise
  rw [sum_chunks hV b, inv_d_eq]; rfl

/-- `V` is the head of the plane `G` that begins at row `r`. -/
def Head (r : ℕ) (V : S96x256.Idx → EReal) (G : Plane) : Prop :=
  ∀ (h : r + 96 ≤ 960) (k : Fin 96) (b : Fin 256), V (ix2 k b) = G ⟨r + k.val, by omega⟩ b

/-- A head's chunk of a parameter, the same in all lanes. -/
def HeadP (r : ℕ) (V : S1x96x128.Idx → EReal) (P : Col) : Prop :=
  ∀ (h : r + 96 ≤ 960) (k : Fin 96) (l : Fin 128), V (ix3 0 k l) = P ⟨r + k.val, by omega⟩

/-- One head of a projection. -/
theorem head_proj {D : FVec Ideal S960x256 .f32} {V : FVec Ideal S1x96x128 .f32} {d : Plane} {p : Col}
    (hD : ∀ k b, D (ix2 k b) = d k b) (hV : HeadP r V p) {e1 e2 e3 e4 e5} :
    Head r (extf .f32 (truncf .bf16 (addf (extractStridedSlice S96x256 ![r, 0] D e1)
      (concatenate S96x256 1 [⟨S96x128, shapeCast S96x128 V e2⟩, ⟨S96x128, shapeCast S96x128 V e2⟩] e3)) e4) e5)
      (fun k b => d k b + p k) := by
  intro h k b
  pointwise
  rw [hD]
  congr 1
  split <;> exact hV h k _

/-- One head's scales. -/
theorem head_scale (h : ℕ) (hh : h < 10) {V : FVec Ideal S96x256 .f32} {G : Plane} (hr : r = h * 96) (hV : Head r V G) {e1 e2 e3 e4}
    (b : Fin 256) :
    select (cmpf .ogt (shapeCast S1x256 (multiReduction (F := Ideal) .maximumf [0] S256 (absf V) 0xFF800000#32 e1 e2 e3) e4)
        (broadcast S1x256 (FloatOps.ofBits .f32 0#32 : Ideal .f32)))
      (divf (shapeCast S1x256 (multiReduction (F := Ideal) .maximumf [0] S256 (absf V) 0xFF800000#32 e1 e2 e3) e4)
        (broadcast S1x256 (FloatOps.ofBits .f32 1123942400#32 : Ideal .f32)))
      (broadcast S1x256 (FloatOps.ofBits .f32 1065353216#32 : Ideal .f32)) (ix2 0 b) = scale G ⟨h, hh⟩ b := by
  unfold scale scaleOf largest
  subst hr
  pointwise
  simp only [hV (by omega)]
  rfl

/-- One head's codes, from its features and its scales. -/
theorem head_code (hr : r / 96 * 96 = r) (hh : r + 96 ≤ 960) {V : FVec Ideal S96x256 .f32} {s : FVec Ideal S1x256 .f32} {G : Plane}
    (hV : Head r V G) (hs : ∀ b, s (ix2 0 b) = scale G ⟨r / 96, by omega⟩ b) {e} (k : Fin 96) (b : Fin 256) :
    fptosi 8 (minimumf (broadcast S96x256 (FloatOps.ofBits .f32 1123942400#32 : Ideal .f32))
      (maximumf (broadcast S96x256 (FloatOps.ofBits .f32 3271426048#32 : Ideal .f32)) (roundeven (divf V (broadcastTo S96x256 s e))))) (ix2 k b)
      = code G ⟨r + k.val, feat_lt hh k⟩ b := by
  have e : (⟨(r + k.val) / 96, by omega⟩ : Fin 10) = ⟨r / 96, by omega⟩ := Fin.ext (show _ / 96 = _ / 96 by omega)
  unfold code codeOf
  rw [e, ← hs b, ← hV hh k b]
  pointwise
  try rfl

/-- The same, the scales spelt out. -/
theorem head_quant (r : ℕ) (hr : r / 96 * 96 = r) (hh : r + 96 ≤ 960) {V : FVec Ideal S96x256 .f32} {G : Plane} (hV : Head r V G)
    {e e1 e2 e3 e4} (k : Fin 96) (b : Fin 256) :
    fptosi 8 (minimumf (broadcast S96x256 (FloatOps.ofBits .f32 1123942400#32 : Ideal .f32))
      (maximumf (broadcast S96x256 (FloatOps.ofBits .f32 3271426048#32 : Ideal .f32)) (roundeven (divf V (broadcastTo S96x256
        (select (cmpf .ogt (shapeCast S1x256 (multiReduction (F := Ideal) .maximumf [0] S256 (absf V) 0xFF800000#32 e1 e2 e3) e4)
            (broadcast S1x256 (FloatOps.ofBits .f32 0#32 : Ideal .f32)))
          (divf (shapeCast S1x256 (multiReduction (F := Ideal) .maximumf [0] S256 (absf V) 0xFF800000#32 e1 e2 e3) e4)
            (broadcast S1x256 (FloatOps.ofBits .f32 1123942400#32 : Ideal .f32)))
          (broadcast S1x256 (FloatOps.ofBits .f32 1065353216#32 : Ideal .f32))) e))))) (ix2 k b)
      = code G ⟨r + k.val, feat_lt hh k⟩ b :=
  head_code hr hh hV (fun b => head_scale (r / 96) (by omega) hr.symm hV b) k b

/-- A projection without its bias. -/
theorem dot_proj {A : FVec Ideal S960x960 .bf16} {B : FVec Ideal S960x256 .bf16} {w : Fin 960 → Fin 960 → EReal} {v : Plane}
    (hA : ∀ d k, A (ix2 d k) = w d k) (hB : ∀ k b, B (ix2 k b) = v k b) (d : Fin 960) (b : Fin 256) :
    matmul dot_S960x960_S960x256_S960x256_1_0_0_1_n_n none A B (constant (F := Ideal) S960x256 .f32 0#32) (ix2 d b)
      = lin w v d b := by
  unfold lin
  pointwise
  exact Finset.sum_congr rfl fun k _ => by rw [hA, hB]

/-! ## Loads of blocks whose entries are known -/

section Loads

variable {κ : Kind} {sp : Space}

/-- Two planes as the contents of a buffer. -/
def flat2 (G : Fin 2 → Plane) : S2x960x256.Idx → EReal := fun x => G (x 0) (x 1) (x 2)

/-- A chunk of one of two planes. -/
theorem rows1_unread {m : Memref sig κ sp S2x960x256 .bf16} (h : m.IsWhole) {x : Vec Ideal S2x960x256 .bf16} {G : Fin 2 → Plane}
    (hx : ∀ n k b, x (ix3 n k b) = G n k b) (n : ℕ) (hn : n < 2) {inb} :
    Rows1 r (m.view.readAt (Elt Ideal) (Rect.unit (s := S2x960x256) ![n, r, 0] S1x32x256.size inb).toLoadRect (h.unread x)) (G ⟨n, hn⟩) := by
  intro hr ρ b
  rw [h.readAt_unread, ← hx]
  exact congrArg x (idx3_ext (by simp) (by simp [rowAt]) (by simp))

/-- A chunk of a parameter's column. -/
theorem col_unread {m : Memref sig κ sp S960x5 .f32} (h : m.IsWhole) {x : Vec Ideal S960x5 .f32} {P : Fin 5 → Col}
    (hx : ∀ k j, x (ix2 k j) = P j k) (j : ℕ) (hj : j < 5) (hr : r + 96 ≤ 960) {inb} (k : Fin 96) :
    m.view.readAt (Elt Ideal) (Rect.unit (s := S960x5) ![r, j] S96x1.size inb).toLoadRect (h.unread x) (ix2 k 0)
      = P ⟨j, hj⟩ ⟨r + k.val, by omega⟩ := by
  rw [h.readAt_unread, ← hx]
  exact congrArg x (idx2_ext (by simp) (by simp))

/-- A chunk of a parameter from the block that holds all of them, each laid over the lanes. -/
theorem rowsP_unread {m : Memref sig κ sp S5x960x128 .f32} (h : m.IsWhole) {x : Vec Ideal S5x960x128 .f32} {P : Fin 5 → Col}
    (hx : ∀ j k l, x (ix3 j k l) = P j k) (j : ℕ) (hj : j < 5) {inb} :
    RowsP r (m.view.readAt (Elt Ideal) (Rect.unit (s := S5x960x128) ![j, r, 0] S1x32x128.size inb).toLoadRect (h.unread x)) (P ⟨j, hj⟩) := by
  intro hr ρ l
  rw [h.readAt_unread, ← hx _ _ l]
  exact congrArg x (idx3_ext (by simp) (by simp [rowAt]) (by simp))

/-- A head's chunk of a parameter from the same block. -/
theorem headP_unread {m : Memref sig κ sp S5x960x128 .f32} (h : m.IsWhole) {x : Vec Ideal S5x960x128 .f32} {P : Fin 5 → Col}
    (hx : ∀ j k l, x (ix3 j k l) = P j k) (j : ℕ) (hj : j < 5) {inb} :
    HeadP r (m.view.readAt (Elt Ideal) (Rect.unit (s := S5x960x128) ![j, r, 0] S1x96x128.size inb).toLoadRect (h.unread x)) (P ⟨j, hj⟩) := by
  intro hr ρ l
  rw [h.readAt_unread, ← hx _ _ l]
  exact congrArg x (idx3_ext (by simp) (by simp) (by simp))

/-- One projection's square matrix. -/
theorem square_unread {m : Memref sig κ sp S2880x960 .bf16} (h : m.IsWhole) {x : Vec Ideal S2880x960 .bf16}
    {w : Fin 3 → Fin 960 → Fin 960 → EReal} (hx : ∀ (n : Fin 3) (d k : Fin 960), x (ix2 ⟨960 * n.val + d.val, by omega⟩ k) = w n d k)
    (n : ℕ) (hn : n < 3) (hr : r = 960 * n) {inb e} (d k : Fin 960) :
    shapeCast S960x960 (m.view.readAt (Elt Ideal) (Rect.unit (s := S2880x960) ![r, 0] S960x960.size inb).toLoadRect (h.unread x)) e (ix2 d k)
      = w ⟨n, hn⟩ d k := by
  subst hr
  pointwise
  rw [h.readAt_unread, ← hx]
  exact congrArg x (idx2_ext (by simp) (by simp))

/-- Both planes. -/
theorem planes_unread {m : Memref sig κ sp S2x960x256 .bf16} (h : m.IsWhole) {x : Vec Ideal S2x960x256 .bf16} {G : Fin 2 → Plane}
    (hx : ∀ n k b, x (ix3 n k b) = G n k b) {inb e} (n : Fin 2) (k : Fin 960) (b : Fin 256) :
    shapeCast S2x960x256 (m.view.readAt (Elt Ideal) (Rect.unit (s := S2x960x256) ![0, 0, 0] S2x960x256.size inb).toLoadRect (h.unread x)) e (ix3 n k b)
      = G n k b := by
  pointwise
  rw [h.readAt_unread, ← hx]
  exact congrArg x (idx3_ext (by simp) (by simp) (by simp))

/-! ## Loads of what was stored -/

theorem cov_apply {s : Shape} {e : EltTy} {v : View sig κ sp s e} {L : List (View.Piece (Elt Ideal) s e)} {G : s.Idx → Elt Ideal e}
    (hL : Agree L G) (hc : ∀ y : s.Idx, ∃ p ∈ L, y ∈ p.1.set) {B : LoadRect s} (j) : v.readCov L B j = G (B.idx j) := by
  rw [View.readCov_eq_canon']
  exact View.canon_apply_of_pieces G L hL _ (hc _)

/-- Both planes of a buffer that was filled. -/
theorem planes_cov {v : View sig κ sp S2x960x256 .bf16} {L : List (View.Piece (Elt Ideal) S2x960x256 .bf16)} {G : Fin 2 → Plane}
    (hL : Agree L (flat2 G)) (hc : ∀ y : S2x960x256.Idx, ∃ p ∈ L, y ∈ p.1.set) {inb e} (n : Fin 2) (k : Fin 960) (b : Fin 256) :
    shapeCast S2x960x256 (v.readCov L (Rect.unit (s := S2x960x256) ![0, 0, 0] S2x960x256.size inb).toLoadRect) e (ix3 n k b) = G n k b := by
  pointwise
  refine (cov_apply hL hc _).trans ?_
  exact congrArg (flat2 G) (idx3_ext (y := ix3 n k b) (by simp) (by simp) (by simp))

/-- One of the planes, the unit axis dropped. -/
theorem plane_cov {v : View sig κ sp S2x960x256 .bf16} {L : List (View.Piece (Elt Ideal) S2x960x256 .bf16)} {G : Fin 2 → Plane}
    (hL : Agree L (flat2 G)) (hc : ∀ y : S2x960x256.Idx, ∃ p ∈ L, y ∈ p.1.set) (n : ℕ) (hn : n < 2) {inb e} (k : Fin 960) (b : Fin 256) :
    shapeCast S960x256 (v.readCov L (Rect.unit (s := S2x960x256) ![n, 0, 0] S1x960x256.size inb).toLoadRect) e (ix2 k b) = G ⟨n, hn⟩ k b := by
  refine cast_plane (fun k b => ?_) k b
  refine (cov_apply hL hc _).trans ?_
  exact congrArg (flat2 G) (idx3_ext (y := ix3 (⟨n, hn⟩ : Fin 2) k b) (by simp) (by simp) (by simp))

/-- The parameters as the contents of the buffer in which each is laid over the lanes. -/
def flatP (P : Fin 5 → Col) : S5x960x128.Idx → EReal := fun x => P (x 0) (x 1)

/-- A chunk of a parameter from the buffer that was filled with all of them. -/
theorem rowsP_cov {v : View sig κ sp S5x960x128 .f32} {L : List (View.Piece (Elt Ideal) S5x960x128 .f32)} {P : Fin 5 → Col}
    (hL : Agree L (flatP P)) (hc : ∀ y : S5x960x128.Idx, ∃ p ∈ L, y ∈ p.1.set) (j : ℕ) (hj : j < 5) {inb} :
    RowsP r (v.readCov L (Rect.unit (s := S5x960x128) ![j, r, 0] S1x32x128.size inb).toLoadRect) (P ⟨j, hj⟩) := by
  intro hr ρ l
  refine (cov_apply hL hc _).trans ?_
  exact congrArg₂ P (Fin.ext (by simp)) (Fin.ext (by simp [rowAt]))

/-- A head's chunk of a parameter from the same buffer. -/
theorem headP_cov {v : View sig κ sp S5x960x128 .f32} {L : List (View.Piece (Elt Ideal) S5x960x128 .f32)} {P : Fin 5 → Col}
    (hL : Agree L (flatP P)) (hc : ∀ y : S5x960x128.Idx, ∃ p ∈ L, y ∈ p.1.set) (j : ℕ) (hj : j < 5) {inb} :
    HeadP r (v.readCov L (Rect.unit (s := S5x960x128) ![j, r, 0] S1x96x128.size inb).toLoadRect) (P ⟨j, hj⟩) := by
  intro hr ρ l
  refine (cov_apply hL hc _).trans ?_
  exact congrArg₂ P (Fin.ext (by simp)) (Fin.ext (by simp))

end Loads

/-! ## Lists of stores -/

theorem agree_par {L : List (View.Piece (Elt Ideal) S5x960x128 .f32)} {V : FVec Ideal S1x96x128 .f32} {P : Fin 5 → Col} (j : ℕ)
    (hj : j < 5) (hr : r + 96 ≤ 960) (hV : ∀ (k : Fin 96) (l : Fin 128), V (ix3 0 k l) = P ⟨j, hj⟩ ⟨r + k.val, by omega⟩)
    (hL : Agree L (flatP P)) {inb} : Agree (⟨Rect.unit (s := S5x960x128) ![j, r, 0] S1x96x128.size inb, V⟩ :: L) (flatP P) := by
  refine agree_cons (fun x => ?_) hL
  rw [eq_ix3 x, show x 0 = (0 : Fin 1) from Subsingleton.elim (α := Fin 1) _ _]
  refine (hV (x 1) (x 2)).trans ?_
  exact congrArg₂ P (Fin.ext (by simp)) (Fin.ext (by simp))

/-- A chunk of one of the planes. -/
theorem agree_rows {L : List (View.Piece (Elt Ideal) S2x960x256 .bf16)} {V : FVec Ideal S1x32x256 .bf16} {G : Fin 2 → Plane} (n : ℕ)
    (hn : n < 2) (hV : Rows1 r V (G ⟨n, hn⟩)) (hL : Agree L (flat2 G)) {inb} :
    Agree (⟨Rect.unit (s := S2x960x256) ![n, r, 0] S1x32x256.size inb, V⟩ :: L) (flat2 G) := by
  refine agree_cons (fun x => ?_) hL
  have hr : r + 32 ≤ 960 := inb 1
  rw [eq_ix3 x, show x 0 = (0 : Fin 1) from Subsingleton.elim (α := Fin 1) _ _]
  refine (hV hr (x 1) (x 2)).trans ?_
  have e := idx3_ext (x := (Rect.unit (s := S2x960x256) ![n, r, 0] S1x32x256.size inb).emb (ix3 (0 : Fin 1) (x 1) (x 2)))
    (y := ix3 (⟨n, hn⟩ : Fin 2) (rowAt r hr (x 1)) (x 2)) (by simp) (by simp [rowAt]) (by simp)
  rw [e]; rfl

/-- Both planes at once. -/
theorem agree_planes {V : FVec Ideal S2x960x256 .bf16} {G : Fin 2 → Plane} (hV : ∀ n k b, V (ix3 n k b) = G n k b) {inb} :
    Agree (e := .bf16) [⟨Rect.unit (s := S2x960x256) ![0, 0, 0] S2x960x256.size inb, V⟩] (flat2 G) := by
  refine agree_cons (fun x => ?_) (agree_nil _)
  rw [eq_ix3 x]
  refine (hV (x 0) (x 1) (x 2)).trans ?_
  have e := idx3_ext (x := (Rect.unit (s := S2x960x256) ![0, 0, 0] S2x960x256.size inb).emb (ix3 (x 0) (x 1) (x 2)))
    (y := ix3 (x 0) (x 1) (x 2)) (by simp) (by simp) (by simp)
  rw [e]; rfl

/-- Scales as the contents of a buffer. -/
def flatS (s : Fin 2 → Fin 10 → Fin 256 → EReal) : S2x10x256.Idx → EReal := fun x => s (x 0) (x 1) (x 2)

/-- The scales of one head of one token. -/
theorem agree_scale {L : List (View.Piece (Elt Ideal) S2x10x256 .f32)} {V : FVec Ideal S1x256 .f32} {s : Fin 2 → Fin 10 → Fin 256 → EReal}
    (n h : ℕ) (hn : n < 2) (hh : h < 10) (hV : ∀ b, V (ix2 0 b) = s ⟨n, hn⟩ ⟨h, hh⟩ b) (hL : Agree L (flatS s)) {inb e1} :
    Agree (⟨Rect.unit (s := S2x10x256) ![n, h, 0] S1x1x256.size inb, shapeCast S1x1x256 V e1⟩ :: L) (flatS s) := by
  refine agree_cons (fun x => ?_) hL
  rw [eq_ix3 x, show x 0 = (0 : Fin 1) from Subsingleton.elim (α := Fin 1) _ _, show x 1 = (0 : Fin 1) from Subsingleton.elim (α := Fin 1) _ _]
  have e := idx3_ext (x := (Rect.unit (s := S2x10x256) ![n, h, 0] S1x1x256.size inb).emb (ix3 (0 : Fin 1) (0 : Fin 1) (x 2)))
    (y := ix3 (⟨n, hn⟩ : Fin 2) (⟨h, hh⟩ : Fin 10) (x 2)) (by simp) (by simp) (by simp)
  rw [e]
  refine Eq.trans ?_ (hV (x 2))
  pointwise

/-- Codes as the contents of a buffer. -/
def flatC (s : Fin 2 → Fin 960 → Fin 256 → BitVec 8) : S2x960x256.Idx → BitVec 8 := fun x => s (x 0) (x 1) (x 2)

/-- The codes of one head of one token. -/
theorem agree_code {L : List (View.Piece (Elt Ideal) S2x960x256 .i8)} {V : IVec S96x256 8} {s : Fin 2 → Fin 960 → Fin 256 → BitVec 8}
    (n : ℕ) (hn : n < 2) (hr : r + 96 ≤ 960) (hV : ∀ (k : Fin 96) (b : Fin 256), V (ix2 k b) = s ⟨n, hn⟩ ⟨r + k.val, feat_lt hr k⟩ b)
    (hL : Agree (e := .i8) L (flatC s)) {inb e1} :
    Agree (e := .i8) (⟨Rect.unit (s := S2x960x256) ![n, r, 0] S1x96x256.size inb, shapeCast S1x96x256 V e1⟩ :: L) (flatC s) := by
  refine agree_cons (fun x => ?_) hL
  rw [eq_ix3 x, show x 0 = (0 : Fin 1) from Subsingleton.elim (α := Fin 1) _ _]
  have e := idx3_ext (x := (Rect.unit (s := S2x960x256) ![n, r, 0] S1x96x256.size inb).emb (ix3 (0 : Fin 1) (x 1) (x 2)))
    (y := ix3 (⟨n, hn⟩ : Fin 2) (⟨r + (x 1).val, feat_lt hr (x 1)⟩ : Fin 960) (x 2)) (by simp) (by simp) (by simp)
  rw [e]
  refine Eq.trans ?_ (hV (x 1) (x 2))
  pointwise

/-- Whatever a buffer held, after the stores its first `m` rows, the planes' rows counted through, are those of `G`. -/
def Upto (L : List (View.Piece (Elt Ideal) S2x960x256 .bf16)) (G : Fin 2 → Plane) (m : ℕ) : Prop :=
  ∀ (v : View sig .tc .vmem S2x960x256 .bf16) (f : v.ty.Contents (Elt Ideal)) (n : Fin 2) (k : Fin 960) (b : Fin 256),
    960 * n.val + k.val < m → v.read (Elt Ideal) (v.writes (Elt Ideal) f L) (ix3 n k b) = G n k b

theorem upto_zero {L : List (View.Piece (Elt Ideal) S2x960x256 .bf16)} {G : Fin 2 → Plane} : Upto L G 0 :=
  fun _ _ _ _ _ h => absurd h (Nat.not_lt_zero _)

theorem upto_succ {L : List (View.Piece (Elt Ideal) S2x960x256 .bf16)} {V : FVec Ideal S1x32x256 .bf16} {G : Fin 2 → Plane} {m : ℕ}
    (n : ℕ) (hn : n < 2) (hV : Rows1 r V (G ⟨n, hn⟩)) (hm : m = 960 * n + r + 32) (hL : Upto L G (960 * n + r)) {inb} :
    Upto (⟨Rect.unit (s := S2x960x256) ![n, r, 0] S1x32x256.size inb, V⟩ :: L) G m := by
  subst hm
  have hr : r + 32 ≤ 960 := inb 1
  intro v f n' k b hk
  by_cases h : 960 * n'.val + k.val < 960 * n + r
  · rw [View.read_writes_cons_miss]
    · exact hL v f n' k b h
    · intro hm
      obtain ⟨j0, -, e0⟩ := LoadRect.mem_set _ |>.mp hm 0
      obtain ⟨j1, -, e1⟩ := LoadRect.mem_set _ |>.mp hm 1
      simp at e0 e1
      omega
  · have hn' : n' = ⟨n, hn⟩ := Fin.ext (by show n'.val = n; omega)
    subst hn'
    have hk' : 960 * n + k.val < 960 * n + r + 32 := hk
    have h' : ¬ 960 * n + k.val < 960 * n + r := h
    have e := idx3_ext (x := (Rect.unit (s := S2x960x256) ![n, r, 0] S1x32x256.size inb).emb
      (ix3 (0 : Fin 1) (⟨k.val - r, by omega⟩ : Fin 32) b)) (y := ix3 (⟨n, hn⟩ : Fin 2) k b) (by simp) (by simp; omega) (by simp)
    rw [← e, View.read_writes_cons_emb]
    refine (hV hr _ b).trans (congrArg (fun k => G _ k b) (Fin.ext ?_))
    simp [rowAt]; omega

end Cert.QkvIdeal.Hand

end
-- ==== Proof.Qkv.ValA.lean ====
/- The values of the body's run at the first grid point, which lays the parameters over the lanes and normalises the first two pairs of tokens. -/
module

public import proofs.«01_k».proof.Proof.Gen.QkvIdeal.Frame
public import proofs.«01_k».proof.Proof.Qkv.Rows

@[expose] public section

noncomputable section

namespace Cert.QkvIdeal.Hand

open Cert.QkvIdeal.Gen Cert.Proj
open Cert.Conv (Plane Col lin mean rstd)
open Cert.KernelIdeal.Hand (RowIs Acc acc_succ Agree agree_nil agree_cons rows1_cast par_chunk rows_norm rows_sq)
open Idealize.ShloMosaic Idealize.ShloMosaic.TcCoe Idealize.SL.Sem

namespace A

variable (c : Dev nD) (i : grid0.Coords) (arg1 : Memref sig .tc .vmem S2x960x256 .bf16) (harg1 : arg1.IsWhole) (arg2 : Memref sig .tc .vmem S2x960x256 .bf16) (harg2 : arg2.IsWhole) (arg3 : Memref sig .tc .vmem S2880x960 .bf16) (harg3 : arg3.IsWhole) (arg4 : Memref sig .tc .vmem S960x5 .f32) (harg4 : arg4.IsWhole) (arg5 : Memref sig .tc .vmem S1x960x2x256 .bf16) (harg5 : arg5.IsWhole) (arg6 : Memref sig .tc .vmem S1x960x2x256 .bf16) (harg6 : arg6.IsWhole) (arg7 : Memref sig .tc .vmem S1x960x2x256 .bf16) (harg7 : arg7.IsWhole) (arg8 : Memref sig .tc .vmem S2x960x256 .i8) (harg8 : arg8.IsWhole) (arg9 : Memref sig .tc .vmem S2x960x256 .i8) (harg9 : arg9.IsWhole) (arg10 : Memref sig .tc .vmem S2x10x256 .f32) (harg10 : arg10.IsWhole) (arg11 : Memref sig .tc .vmem S2x10x256 .f32) (harg11 : arg11.IsWhole) (arg12 : Memref sig .tc .vmem S5x960x128 .f32) (harg12 : arg12.IsWhole) (arg13 : Memref sig .tc .vmem S2x960x256 .bf16) (harg13 : arg13.IsWhole) (arg14 : Memref sig .tc .vmem S2x960x256 .bf16) (harg14 : arg14.IsWhole)
  (hc0 : cond0_0 i)
  {x0 x1 : Vec Ideal S2x960x256 .bf16} {x2 : Vec Ideal S2880x960 .bf16} {x3 : Vec Ideal S960x5 .f32}
  {X0 X1 : Fin 2 → Plane} {P : Fin 5 → Col} {w : Fin 3 → Fin 960 → Fin 960 → EReal}
  (h0 : ∀ n k b, x0 (ix3 n k b) = X0 n k b) (h1 : ∀ n k b, x1 (ix3 n k b) = X1 n k b)
  (h2 : ∀ (n : Fin 3) (d k : Fin 960), x2 (ix2 ⟨960 * n.val + d.val, wrow_lt n d⟩ k) = w n d k)
  (hp : ∀ k j, x3 (ix2 k j) = P j k)

include hp in
/-- The parameters, each laid over the lanes. -/
theorem agree_pars : Agree (kernelRun0_A.sl.HS0_50 (F := Ideal) c arg4 harg4 x3) (flatP P) := by
  repeat' (first
    | refine agree_par _ (by decide) (by decide) (par_chunk (col_unread harg4 hp _ (by decide) (by decide))) ?_
    | exact agree_nil _)

theorem cover_pars : ∀ y : S5x960x128.Idx, ∃ p ∈ (kernelRun0_A.sl.HS0_50 (F := Ideal) c arg4 harg4 x3), y ∈ p.1.set :=
  View.cover_of_tiledL _ S1x96x128.size (by rfl)

include h0 in
/-- The means of this's token 0. -/
theorem mean_this0 : RowIs (kernelRun0_A.sl.r_1 (F := Ideal) c arg1 harg1 x0) (mean (X0 0)) := by
  refine mean_row ?_
  repeat' (first
    | refine acc_succ _ ?_ ?_ ?_ (rows_ext (rows1_unread harg1 h0 0 (by decide)))
    | exact acc_zero
    | rfl
    | decide)

include h0 in
/-- One over its deviations. -/
theorem rstd_this0 : RowIs (kernelRun0_A.sl.r_3 (F := Ideal) c arg1 harg1 x0) (rstd (X0 0)) := by
  have hm := mean_this0 c arg1 harg1 h0
  refine rs_row ?_
  repeat' (first
    | refine acc_succ _ ?_ ?_ ?_ (rows_sq (rows_ext (rows1_unread harg1 h0 0 (by decide))) hm)
    | exact acc_zero
    | rfl
    | decide)

include h0 in
/-- The means of this's token 1. -/
theorem mean_this1 : RowIs (kernelRun0_A.sl.r_8 (F := Ideal) c arg1 harg1 x0) (mean (X0 1)) := by
  refine mean_row ?_
  repeat' (first
    | refine acc_succ _ ?_ ?_ ?_ (rows_ext (rows1_unread harg1 h0 1 (by decide)))
    | exact acc_zero
    | rfl
    | decide)

include h0 in
/-- One over its deviations. -/
theorem rstd_this1 : RowIs (kernelRun0_A.sl.r_10 (F := Ideal) c arg1 harg1 x0) (rstd (X0 1)) := by
  have hm := mean_this1 c arg1 harg1 h0
  refine rs_row ?_
  repeat' (first
    | refine acc_succ _ ?_ ?_ ?_ (rows_sq (rows_ext (rows1_unread harg1 h0 1 (by decide))) hm)
    | exact acc_zero
    | rfl
    | decide)

include h1 in
/-- The means of next's token 0. -/
theorem mean_next0 : RowIs (kernelRun0_A.sl.r_17 (F := Ideal) c arg2 harg2 x1) (mean (X1 0)) := by
  refine mean_row ?_
  repeat' (first
    | refine acc_succ _ ?_ ?_ ?_ (rows_ext (rows1_unread harg2 h1 0 (by decide)))
    | exact acc_zero
    | rfl
    | decide)

include h1 in
/-- One over its deviations. -/
theorem rstd_next0 : RowIs (kernelRun0_A.sl.r_20 (F := Ideal) c arg2 harg2 x1) (rstd (X1 0)) := by
  have hm := mean_next0 c arg2 harg2 h1
  refine rs_row ?_
  repeat' (first
    | refine acc_succ _ ?_ ?_ ?_ (rows_sq (rows_ext (rows1_unread harg2 h1 0 (by decide))) hm)
    | exact acc_zero
    | rfl
    | decide)

include h1 in
/-- The means of next's token 1. -/
theorem mean_next1 : RowIs (kernelRun0_A.sl.r_22 (F := Ideal) c arg2 harg2 x1) (mean (X1 1)) := by
  refine mean_row ?_
  repeat' (first
    | refine acc_succ _ ?_ ?_ ?_ (rows_ext (rows1_unread harg2 h1 1 (by decide)))
    | exact acc_zero
    | rfl
    | decide)

include h1 in
/-- One over its deviations. -/
theorem rstd_next1 : RowIs (kernelRun0_A.sl.r_25 (F := Ideal) c arg2 harg2 x1) (rstd (X1 1)) := by
  have hm := mean_next1 c arg2 harg2 h1
  refine rs_row ?_
  repeat' (first
    | refine acc_succ _ ?_ ?_ ?_ (rows_sq (rows_ext (rows1_unread harg2 h1 1 (by decide))) hm)
    | exact acc_zero
    | rfl
    | decide)

include h1 hp

set_option maxHeartbeats 4000000 in
/-- What is left for the next point: the normalised tokens of its pair. -/
theorem upto_next : Upto (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3).2.2.2.2.2.2.2.2.1 (fun n => norm P (X1 n)) 1920 := by
  have hq := agree_pars c arg4 harg4 hp
  have hv := cover_pars c arg4 harg4 (x3 := x3)
  have m0 := mean_next0 c arg2 harg2 h1
  have m1 := mean_next1 c arg2 harg2 h1
  have s0 := rstd_next0 c arg2 harg2 h1
  have s1 := rstd_next1 c arg2 harg2 h1
  repeat' (first
    | exact upto_zero
    | refine upto_succ 1 (by decide) (rows1_cast (rows_norm (rows_ext (rows1_unread harg2 h1 1 (by decide))) m1 s1 (rowsP_cov hq hv 0 (by decide)) (rowsP_cov hq hv 1 (by decide)))) ?_ ?_
    | refine upto_succ 0 (by decide) (rows1_cast (rows_norm (rows_ext (rows1_unread harg2 h1 0 (by decide))) m0 s0 (rowsP_cov hq hv 0 (by decide)) (rowsP_cov hq hv 1 (by decide)))) ?_ ?_
    | rfl)

omit h1
include h0
/-- The normalised tokens of the first pair. -/
theorem agree_an : Agree (kernelRun0_A.sl.HS2_60 (F := Ideal) c arg1 harg1 arg4 harg4 arg12 x0 x3) (flat2 fun n => norm P (X0 n)) := by
  have hq := agree_pars c arg4 harg4 hp
  have hv := cover_pars c arg4 harg4 (x3 := x3)
  have m0 := mean_this0 c arg1 harg1 h0
  have m1 := mean_this1 c arg1 harg1 h0
  have s0 := rstd_this0 c arg1 harg1 h0
  have s1 := rstd_this1 c arg1 harg1 h0
  repeat' (first
    | exact agree_nil _
    | refine agree_rows 1 (by decide) (rows1_cast (rows_norm (rows_ext (rows1_unread harg1 h0 1 (by decide))) m1 s1 (rowsP_cov hq hv 0 (by decide)) (rowsP_cov hq hv 1 (by decide)))) ?_
    | refine agree_rows 0 (by decide) (rows1_cast (rows_norm (rows_ext (rows1_unread harg1 h0 0 (by decide))) m0 s0 (rowsP_cov hq hv 0 (by decide)) (rowsP_cov hq hv 1 (by decide)))) ?_)

omit h0 hp in
theorem cover_an : ∀ y : S2x960x256.Idx, ∃ p ∈ (kernelRun0_A.sl.HS2_60 (F := Ideal) c arg1 harg1 arg4 harg4 arg12 x0 x3), y ∈ p.1.set :=
  View.cover_of_tiledL _ S1x32x256.size (by rfl)

/-- The same in the buffer the projections read. -/
theorem agree_a : Agree (kernelRun0_A.sl.HS1_1 (F := Ideal) c arg1 harg1 arg4 harg4 arg12 arg14 x0 x3) (flat2 fun n => norm P (X0 n)) :=
  agree_planes (planes_cov (agree_an c arg1 harg1 arg4 harg4 arg12 h0 hp) (cover_an c arg1 harg1 arg4 harg4 arg12))

omit h0 hp in
theorem cover_a : ∀ y : S2x960x256.Idx, ∃ p ∈ (kernelRun0_A.sl.HS1_1 (F := Ideal) c arg1 harg1 arg4 harg4 arg12 arg14 x0 x3), y ∈ p.1.set :=
  View.cover_of_tiledL _ S2x960x256.size (by rfl)

include h2

set_option maxHeartbeats 4000000 in
/-- The scales of the keys. -/
theorem agree_k : Agree (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3).2.2.2.2.2.1 (flatS fun n h b => scale (proj P w 1 (norm P (X0 n))) h b) := by
  have hr := agree_pars c arg4 harg4 hp
  have hw := cover_pars c arg4 harg4 (x3 := x3)
  have hq := agree_a c arg1 harg1 arg4 harg4 arg12 arg14 h0 hp
  have hv := cover_a c arg1 harg1 arg4 harg4 arg12 arg14 (x0 := x0) (x3 := x3)
  repeat
    refine agree_scale _ _ (by decide) (by decide) (fun b => ?_) ?_
    · refine head_scale _ (by decide) rfl ?_ b
      refine head_proj ?_ ?_
      · exact dot_proj (square_unread harg3 h2 1 (by decide) rfl) (plane_cov hq hv _ (by decide))
      · exact (headP_cov hr hw 3 (by decide))
  exact agree_nil _

omit h0 h2 hp in
theorem cover_k : ∀ y : S2x10x256.Idx, ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3).2.2.2.2.2.1, y ∈ p.1.set :=
  View.cover_of_tiledL _ S1x1x256.size (by rfl)

set_option maxHeartbeats 4000000 in
/-- The scales of the values. -/
theorem agree_v : Agree (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3).2.2.2.2.2.2.1 (flatS fun n h b => scale (proj P w 2 (norm P (X0 n))) h b) := by
  have hr := agree_pars c arg4 harg4 hp
  have hw := cover_pars c arg4 harg4 (x3 := x3)
  have hq := agree_a c arg1 harg1 arg4 harg4 arg12 arg14 h0 hp
  have hv := cover_a c arg1 harg1 arg4 harg4 arg12 arg14 (x0 := x0) (x3 := x3)
  repeat
    refine agree_scale _ _ (by decide) (by decide) (fun b => ?_) ?_
    · refine head_scale _ (by decide) rfl ?_ b
      refine head_proj ?_ ?_
      · exact dot_proj (square_unread harg3 h2 2 (by decide) rfl) (plane_cov hq hv _ (by decide))
      · exact (headP_cov hr hw 4 (by decide))
  exact agree_nil _

omit h0 h2 hp in
theorem cover_v : ∀ y : S2x10x256.Idx, ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3).2.2.2.2.2.2.1, y ∈ p.1.set :=
  View.cover_of_tiledL _ S1x1x256.size (by rfl)

end A

end Cert.QkvIdeal.Hand

end
-- ==== Proof.Qkv.ValB.lean ====
/- The values of the body's run at the grid points after the first: the scales come from the normalised tokens that the point before left. -/
module

public import proofs.«01_k».proof.Proof.Gen.QkvIdeal.Frame
public import proofs.«01_k».proof.Proof.Qkv.Rows

@[expose] public section

noncomputable section

namespace Cert.QkvIdeal.Hand

open Cert.QkvIdeal.Gen Cert.Proj
open Cert.Conv (Plane Col lin mean rstd)
open Cert.KernelIdeal.Hand (RowIs Acc acc_succ Agree agree_nil agree_cons rows1_cast par_chunk rows_norm rows_sq)
open Idealize.ShloMosaic Idealize.ShloMosaic.TcCoe Idealize.SL.Sem

namespace B

variable (c : Dev nD) (i : grid0.Coords) (arg1 : Memref sig .tc .vmem S2x960x256 .bf16) (harg1 : arg1.IsWhole) (arg2 : Memref sig .tc .vmem S2x960x256 .bf16) (harg2 : arg2.IsWhole) (arg3 : Memref sig .tc .vmem S2880x960 .bf16) (harg3 : arg3.IsWhole) (arg4 : Memref sig .tc .vmem S960x5 .f32) (harg4 : arg4.IsWhole) (arg5 : Memref sig .tc .vmem S1x960x2x256 .bf16) (harg5 : arg5.IsWhole) (arg6 : Memref sig .tc .vmem S1x960x2x256 .bf16) (harg6 : arg6.IsWhole) (arg7 : Memref sig .tc .vmem S1x960x2x256 .bf16) (harg7 : arg7.IsWhole) (arg8 : Memref sig .tc .vmem S2x960x256 .i8) (harg8 : arg8.IsWhole) (arg9 : Memref sig .tc .vmem S2x960x256 .i8) (harg9 : arg9.IsWhole) (arg10 : Memref sig .tc .vmem S2x10x256 .f32) (harg10 : arg10.IsWhole) (arg11 : Memref sig .tc .vmem S2x10x256 .f32) (harg11 : arg11.IsWhole) (arg12 : Memref sig .tc .vmem S5x960x128 .f32) (harg12 : arg12.IsWhole) (arg13 : Memref sig .tc .vmem S2x960x256 .bf16) (harg13 : arg13.IsWhole) (arg14 : Memref sig .tc .vmem S2x960x256 .bf16) (harg14 : arg14.IsWhole)
  (hc0 : ¬cond0_0 i)
  {x0 x1 : Vec Ideal S2x960x256 .bf16} {x2 : Vec Ideal S2880x960 .bf16} {x3 : Vec Ideal S960x5 .f32}
  {xs0 : Vec Ideal S5x960x128 .f32} {xs2 : Vec Ideal S2x960x256 .bf16}
  {X1 A : Fin 2 → Plane} {P : Fin 5 → Col} {w : Fin 3 → Fin 960 → Fin 960 → EReal}
  (h1 : ∀ n k b, x1 (ix3 n k b) = X1 n k b)
  (h2 : ∀ (n : Fin 3) (d k : Fin 960), x2 (ix2 ⟨960 * n.val + d.val, wrow_lt n d⟩ k) = w n d k)
  (hp : ∀ j k l, xs0 (ix3 j k l) = P j k) (hs : ∀ n k b, xs2 (ix3 n k b) = A n k b)

include h1 in
/-- The means of next's token 0. -/
theorem mean_next0 : RowIs (kernelRun0_B.sl.r_6 (F := Ideal) c arg2 harg2 x1) (mean (X1 0)) := by
  refine mean_row ?_
  repeat' (first
    | refine acc_succ _ ?_ ?_ ?_ (rows_ext (rows1_unread harg2 h1 0 (by decide)))
    | exact acc_zero
    | rfl
    | decide)

include h1 in
/-- One over its deviations. -/
theorem rstd_next0 : RowIs (kernelRun0_B.sl.r_9 (F := Ideal) c arg2 harg2 x1) (rstd (X1 0)) := by
  have hm := mean_next0 c arg2 harg2 h1
  refine rs_row ?_
  repeat' (first
    | refine acc_succ _ ?_ ?_ ?_ (rows_sq (rows_ext (rows1_unread harg2 h1 0 (by decide))) hm)
    | exact acc_zero
    | rfl
    | decide)

include h1 in
/-- The means of next's token 1. -/
theorem mean_next1 : RowIs (kernelRun0_B.sl.r_13 (F := Ideal) c arg2 harg2 x1) (mean (X1 1)) := by
  refine mean_row ?_
  repeat' (first
    | refine acc_succ _ ?_ ?_ ?_ (rows_ext (rows1_unread harg2 h1 1 (by decide)))
    | exact acc_zero
    | rfl
    | decide)

include h1 in
/-- One over its deviations. -/
theorem rstd_next1 : RowIs (kernelRun0_B.sl.r_16 (F := Ideal) c arg2 harg2 x1) (rstd (X1 1)) := by
  have hm := mean_next1 c arg2 harg2 h1
  refine rs_row ?_
  repeat' (first
    | refine acc_succ _ ?_ ?_ ?_ (rows_sq (rows_ext (rows1_unread harg2 h1 1 (by decide))) hm)
    | exact acc_zero
    | rfl
    | decide)

include h1 hp

set_option maxHeartbeats 4000000 in
/-- What is left for the next point: the normalised tokens of its pair. -/
theorem upto_next : Upto (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 xs0 xs2).2.2.2.2.2.2.2.2.1 (fun n => norm P (X1 n)) 1920 := by
  have m0 := mean_next0 c arg2 harg2 h1
  have m1 := mean_next1 c arg2 harg2 h1
  have s0 := rstd_next0 c arg2 harg2 h1
  have s1 := rstd_next1 c arg2 harg2 h1
  repeat' (first
    | exact upto_zero
    | refine upto_succ 1 (by decide) (rows1_cast (rows_norm (rows_ext (rows1_unread harg2 h1 1 (by decide))) m1 s1 (rowsP_unread harg12 hp 0 (by decide)) (rowsP_unread harg12 hp 1 (by decide)))) ?_ ?_
    | refine upto_succ 0 (by decide) (rows1_cast (rows_norm (rows_ext (rows1_unread harg2 h1 0 (by decide))) m0 s0 (rowsP_unread harg12 hp 0 (by decide)) (rowsP_unread harg12 hp 1 (by decide)))) ?_ ?_
    | rfl)

omit h1 hp
include hs in
/-- The normalised tokens in the buffer the projections read. -/
theorem agree_a : Agree (kernelRun0_B.sl.HS1_1 (F := Ideal) c arg14 harg14 xs2) (flat2 A) :=
  agree_planes (planes_unread harg14 hs)

theorem cover_a : ∀ y : S2x960x256.Idx, ∃ p ∈ (kernelRun0_B.sl.HS1_1 (F := Ideal) c arg14 harg14 xs2), y ∈ p.1.set :=
  View.cover_of_tiledL _ S2x960x256.size (by rfl)

include h2 hp hs

set_option maxHeartbeats 4000000 in
/-- The scales of the keys. -/
theorem agree_k : Agree (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 xs0 xs2).2.2.2.2.2.1 (flatS fun n h b => scale (proj P w 1 (A n)) h b) := by
  have hq := agree_a c arg14 harg14 hs
  have hv := cover_a c arg14 harg14 (xs2 := xs2)
  repeat
    refine agree_scale _ _ (by decide) (by decide) (fun b => ?_) ?_
    · refine head_scale _ (by decide) rfl ?_ b
      refine head_proj ?_ ?_
      · exact dot_proj (square_unread harg3 h2 1 (by decide) rfl) (plane_cov hq hv _ (by decide))
      · exact (headP_unread harg12 hp 3 (by decide))
  exact agree_nil _

omit h2 hp hs in
theorem cover_k : ∀ y : S2x10x256.Idx, ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 xs0 xs2).2.2.2.2.2.1, y ∈ p.1.set :=
  View.cover_of_tiledL _ S1x1x256.size (by rfl)

set_option maxHeartbeats 4000000 in
/-- The scales of the values. -/
theorem agree_v : Agree (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 xs0 xs2).2.2.2.2.2.2.1 (flatS fun n h b => scale (proj P w 2 (A n)) h b) := by
  have hq := agree_a c arg14 harg14 hs
  have hv := cover_a c arg14 harg14 (xs2 := xs2)
  repeat
    refine agree_scale _ _ (by decide) (by decide) (fun b => ?_) ?_
    · refine head_scale _ (by decide) rfl ?_ b
      refine head_proj ?_ ?_
      · exact dot_proj (square_unread harg3 h2 2 (by decide) rfl) (plane_cov hq hv _ (by decide))
      · exact (headP_unread harg12 hp 4 (by decide))
  exact agree_nil _

omit h2 hp hs in
theorem cover_v : ∀ y : S2x10x256.Idx, ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 xs0 xs2).2.2.2.2.2.2.1, y ∈ p.1.set :=
  View.cover_of_tiledL _ S1x1x256.size (by rfl)

end B

end Cert.QkvIdeal.Hand

end
-- ==== Proof.Qkv.Outs.lean ====
/- What a grid point of the first call leaves in the buffers that the two results of scales and the next point read. -/
module

public import proofs.«01_k».proof.Proof.Qkv.ValA
public import proofs.«01_k».proof.Proof.Qkv.ValB

@[expose] public section

noncomputable section

namespace Cert.QkvIdeal.Hand

open Cert.QkvIdeal.Gen Cert.Proj
open Cert.Conv (Plane Col)
open Cert.KernelIdeal.Hand (Agree)
open Idealize.ShloMosaic Idealize.ShloMosaic.TcCoe Idealize.SL.Sem

/-- What a buffer that the stores cover holds, whatever it held before. -/
theorem writes_apply {s : Shape} {e : EltTy} {v : View sig .tc .vmem s e} {L : List (View.Piece (Elt Ideal) s e)} {G : s.Idx → Elt Ideal e}
    (hL : Agree L G) (hc : ∀ y : s.Idx, ∃ p ∈ L, y ∈ p.1.set) (f : v.ty.Contents (Elt Ideal)) (y : s.Idx) :
    v.read (Elt Ideal) (v.writes (Elt Ideal) f L) y = G y :=
  View.read_writes_apply_of_pieces v f G L hL y (hc y)

namespace A

variable (c : Dev nD) (i : grid0.Coords) (arg1 : Memref sig .tc .vmem S2x960x256 .bf16) (harg1 : arg1.IsWhole) (arg2 : Memref sig .tc .vmem S2x960x256 .bf16) (harg2 : arg2.IsWhole) (arg3 : Memref sig .tc .vmem S2880x960 .bf16) (harg3 : arg3.IsWhole) (arg4 : Memref sig .tc .vmem S960x5 .f32) (harg4 : arg4.IsWhole) (arg5 : Memref sig .tc .vmem S1x960x2x256 .bf16) (harg5 : arg5.IsWhole) (arg6 : Memref sig .tc .vmem S1x960x2x256 .bf16) (harg6 : arg6.IsWhole) (arg7 : Memref sig .tc .vmem S1x960x2x256 .bf16) (harg7 : arg7.IsWhole) (arg8 : Memref sig .tc .vmem S2x960x256 .i8) (harg8 : arg8.IsWhole) (arg9 : Memref sig .tc .vmem S2x960x256 .i8) (harg9 : arg9.IsWhole) (arg10 : Memref sig .tc .vmem S2x10x256 .f32) (harg10 : arg10.IsWhole) (arg11 : Memref sig .tc .vmem S2x10x256 .f32) (harg11 : arg11.IsWhole) (arg12 : Memref sig .tc .vmem S5x960x128 .f32) (harg12 : arg12.IsWhole) (arg13 : Memref sig .tc .vmem S2x960x256 .bf16) (harg13 : arg13.IsWhole) (arg14 : Memref sig .tc .vmem S2x960x256 .bf16) (harg14 : arg14.IsWhole)
  (hc0 : cond0_0 i)
  {x0 x1 : Vec Ideal S2x960x256 .bf16} {x2 : Vec Ideal S2880x960 .bf16} {x3 : Vec Ideal S960x5 .f32}
  {X0 X1 : Fin 2 → Plane} {P : Fin 5 → Col} {w : Fin 3 → Fin 960 → Fin 960 → EReal}
  (h0 : ∀ n k b, x0 (ix3 n k b) = X0 n k b) (h1 : ∀ n k b, x1 (ix3 n k b) = X1 n k b)
  (h2 : ∀ (n : Fin 3) (d k : Fin 960), x2 (ix2 ⟨960 * n.val + d.val, wrow_lt n d⟩ k) = w n d k)
  (hp : ∀ k j, x3 (ix2 k j) = P j k)

include h0 h2 hp in
/-- The scales of the keys. -/
theorem out_k (n : Fin 2) (h : Fin 10) (b : Fin 256) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 (ix3 n h b) = scale (proj P w 1 (norm P (X0 n))) h b :=
  writes_apply (v := VO0_9) (G := flatS fun n h b => scale (proj P w 1 (norm P (X0 n))) h b) (agree_k c i arg1 harg1 arg2 harg2 arg3 harg3 arg4 harg4 arg5 harg5 arg6 harg6 arg7 harg7 arg8 harg8 arg9 harg9 arg10 harg10 arg11 harg11 arg12 harg12 arg13 harg13 arg14 harg14 hc0 h0 h2 hp)
    (cover_k c i arg1 harg1 arg2 harg2 arg3 harg3 arg4 harg4 arg5 harg5 arg6 harg6 arg7 harg7 arg8 harg8 arg9 harg9 arg10 harg10 arg11 harg11 arg12 harg12 arg13 harg13 arg14 harg14 hc0) _ _

include h0 h2 hp in
/-- The scales of the values. -/
theorem out_v (n : Fin 2) (h : Fin 10) (b : Fin 256) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 (ix3 n h b) = scale (proj P w 2 (norm P (X0 n))) h b :=
  writes_apply (v := VO0_10) (G := flatS fun n h b => scale (proj P w 2 (norm P (X0 n))) h b) (agree_v c i arg1 harg1 arg2 harg2 arg3 harg3 arg4 harg4 arg5 harg5 arg6 harg6 arg7 harg7 arg8 harg8 arg9 harg9 arg10 harg10 arg11 harg11 arg12 harg12 arg13 harg13 arg14 harg14 hc0 h0 h2 hp)
    (cover_v c i arg1 harg1 arg2 harg2 arg3 harg3 arg4 harg4 arg5 harg5 arg6 harg6 arg7 harg7 arg8 harg8 arg9 harg9 arg10 harg10 arg11 harg11 arg12 harg12 arg13 harg13 arg14 harg14 hc0) _ _

include hp in
/-- The parameters, each laid over the lanes. -/
theorem out_pars (j : Fin 5) (k : Fin 960) (l : Fin 128) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 (ix3 j k l) = P j k :=
  writes_apply (v := VS0_0) (G := flatP P) (agree_pars c arg4 harg4 hp) (cover_pars c arg4 harg4) _ _

include h1 hp in
/-- The next pair, normalised. -/
theorem out_next (n : Fin 2) (k : Fin 960) (b : Fin 256) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 (ix3 n k b) = norm P (X1 n) k b :=
  upto_next c i arg1 harg1 arg2 harg2 arg3 harg3 arg4 harg4 arg5 harg5 arg6 harg6 arg7 harg7 arg8 harg8 arg9 harg9 arg10 harg10 arg11 harg11 arg12 harg12 arg13 harg13 arg14 harg14 hc0 h1 hp VS0_2 _ n k b (by omega)

end A

namespace B

variable (c : Dev nD) (i : grid0.Coords) (arg1 : Memref sig .tc .vmem S2x960x256 .bf16) (harg1 : arg1.IsWhole) (arg2 : Memref sig .tc .vmem S2x960x256 .bf16) (harg2 : arg2.IsWhole) (arg3 : Memref sig .tc .vmem S2880x960 .bf16) (harg3 : arg3.IsWhole) (arg4 : Memref sig .tc .vmem S960x5 .f32) (harg4 : arg4.IsWhole) (arg5 : Memref sig .tc .vmem S1x960x2x256 .bf16) (harg5 : arg5.IsWhole) (arg6 : Memref sig .tc .vmem S1x960x2x256 .bf16) (harg6 : arg6.IsWhole) (arg7 : Memref sig .tc .vmem S1x960x2x256 .bf16) (harg7 : arg7.IsWhole) (arg8 : Memref sig .tc .vmem S2x960x256 .i8) (harg8 : arg8.IsWhole) (arg9 : Memref sig .tc .vmem S2x960x256 .i8) (harg9 : arg9.IsWhole) (arg10 : Memref sig .tc .vmem S2x10x256 .f32) (harg10 : arg10.IsWhole) (arg11 : Memref sig .tc .vmem S2x10x256 .f32) (harg11 : arg11.IsWhole) (arg12 : Memref sig .tc .vmem S5x960x128 .f32) (harg12 : arg12.IsWhole) (arg13 : Memref sig .tc .vmem S2x960x256 .bf16) (harg13 : arg13.IsWhole) (arg14 : Memref sig .tc .vmem S2x960x256 .bf16) (harg14 : arg14.IsWhole)
  (hc0 : ¬cond0_0 i)
  {x0 x1 : Vec Ideal S2x960x256 .bf16} {x2 : Vec Ideal S2880x960 .bf16} {x3 : Vec Ideal S960x5 .f32}
  {xs0 : Vec Ideal S5x960x128 .f32} {xs2 : Vec Ideal S2x960x256 .bf16}
  {X1 A : Fin 2 → Plane} {P : Fin 5 → Col} {w : Fin 3 → Fin 960 → Fin 960 → EReal}
  (h1 : ∀ n k b, x1 (ix3 n k b) = X1 n k b)
  (h2 : ∀ (n : Fin 3) (d k : Fin 960), x2 (ix2 ⟨960 * n.val + d.val, wrow_lt n d⟩ k) = w n d k)
  (hp : ∀ j k l, xs0 (ix3 j k l) = P j k) (hs : ∀ n k b, xs2 (ix3 n k b) = A n k b)

include h2 hp hs in
/-- The scales of the keys. -/
theorem out_k (n : Fin 2) (h : Fin 10) (b : Fin 256) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 xs0 xs2 (ix3 n h b) = scale (proj P w 1 (A n)) h b :=
  writes_apply (v := VO0_9) (G := flatS fun n h b => scale (proj P w 1 (A n)) h b) (agree_k c i arg1 harg1 arg2 harg2 arg3 harg3 arg4 harg4 arg5 harg5 arg6 harg6 arg7 harg7 arg8 harg8 arg9 harg9 arg10 harg10 arg11 harg11 arg12 harg12 arg13 harg13 arg14 harg14 hc0 h2 hp hs)
    (cover_k c i arg1 harg1 arg2 harg2 arg3 harg3 arg4 harg4 arg5 harg5 arg6 harg6 arg7 harg7 arg8 harg8 arg9 harg9 arg10 harg10 arg11 harg11 arg12 harg12 arg13 harg13 arg14 harg14 hc0) _ _

include h2 hp hs in
/-- The scales of the values. -/
theorem out_v (n : Fin 2) (h : Fin 10) (b : Fin 256) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 xs0 xs2 (ix3 n h b) = scale (proj P w 2 (A n)) h b :=
  writes_apply (v := VO0_10) (G := flatS fun n h b => scale (proj P w 2 (A n)) h b) (agree_v c i arg1 harg1 arg2 harg2 arg3 harg3 arg4 harg4 arg5 harg5 arg6 harg6 arg7 harg7 arg8 harg8 arg9 harg9 arg10 harg10 arg11 harg11 arg12 harg12 arg13 harg13 arg14 harg14 hc0 h2 hp hs)
    (cover_v c i arg1 harg1 arg2 harg2 arg3 harg3 arg4 harg4 arg5 harg5 arg6 harg6 arg7 harg7 arg8 harg8 arg9 harg9 arg10 harg10 arg11 harg11 arg12 harg12 arg13 harg13 arg14 harg14 hc0) _ _

include h1 hp in
/-- The next pair, normalised. -/
theorem out_next (n : Fin 2) (k : Fin 960) (b : Fin 256) :
    sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 xs0 xs2 (ix3 n k b) = norm P (X1 n) k b :=
  upto_next c i arg1 harg1 arg2 harg2 arg3 harg3 arg4 harg4 arg5 harg5 arg6 harg6 arg7 harg7 arg8 harg8 arg9 harg9 arg10 harg10 arg11 harg11 arg12 harg12 arg13 harg13 arg14 harg14 hc0 h1 hp VS0_2 _ n k b (by omega)

end B

end Cert.QkvIdeal.Hand

end
-- ==== Proof.Qkv.Track.lean ====
/- The first call over its grid: every point projects the pair of tokens that the point before normalised, and normalises the next pair. -/
module

public import proofs.«01_k».proof.Proof.Qkv.Outs
public import Idealize.ShloMosaic.Lib.Claim
public import Idealize.ShloMosaic.Lib.Pipeline.ValueKit

@[expose] public section

set_option maxRecDepth 16384

noncomputable section

namespace Cert.QkvIdeal.Hand

open Cert.QkvIdeal.Gen Cert.Proj
open Cert.Conv (Plane Col)
open Idealize.ShloMosaic Idealize.ShloMosaic.TcCoe Idealize.ShloMosaic.Tactic Idealize.SL.Sem

variable (m : (ℓ : Loc nD τ sig) → Buf (Elt Ideal) ℓ) (ρ : Dev nD → PrngReg)

/-- Token `n` of pair `t`; the last pair again beyond it. -/
def tok (t : ℕ) (n : Fin 2) : Fin 14 := ⟨2 * min t 6 + n.val, by omega⟩

theorem lt_seven (t : Fin cfg0.N) : t.val < 7 := lt_of_lt_of_eq t.isLt (show cfg0.N = 7 from N_0)

theorem index0 : ∀ t : Fin cfg0.N, win0_0.index t = ![0, 0, 0] := (by decide +kernel : ∀ t : Fin grid0.N, _)
theorem index1 : ∀ t : Fin cfg0.N, win0_1.index t = ![min (t.val + 1) 6, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index9 : ∀ t : Fin cfg0.N, win0_9.index t = ![min t.val 6, 0, 0] := (by decide +kernel : ∀ t : Fin grid0.N, _)
theorem index10 : ∀ t : Fin cfg0.N, win0_10.index t = ![min t.val 6, 0, 0] := (by decide +kernel : ∀ t : Fin grid0.N, _)

/-- The arguments of the call, out of the region's arrays. -/
def args (c : Dev nD) : Args where
  X t k b := V m c main_v0 (ix3 t k b)
  P j k := V m c main_v15 (ix2 k j)
  w n d k := V m c main_v2 (ix2 ⟨960 * n.val + d.val, wrow_lt n d⟩ k)

theorem block0 (c : Dev nD) (t : Fin cfg0.N) : ∀ n k b, iblk m c 0 t (ix3 n k b) = (args m c).X (tok 0 n) k b := by
  intro n k b
  blk_ext [iblk, args, tok, index0 t]

theorem block1 (c : Dev nD) (t : Fin cfg0.N) : ∀ n k b, iblk m c 1 t (ix3 n k b) = (args m c).X (tok (t.val + 1) n) k b := by
  intro n k b
  blk_ext [iblk, args, tok, index1 t]

theorem block2 (c : Dev nD) (t : Fin cfg0.N) : ∀ (n : Fin 3) (d k : Fin 960), iblk m c 2 t (ix2 ⟨960 * n.val + d.val, wrow_lt n d⟩ k) = (args m c).w n d k := by
  intro n d k
  blk_ext [iblk, args, index2 t]

theorem block3 (c : Dev nD) (t : Fin cfg0.N) : ∀ k j, iblk m c 3 t (ix2 k j) = (args m c).P j k := by
  intro k j
  blk_ext [iblk, args, index3 t]

/-! The parts of what a point leaves. -/

theorem part_A_9 (c : Dev nD) (t : Fin cfg0.N) (h0 : t.val % 7 = 0) : (outsAt0 m c t.val t.isLt).2.2.2.2.2.1 =
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) := by
  rw [outsAt0_A m c t h0]

theorem part_A_10 (c : Dev nD) (t : Fin cfg0.N) (h0 : t.val % 7 = 0) : (outsAt0 m c t.val t.isLt).2.2.2.2.2.2.1 =
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) := by
  rw [outsAt0_A m c t h0]

theorem part_s_A_0 (c : Dev nD) (t : Fin cfg0.N) (h0 : t.val % 7 = 0) : (outsAt0 m c t.val t.isLt).2.2.2.2.2.2.2.1 =
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) := by
  rw [outsAt0_A m c t h0]

theorem part_s_A_2 (c : Dev nD) (t : Fin cfg0.N) (h0 : t.val % 7 = 0) : (outsAt0 m c t.val t.isLt).2.2.2.2.2.2.2.2 =
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) := by
  rw [outsAt0_A m c t h0]

theorem part_B_9 (c : Dev nD) (t : Fin cfg0.N) (h0 : ¬t.val % 7 = 0) : (outsAt0 m c t.val t.isLt).2.2.2.2.2.1 =
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 := by
  rw [outsAt0_B m c t h0]

theorem part_B_10 (c : Dev nD) (t : Fin cfg0.N) (h0 : ¬t.val % 7 = 0) : (outsAt0 m c t.val t.isLt).2.2.2.2.2.2.1 =
    out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 := by
  rw [outsAt0_B m c t h0]

theorem part_s_B_0 (c : Dev nD) (t : Fin cfg0.N) (h0 : ¬t.val % 7 = 0) : (outsAt0 m c t.val t.isLt).2.2.2.2.2.2.2.1 =
    (outsAt0 m c (t.val - 1) (Nat.lt_of_le_of_lt (Nat.sub_le _ _) t.isLt)).2.2.2.2.2.2.2.1 := by
  rw [outsAt0_B m c t h0]; rfl

theorem part_s_B_2 (c : Dev nD) (t : Fin cfg0.N) (h0 : ¬t.val % 7 = 0) : (outsAt0 m c t.val t.isLt).2.2.2.2.2.2.2.2 =
    sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 := by
  rw [outsAt0_B m c t h0]

/-- What every point leaves for the next: the parameters laid over the lanes, and the next pair normalised. -/
theorem scratch (c : Dev nD) : ∀ (t : ℕ) (ht : t < cfg0.N),
    (∀ j k l, (outsAt0 m c t ht).2.2.2.2.2.2.2.1 (ix3 j k l) = (args m c).P j k)
      ∧ ∀ n k b, (outsAt0 m c t ht).2.2.2.2.2.2.2.2 (ix3 n k b) = (args m c).normAt (tok (t + 1) n) k b
  | 0, ht => by
    refine ⟨fun j k l => ?_, fun n k b => ?_⟩
    · refine (congrFun (part_s_A_0 m c ⟨0, ht⟩ (Nat.zero_mod _)) _).trans ?_
      exact A.out_pars _ _ _ _ _ _ _ _ _ _ _ _ _ _ _ _ _ _ _ _ _ _ _ _ _ _ _ _ _ _ _ (block3 m c ⟨0, ht⟩) j k l
    · refine (congrFun (part_s_A_2 m c ⟨0, ht⟩ (Nat.zero_mod _)) _).trans ?_
      exact A.out_next _ _ _ _ _ _ _ _ _ _ _ _ _ _ _ _ _ _ _ _ _ _ _ _ _ _ _ _ _ _ _ (X1 := fun n => (args m c).X (tok 1 n)) (block1 m c ⟨0, ht⟩) (block3 m c ⟨0, ht⟩) n k b
  | t + 1, ht => by
    obtain ⟨ih0, ih2⟩ := scratch c t (Nat.lt_of_succ_lt ht)
    have h7 := lt_seven ⟨t + 1, ht⟩
    have e : ¬(t + 1) % 7 = 0 := by dsimp only at h7; omega
    refine ⟨fun j k l => ?_, fun n k b => ?_⟩
    · refine (congrFun (part_s_B_0 m c ⟨t + 1, ht⟩ e) _).trans ?_
      exact ih0 j k l
    · refine (congrFun (part_s_B_2 m c ⟨t + 1, ht⟩ e) _).trans ?_
      exact B.out_next _ _ _ _ _ _ _ _ _ _ _ _ _ _ _ _ _ _ _ _ _ _ _ _ _ _ _ _ _ _ _ (X1 := fun n => (args m c).X (tok (t + 1 + 1) n)) (block1 m c ⟨t + 1, ht⟩) ih0 n k b

theorem tok_zero {t : Fin cfg0.N} (h : t.val % 7 = 0) (n : Fin 2) : tok t.val n = tok 0 n := by
  have := lt_seven t
  rw [show t.val = 0 by omega]

/-- The scales of the keys that a point leaves. -/
theorem out9 (c : Dev nD) (t : Fin cfg0.N) (n : Fin 2) (h : Fin 10) (b : Fin 256) :
    (outsAt0 m c t.val t.isLt).2.2.2.2.2.1 (ix3 n h b) = (args m c).scaleAt 1 (tok t.val n) h b := by
  by_cases h0 : t.val % 7 = 0
  · refine (congrFun (part_A_9 m c t h0) _).trans ?_
    refine (A.out_k _ _ _ _ _ _ _ _ _ _ _ _ _ _ _ _ _ _ _ _ _ _ _ _ _ _ _ _ _ _ _ (X0 := fun n => (args m c).X (tok 0 n)) (block0 m c t) (block2 m c t) (block3 m c t) n h b).trans ?_
    rw [tok_zero h0]; rfl
  · obtain ⟨s0, s2⟩ := scratch m c (t.val - 1) (Nat.lt_of_le_of_lt (Nat.sub_le _ _) t.isLt)
    refine (congrFun (part_B_9 m c t h0) _).trans ?_
    refine (B.out_k _ _ _ _ _ _ _ _ _ _ _ _ _ _ _ _ _ _ _ _ _ _ _ _ _ _ _ _ _ _ _ (A := fun n => (args m c).normAt (tok (t.val - 1 + 1) n)) (block2 m c t) s0 s2 n h b).trans ?_
    rw [Nat.sub_add_cancel (by omega : 1 ≤ t.val)]; rfl

/-- The scales of the values that a point leaves. -/
theorem out10 (c : Dev nD) (t : Fin cfg0.N) (n : Fin 2) (h : Fin 10) (b : Fin 256) :
    (outsAt0 m c t.val t.isLt).2.2.2.2.2.2.1 (ix3 n h b) = (args m c).scaleAt 2 (tok t.val n) h b := by
  by_cases h0 : t.val % 7 = 0
  · refine (congrFun (part_A_10 m c t h0) _).trans ?_
    refine (A.out_v _ _ _ _ _ _ _ _ _ _ _ _ _ _ _ _ _ _ _ _ _ _ _ _ _ _ _ _ _ _ _ (X0 := fun n => (args m c).X (tok 0 n)) (block0 m c t) (block2 m c t) (block3 m c t) n h b).trans ?_
    rw [tok_zero h0]; rfl
  · obtain ⟨s0, s2⟩ := scratch m c (t.val - 1) (Nat.lt_of_le_of_lt (Nat.sub_le _ _) t.isLt)
    refine (congrFun (part_B_10 m c t h0) _).trans ?_
    refine (B.out_v _ _ _ _ _ _ _ _ _ _ _ _ _ _ _ _ _ _ _ _ _ _ _ _ _ _ _ _ _ _ _ (A := fun n => (args m c).normAt (tok (t.val - 1 + 1) n)) (block2 m c t) s0 s2 n h b).trans ?_
    rw [Nat.sub_add_cancel (by omega : 1 ≤ t.val)]; rfl

theorem final9 (c : Dev nD) : (dats m 0 c).arrAt 9 cfg0.N = (args m c).scales 1 :=
  (dats m 0 c).arrAt_eq_of_covers 9 _ (by decide +kernel) fun t hf y => by
    blk_simp
    have e : (win0_9.blk t).view.emb y = ix3 (tok t.val (y 0)) (y 1) (y 2) := by blk_ext [tok, index9 t]
    rw [after0_9, e]
    refine Eq.trans ?_ (out9 m c t (y 0) (y 1) (y 2))
    exact congrArg _ (eq_ix3 y)

theorem final10 (c : Dev nD) : (dats m 0 c).arrAt 10 cfg0.N = (args m c).scales 2 :=
  (dats m 0 c).arrAt_eq_of_covers 10 _ (by decide +kernel) fun t hf y => by
    blk_simp
    have e : (win0_10.blk t).view.emb y = ix3 (tok t.val (y 0)) (y 1) (y 2) := by blk_ext [tok, index10 t]
    rw [after0_10, e]
    refine Eq.trans ?_ (out10 m c t (y 0) (y 1) (y 2))
    exact congrArg _ (eq_ix3 y)

end Cert.QkvIdeal.Hand

end
-- ==== Proof.Qkv.Entry.lean ====
/- What the host operations before the first call's region make of @main's arguments. -/
module

public import proofs.«01_k».proof.Proof.Qkv.Track
public import Idealize.ShloMosaic.Lib.StableHlo.ReadAt

@[expose] public section

set_option maxRecDepth 16384

noncomputable section

namespace Cert.QkvIdeal.Hand

open Cert.QkvIdeal.Gen Cert.Proj
open Idealize.ShloMosaic Idealize.ShloMosaic.TcCoe Idealize.ShloMosaic.Tactic Idealize.SL.Sem

variable (m : (ℓ : Loc nD τ sig) → Buf (Elt Ideal) ℓ)

/-- The arrays that @main is given. -/
def arrays (c : Dev nD) : Arrays where
  x := m ((c : Thread nD τ).loc main_arg0)
  ln_g := m ((c : Thread nD τ).loc main_arg1)
  ln_b := m ((c : Thread nD τ).loc main_arg2)
  w_qkv := m ((c : Thread nD τ).loc main_arg3)
  b_qkv := m ((c : Thread nD τ).loc main_arg4)

theorem args_X (c : Dev nD) : (args m c).X = (arrays m c).args.X := by
  funext t k b
  unfold args Arrays.args
  dsimp only
  unfold V
  after_reads_simp
  pointwise
  try rfl

/-- Five columns, one after another. -/
theorem columns_apply {u0 u1 u2 u3 u4 : S960x1.Idx → EReal} {r0 r1 r2 r3 r4 : EReal} {h} (k : Fin 960) (j : Fin 5)
    (e0 : u0 (ix2 k 0) = r0) (e1 : u1 (ix2 k 0) = r1) (e2 : u2 (ix2 k 0) = r2) (e3 : u3 (ix2 k 0) = r3) (e4 : u4 (ix2 k 0) = r4) :
    (concatenate S960x5 1 [⟨S960x1, u0⟩, ⟨S960x1, u1⟩, ⟨S960x1, u2⟩, ⟨S960x1, u3⟩, ⟨S960x1, u4⟩] h : S960x5.Idx → EReal) (ix2 k j) =
    (![r0, r1, r2, r3, r4] : Fin 5 → EReal) j := by
  subst e0 e1 e2 e3 e4
  fin_cases j <;> pointwise

theorem col_0 (c : Dev nD) (k : Fin 960) : StableHlo.upto hostOps0 (fun b => m (c, b)) 15 (Proc.tc.devRef main_v10) (ix2 k 0) = (arrays m c).ln_g (ix1 k) := by
  after_reads_at
  rfl

theorem col_1 (c : Dev nD) (k : Fin 960) : StableHlo.upto hostOps0 (fun b => m (c, b)) 15 (Proc.tc.devRef main_v11) (ix2 k 0) = (arrays m c).ln_b (ix1 k) := by
  after_reads_at
  rfl

theorem col_2 (c : Dev nD) (k : Fin 960) : StableHlo.upto hostOps0 (fun b => m (c, b)) 15 (Proc.tc.devRef main_v12) (ix2 k 0) = (arrays m c).bias 0 k := by
  after_reads_at
  rfl

theorem col_3 (c : Dev nD) (k : Fin 960) : StableHlo.upto hostOps0 (fun b => m (c, b)) 15 (Proc.tc.devRef main_v13) (ix2 k 0) = (arrays m c).bias 1 k := by
  after_reads_at
  rfl

theorem col_4 (c : Dev nD) (k : Fin 960) : StableHlo.upto hostOps0 (fun b => m (c, b)) 15 (Proc.tc.devRef main_v14) (ix2 k 0) = (arrays m c).bias 2 k := by
  after_reads_at
  rfl

theorem args_P (c : Dev nD) : (args m c).P = (arrays m c).args.P := by
  funext j k
  show V m c main_v15 (ix2 k j) = (arrays m c).args.P j k
  unfold V
  after_reads_simp
  exact columns_apply k j (col_0 m c k) (col_1 m c k) (col_2 m c k) (col_3 m c k) (col_4 m c k)

theorem args_w (c : Dev nD) : (args m c).w = (arrays m c).args.w := by
  funext n d k
  unfold args Arrays.args
  dsimp only
  unfold V
  after_reads_simp
  pointwise
  have e1 : (⟨(960 * n.val + d.val) / 96 % 10, by omega⟩ : Fin 10) = ⟨d.val / 96, by omega⟩ := Fin.ext (show _ / 96 % 10 = _ / 96 by omega)
  have e2 : (⟨(960 * n.val + d.val) % 96, by omega⟩ : Fin 96) = ⟨d.val % 96, by omega⟩ := Fin.ext (show _ % 96 = _ % 96 by omega)
  rw [e1, e2]
  rfl

/-- The region's arguments are @main's. -/
theorem args_eq (c : Dev nD) : args m c = (arrays m c).args := by
  have e : ∀ {a b : Args}, a.X = b.X → a.P = b.P → a.w = b.w → a = b := by
    rintro ⟨⟩ ⟨⟩ rfl rfl rfl
    rfl
  exact e (args_X m c) (args_P m c) (args_w m c)

end Cert.QkvIdeal.Hand

end
-- ==== Proof.Qkv.CodesA.lean ====
/- The codes that the first grid point of the first call leaves. -/
module

public import proofs.«01_k».proof.Proof.Qkv.ValA

@[expose] public section

noncomputable section

namespace Cert.QkvIdeal.Hand

open Cert.QkvIdeal.Gen Cert.Proj
open Cert.Conv (Plane Col lin mean rstd)
open Cert.KernelIdeal.Hand (Agree agree_nil)
open Idealize.ShloMosaic Idealize.ShloMosaic.TcCoe Idealize.SL.Sem

namespace A

variable (c : Dev nD) (i : grid0.Coords) (arg1 : Memref sig .tc .vmem S2x960x256 .bf16) (harg1 : arg1.IsWhole) (arg2 : Memref sig .tc .vmem S2x960x256 .bf16) (harg2 : arg2.IsWhole) (arg3 : Memref sig .tc .vmem S2880x960 .bf16) (harg3 : arg3.IsWhole) (arg4 : Memref sig .tc .vmem S960x5 .f32) (harg4 : arg4.IsWhole) (arg5 : Memref sig .tc .vmem S1x960x2x256 .bf16) (harg5 : arg5.IsWhole) (arg6 : Memref sig .tc .vmem S1x960x2x256 .bf16) (harg6 : arg6.IsWhole) (arg7 : Memref sig .tc .vmem S1x960x2x256 .bf16) (harg7 : arg7.IsWhole) (arg8 : Memref sig .tc .vmem S2x960x256 .i8) (harg8 : arg8.IsWhole) (arg9 : Memref sig .tc .vmem S2x960x256 .i8) (harg9 : arg9.IsWhole) (arg10 : Memref sig .tc .vmem S2x10x256 .f32) (harg10 : arg10.IsWhole) (arg11 : Memref sig .tc .vmem S2x10x256 .f32) (harg11 : arg11.IsWhole) (arg12 : Memref sig .tc .vmem S5x960x128 .f32) (harg12 : arg12.IsWhole) (arg13 : Memref sig .tc .vmem S2x960x256 .bf16) (harg13 : arg13.IsWhole) (arg14 : Memref sig .tc .vmem S2x960x256 .bf16) (harg14 : arg14.IsWhole)
  (hc0 : cond0_0 i)
  {x0 x1 : Vec Ideal S2x960x256 .bf16} {x2 : Vec Ideal S2880x960 .bf16} {x3 : Vec Ideal S960x5 .f32}
  {X0 X1 : Fin 2 → Plane} {P : Fin 5 → Col} {w : Fin 3 → Fin 960 → Fin 960 → EReal}
  (h0 : ∀ n k b, x0 (ix3 n k b) = X0 n k b) (h1 : ∀ n k b, x1 (ix3 n k b) = X1 n k b)
  (h2 : ∀ (n : Fin 3) (d k : Fin 960), x2 (ix2 ⟨960 * n.val + d.val, wrow_lt n d⟩ k) = w n d k)
  (hp : ∀ k j, x3 (ix2 k j) = P j k)

include h0 h2 hp

set_option maxHeartbeats 4000000 in
/-- The codes of the keys. -/
theorem agree_kc : Agree (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3).2.2.2.1 (flatC fun n d b => code (proj P w 1 (norm P (X0 n))) d b) := by
  have hr := agree_pars c arg4 harg4 hp
  have hw := cover_pars c arg4 harg4 (x3 := x3)
  have hq := agree_a c arg1 harg1 arg4 harg4 arg12 arg14 h0 hp
  have hv := cover_a c arg1 harg1 arg4 harg4 arg12 arg14 (x0 := x0) (x3 := x3)
  repeat
    refine agree_code _ (by decide) (by decide) (fun k b => ?_) ?_
    · refine head_quant _ (by decide) (by decide) ?_ k b
      refine head_proj ?_ ?_
      · exact dot_proj (square_unread harg3 h2 1 (by decide) rfl) (plane_cov hq hv _ (by decide))
      · exact (headP_cov hr hw 3 (by decide))
  exact agree_nil _

omit h0 h2 hp in
theorem cover_kc : ∀ y : S2x960x256.Idx, ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3).2.2.2.1, y ∈ p.1.set :=
  View.cover_of_tiledL _ S1x96x256.size (by rfl)

set_option maxHeartbeats 4000000 in
/-- The codes of the values. -/
theorem agree_vc : Agree (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3).2.2.2.2.1 (flatC fun n d b => code (proj P w 2 (norm P (X0 n))) d b) := by
  have hr := agree_pars c arg4 harg4 hp
  have hw := cover_pars c arg4 harg4 (x3 := x3)
  have hq := agree_a c arg1 harg1 arg4 harg4 arg12 arg14 h0 hp
  have hv := cover_a c arg1 harg1 arg4 harg4 arg12 arg14 (x0 := x0) (x3 := x3)
  repeat
    refine agree_code _ (by decide) (by decide) (fun k b => ?_) ?_
    · refine head_quant _ (by decide) (by decide) ?_ k b
      refine head_proj ?_ ?_
      · exact dot_proj (square_unread harg3 h2 2 (by decide) rfl) (plane_cov hq hv _ (by decide))
      · exact (headP_cov hr hw 4 (by decide))
  exact agree_nil _

omit h0 h2 hp in
theorem cover_vc : ∀ y : S2x960x256.Idx, ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3).2.2.2.2.1, y ∈ p.1.set :=
  View.cover_of_tiledL _ S1x96x256.size (by rfl)

end A

end Cert.QkvIdeal.Hand

end
-- ==== Proof.Qkv.CodesB.lean ====
/- The codes that the grid points of the first call after the first leave. -/
module

public import proofs.«01_k».proof.Proof.Qkv.ValB

@[expose] public section

noncomputable section

namespace Cert.QkvIdeal.Hand

open Cert.QkvIdeal.Gen Cert.Proj
open Cert.Conv (Plane Col lin mean rstd)
open Cert.KernelIdeal.Hand (Agree agree_nil)
open Idealize.ShloMosaic Idealize.ShloMosaic.TcCoe Idealize.SL.Sem

namespace B

variable (c : Dev nD) (i : grid0.Coords) (arg1 : Memref sig .tc .vmem S2x960x256 .bf16) (harg1 : arg1.IsWhole) (arg2 : Memref sig .tc .vmem S2x960x256 .bf16) (harg2 : arg2.IsWhole) (arg3 : Memref sig .tc .vmem S2880x960 .bf16) (harg3 : arg3.IsWhole) (arg4 : Memref sig .tc .vmem S960x5 .f32) (harg4 : arg4.IsWhole) (arg5 : Memref sig .tc .vmem S1x960x2x256 .bf16) (harg5 : arg5.IsWhole) (arg6 : Memref sig .tc .vmem S1x960x2x256 .bf16) (harg6 : arg6.IsWhole) (arg7 : Memref sig .tc .vmem S1x960x2x256 .bf16) (harg7 : arg7.IsWhole) (arg8 : Memref sig .tc .vmem S2x960x256 .i8) (harg8 : arg8.IsWhole) (arg9 : Memref sig .tc .vmem S2x960x256 .i8) (harg9 : arg9.IsWhole) (arg10 : Memref sig .tc .vmem S2x10x256 .f32) (harg10 : arg10.IsWhole) (arg11 : Memref sig .tc .vmem S2x10x256 .f32) (harg11 : arg11.IsWhole) (arg12 : Memref sig .tc .vmem S5x960x128 .f32) (harg12 : arg12.IsWhole) (arg13 : Memref sig .tc .vmem S2x960x256 .bf16) (harg13 : arg13.IsWhole) (arg14 : Memref sig .tc .vmem S2x960x256 .bf16) (harg14 : arg14.IsWhole)
  (hc0 : ¬cond0_0 i)
  {x0 x1 : Vec Ideal S2x960x256 .bf16} {x2 : Vec Ideal S2880x960 .bf16} {x3 : Vec Ideal S960x5 .f32}
  {xs0 : Vec Ideal S5x960x128 .f32} {xs2 : Vec Ideal S2x960x256 .bf16}
  {X1 A : Fin 2 → Plane} {P : Fin 5 → Col} {w : Fin 3 → Fin 960 → Fin 960 → EReal}
  (h1 : ∀ n k b, x1 (ix3 n k b) = X1 n k b)
  (h2 : ∀ (n : Fin 3) (d k : Fin 960), x2 (ix2 ⟨960 * n.val + d.val, wrow_lt n d⟩ k) = w n d k)
  (hp : ∀ j k l, xs0 (ix3 j k l) = P j k) (hs : ∀ n k b, xs2 (ix3 n k b) = A n k b)

include h2 hp hs

set_option maxHeartbeats 4000000 in
/-- The codes of the keys. -/
theorem agree_kc : Agree (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 xs0 xs2).2.2.2.1 (flatC fun n d b => code (proj P w 1 (A n)) d b) := by
  have hq := agree_a c arg14 harg14 hs
  have hv := cover_a c arg14 harg14 (xs2 := xs2)
  repeat
    refine agree_code _ (by decide) (by decide) (fun k b => ?_) ?_
    · refine head_quant _ (by decide) (by decide) ?_ k b
      refine head_proj ?_ ?_
      · exact dot_proj (square_unread harg3 h2 1 (by decide) rfl) (plane_cov hq hv _ (by decide))
      · exact (headP_unread harg12 hp 3 (by decide))
  exact agree_nil _

omit h2 hp hs in
theorem cover_kc : ∀ y : S2x960x256.Idx, ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 xs0 xs2).2.2.2.1, y ∈ p.1.set :=
  View.cover_of_tiledL _ S1x96x256.size (by rfl)

set_option maxHeartbeats 4000000 in
/-- The codes of the values. -/
theorem agree_vc : Agree (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 xs0 xs2).2.2.2.2.1 (flatC fun n d b => code (proj P w 2 (A n)) d b) := by
  have hq := agree_a c arg14 harg14 hs
  have hv := cover_a c arg14 harg14 (xs2 := xs2)
  repeat
    refine agree_code _ (by decide) (by decide) (fun k b => ?_) ?_
    · refine head_quant _ (by decide) (by decide) ?_ k b
      refine head_proj ?_ ?_
      · exact dot_proj (square_unread harg3 h2 2 (by decide) rfl) (plane_cov hq hv _ (by decide))
      · exact (headP_unread harg12 hp 4 (by decide))
  exact agree_nil _

omit h2 hp hs in
theorem cover_vc : ∀ y : S2x960x256.Idx, ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 xs0 xs2).2.2.2.2.1, y ∈ p.1.set :=
  View.cover_of_tiledL _ S1x96x256.size (by rfl)

end B

end Cert.QkvIdeal.Hand

end
-- ==== Proof.Qkv.OutsCodes.lean ====
/- What a grid point of the first call leaves in the blocks of the two results of codes. -/
module

public import proofs.«01_k».proof.Proof.Qkv.CodesA
public import proofs.«01_k».proof.Proof.Qkv.CodesB
public import proofs.«01_k».proof.Proof.Qkv.Outs

@[expose] public section

noncomputable section

namespace Cert.QkvIdeal.Hand

open Cert.QkvIdeal.Gen Cert.Proj
open Cert.Conv (Plane Col)
open Cert.KernelIdeal.Hand (Agree)
open Idealize.ShloMosaic Idealize.ShloMosaic.TcCoe Idealize.SL.Sem

namespace A

variable (c : Dev nD) (i : grid0.Coords) (arg1 : Memref sig .tc .vmem S2x960x256 .bf16) (harg1 : arg1.IsWhole) (arg2 : Memref sig .tc .vmem S2x960x256 .bf16) (harg2 : arg2.IsWhole) (arg3 : Memref sig .tc .vmem S2880x960 .bf16) (harg3 : arg3.IsWhole) (arg4 : Memref sig .tc .vmem S960x5 .f32) (harg4 : arg4.IsWhole) (arg5 : Memref sig .tc .vmem S1x960x2x256 .bf16) (harg5 : arg5.IsWhole) (arg6 : Memref sig .tc .vmem S1x960x2x256 .bf16) (harg6 : arg6.IsWhole) (arg7 : Memref sig .tc .vmem S1x960x2x256 .bf16) (harg7 : arg7.IsWhole) (arg8 : Memref sig .tc .vmem S2x960x256 .i8) (harg8 : arg8.IsWhole) (arg9 : Memref sig .tc .vmem S2x960x256 .i8) (harg9 : arg9.IsWhole) (arg10 : Memref sig .tc .vmem S2x10x256 .f32) (harg10 : arg10.IsWhole) (arg11 : Memref sig .tc .vmem S2x10x256 .f32) (harg11 : arg11.IsWhole) (arg12 : Memref sig .tc .vmem S5x960x128 .f32) (harg12 : arg12.IsWhole) (arg13 : Memref sig .tc .vmem S2x960x256 .bf16) (harg13 : arg13.IsWhole) (arg14 : Memref sig .tc .vmem S2x960x256 .bf16) (harg14 : arg14.IsWhole)
  (hc0 : cond0_0 i)
  {x0 x1 : Vec Ideal S2x960x256 .bf16} {x2 : Vec Ideal S2880x960 .bf16} {x3 : Vec Ideal S960x5 .f32}
  {X0 X1 : Fin 2 → Plane} {P : Fin 5 → Col} {w : Fin 3 → Fin 960 → Fin 960 → EReal}
  (h0 : ∀ n k b, x0 (ix3 n k b) = X0 n k b) (h1 : ∀ n k b, x1 (ix3 n k b) = X1 n k b)
  (h2 : ∀ (n : Fin 3) (d k : Fin 960), x2 (ix2 ⟨960 * n.val + d.val, wrow_lt n d⟩ k) = w n d k)
  (hp : ∀ k j, x3 (ix2 k j) = P j k)

include h0 h2 hp in
/-- The codes of the keys. -/
theorem out_kc (n : Fin 2) (d : Fin 960) (b : Fin 256) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 (ix3 n d b) = code (proj P w 1 (norm P (X0 n))) d b :=
  writes_apply (e := .i8) (v := VO0_7) (G := flatC fun n d b => code (proj P w 1 (norm P (X0 n))) d b) (agree_kc c i arg1 harg1 arg2 harg2 arg3 harg3 arg4 harg4 arg5 harg5 arg6 harg6 arg7 harg7 arg8 harg8 arg9 harg9 arg10 harg10 arg11 harg11 arg12 harg12 arg13 harg13 arg14 harg14 hc0 h0 h2 hp)
    (cover_kc c i arg1 harg1 arg2 harg2 arg3 harg3 arg4 harg4 arg5 harg5 arg6 harg6 arg7 harg7 arg8 harg8 arg9 harg9 arg10 harg10 arg11 harg11 arg12 harg12 arg13 harg13 arg14 harg14 hc0) _ _

include h0 h2 hp in
/-- The codes of the values. -/
theorem out_vc (n : Fin 2) (d : Fin 960) (b : Fin 256) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 (ix3 n d b) = code (proj P w 2 (norm P (X0 n))) d b :=
  writes_apply (e := .i8) (v := VO0_8) (G := flatC fun n d b => code (proj P w 2 (norm P (X0 n))) d b) (agree_vc c i arg1 harg1 arg2 harg2 arg3 harg3 arg4 harg4 arg5 harg5 arg6 harg6 arg7 harg7 arg8 harg8 arg9 harg9 arg10 harg10 arg11 harg11 arg12 harg12 arg13 harg13 arg14 harg14 hc0 h0 h2 hp)
    (cover_vc c i arg1 harg1 arg2 harg2 arg3 harg3 arg4 harg4 arg5 harg5 arg6 harg6 arg7 harg7 arg8 harg8 arg9 harg9 arg10 harg10 arg11 harg11 arg12 harg12 arg13 harg13 arg14 harg14 hc0) _ _

end A

namespace B

variable (c : Dev nD) (i : grid0.Coords) (arg1 : Memref sig .tc .vmem S2x960x256 .bf16) (harg1 : arg1.IsWhole) (arg2 : Memref sig .tc .vmem S2x960x256 .bf16) (harg2 : arg2.IsWhole) (arg3 : Memref sig .tc .vmem S2880x960 .bf16) (harg3 : arg3.IsWhole) (arg4 : Memref sig .tc .vmem S960x5 .f32) (harg4 : arg4.IsWhole) (arg5 : Memref sig .tc .vmem S1x960x2x256 .bf16) (harg5 : arg5.IsWhole) (arg6 : Memref sig .tc .vmem S1x960x2x256 .bf16) (harg6 : arg6.IsWhole) (arg7 : Memref sig .tc .vmem S1x960x2x256 .bf16) (harg7 : arg7.IsWhole) (arg8 : Memref sig .tc .vmem S2x960x256 .i8) (harg8 : arg8.IsWhole) (arg9 : Memref sig .tc .vmem S2x960x256 .i8) (harg9 : arg9.IsWhole) (arg10 : Memref sig .tc .vmem S2x10x256 .f32) (harg10 : arg10.IsWhole) (arg11 : Memref sig .tc .vmem S2x10x256 .f32) (harg11 : arg11.IsWhole) (arg12 : Memref sig .tc .vmem S5x960x128 .f32) (harg12 : arg12.IsWhole) (arg13 : Memref sig .tc .vmem S2x960x256 .bf16) (harg13 : arg13.IsWhole) (arg14 : Memref sig .tc .vmem S2x960x256 .bf16) (harg14 : arg14.IsWhole)
  (hc0 : ¬cond0_0 i)
  {x0 x1 : Vec Ideal S2x960x256 .bf16} {x2 : Vec Ideal S2880x960 .bf16} {x3 : Vec Ideal S960x5 .f32}
  {xs0 : Vec Ideal S5x960x128 .f32} {xs2 : Vec Ideal S2x960x256 .bf16}
  {X1 A : Fin 2 → Plane} {P : Fin 5 → Col} {w : Fin 3 → Fin 960 → Fin 960 → EReal}
  (h1 : ∀ n k b, x1 (ix3 n k b) = X1 n k b)
  (h2 : ∀ (n : Fin 3) (d k : Fin 960), x2 (ix2 ⟨960 * n.val + d.val, wrow_lt n d⟩ k) = w n d k)
  (hp : ∀ j k l, xs0 (ix3 j k l) = P j k) (hs : ∀ n k b, xs2 (ix3 n k b) = A n k b)

include h2 hp hs in
/-- The codes of the keys. -/
theorem out_kc (n : Fin 2) (d : Fin 960) (b : Fin 256) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 xs0 xs2 (ix3 n d b) = code (proj P w 1 (A n)) d b :=
  writes_apply (e := .i8) (v := VO0_7) (G := flatC fun n d b => code (proj P w 1 (A n)) d b) (agree_kc c i arg1 harg1 arg2 harg2 arg3 harg3 arg4 harg4 arg5 harg5 arg6 harg6 arg7 harg7 arg8 harg8 arg9 harg9 arg10 harg10 arg11 harg11 arg12 harg12 arg13 harg13 arg14 harg14 hc0 h2 hp hs)
    (cover_kc c i arg1 harg1 arg2 harg2 arg3 harg3 arg4 harg4 arg5 harg5 arg6 harg6 arg7 harg7 arg8 harg8 arg9 harg9 arg10 harg10 arg11 harg11 arg12 harg12 arg13 harg13 arg14 harg14 hc0) _ _

include h2 hp hs in
/-- The codes of the values. -/
theorem out_vc (n : Fin 2) (d : Fin 960) (b : Fin 256) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 xs0 xs2 (ix3 n d b) = code (proj P w 2 (A n)) d b :=
  writes_apply (e := .i8) (v := VO0_8) (G := flatC fun n d b => code (proj P w 2 (A n)) d b) (agree_vc c i arg1 harg1 arg2 harg2 arg3 harg3 arg4 harg4 arg5 harg5 arg6 harg6 arg7 harg7 arg8 harg8 arg9 harg9 arg10 harg10 arg11 harg11 arg12 harg12 arg13 harg13 arg14 harg14 hc0 h2 hp hs)
    (cover_vc c i arg1 harg1 arg2 harg2 arg3 harg3 arg4 harg4 arg5 harg5 arg6 harg6 arg7 harg7 arg8 harg8 arg9 harg9 arg10 harg10 arg11 harg11 arg12 harg12 arg13 harg13 arg14 harg14 hc0) _ _

end B

end Cert.QkvIdeal.Hand

end
-- ==== Proof.Qkv.TrackCodes.lean ====
/- The codes of the first call over its grid, and the run's results: the host operations after the region take the new tokens' rows. -/
module

public import proofs.«01_k».proof.Proof.Qkv.OutsCodes
public import proofs.«01_k».proof.Proof.Qkv.Track

@[expose] public section

set_option maxRecDepth 16384

noncomputable section

namespace Cert.QkvIdeal.Hand

open Cert.QkvIdeal.Gen Cert.Proj
open Cert.Conv (Plane Col)
open Idealize.ShloMosaic Idealize.ShloMosaic.TcCoe Idealize.ShloMosaic.Tactic Idealize.SL.Sem

variable (m : (ℓ : Loc nD τ sig) → Buf (Elt Ideal) ℓ) (ρ : Dev nD → PrngReg)

theorem index7 : ∀ t : Fin cfg0.N, win0_7.index t = ![28 + min t.val 6, 0, 0] := (by decide +kernel : ∀ t : Fin grid0.N, _)
theorem index8 : ∀ t : Fin cfg0.N, win0_8.index t = ![28 + min t.val 6, 0, 0] := (by decide +kernel : ∀ t : Fin grid0.N, _)

theorem part_A_7 (c : Dev nD) (t : Fin cfg0.N) (h0 : t.val % 7 = 0) : (outsAt0 m c t.val t.isLt).2.2.2.1 =
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) := by
  rw [outsAt0_A m c t h0]

theorem part_A_8 (c : Dev nD) (t : Fin cfg0.N) (h0 : t.val % 7 = 0) : (outsAt0 m c t.val t.isLt).2.2.2.2.1 =
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) := by
  rw [outsAt0_A m c t h0]

theorem part_B_7 (c : Dev nD) (t : Fin cfg0.N) (h0 : ¬t.val % 7 = 0) : (outsAt0 m c t.val t.isLt).2.2.2.1 =
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 := by
  rw [outsAt0_B m c t h0]

theorem part_B_8 (c : Dev nD) (t : Fin cfg0.N) (h0 : ¬t.val % 7 = 0) : (outsAt0 m c t.val t.isLt).2.2.2.2.1 =
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 := by
  rw [outsAt0_B m c t h0]

/-- The codes of the keys that a point leaves. -/
theorem out7 (c : Dev nD) (t : Fin cfg0.N) (n : Fin 2) (d : Fin 960) (b : Fin 256) :
    (outsAt0 m c t.val t.isLt).2.2.2.1 (ix3 n d b) = (args m c).codeAt 1 (tok t.val n) d b := by
  by_cases h0 : t.val % 7 = 0
  · refine (congrFun (part_A_7 m c t h0) _).trans ?_
    refine (A.out_kc _ _ _ _ _ _ _ _ _ _ _ _ _ _ _ _ _ _ _ _ _ _ _ _ _ _ _ _ _ _ _ (X0 := fun n => (args m c).X (tok 0 n)) (block0 m c t) (block2 m c t) (block3 m c t) n d b).trans ?_
    rw [tok_zero h0]; rfl
  · obtain ⟨s0, s2⟩ := scratch m c (t.val - 1) (Nat.lt_of_le_of_lt (Nat.sub_le _ _) t.isLt)
    refine (congrFun (part_B_7 m c t h0) _).trans ?_
    refine (B.out_kc _ _ _ _ _ _ _ _ _ _ _ _ _ _ _ _ _ _ _ _ _ _ _ _ _ _ _ _ _ _ _ (A := fun n => (args m c).normAt (tok (t.val - 1 + 1) n)) (block2 m c t) s0 s2 n d b).trans ?_
    rw [Nat.sub_add_cancel (by omega : 1 ≤ t.val)]; rfl

/-- The codes of the values that a point leaves. -/
theorem out8 (c : Dev nD) (t : Fin cfg0.N) (n : Fin 2) (d : Fin 960) (b : Fin 256) :
    (outsAt0 m c t.val t.isLt).2.2.2.2.1 (ix3 n d b) = (args m c).codeAt 2 (tok t.val n) d b := by
  by_cases h0 : t.val % 7 = 0
  · refine (congrFun (part_A_8 m c t h0) _).trans ?_
    refine (A.out_vc _ _ _ _ _ _ _ _ _ _ _ _ _ _ _ _ _ _ _ _ _ _ _ _ _ _ _ _ _ _ _ (X0 := fun n => (args m c).X (tok 0 n)) (block0 m c t) (block2 m c t) (block3 m c t) n d b).trans ?_
    rw [tok_zero h0]; rfl
  · obtain ⟨s0, s2⟩ := scratch m c (t.val - 1) (Nat.lt_of_le_of_lt (Nat.sub_le _ _) t.isLt)
    refine (congrFun (part_B_8 m c t h0) _).trans ?_
    refine (B.out_vc _ _ _ _ _ _ _ _ _ _ _ _ _ _ _ _ _ _ _ _ _ _ _ _ _ _ _ _ _ _ _ (A := fun n => (args m c).normAt (tok (t.val - 1 + 1) n)) (block2 m c t) s0 s2 n d b).trans ?_
    rw [Nat.sub_add_cancel (by omega : 1 ≤ t.val)]; rfl

/-- The codes over all the rows of a result's array; the new tokens' are its last fourteen. -/
def wideCodes (c : Dev nD) (n : Fin 3) : S70x960x256.Idx → BitVec 8 := fun x =>
  (args m c).codeAt n ⟨(x 0).val % 14, Nat.mod_lt _ (by decide)⟩ (x 1) (x 2)

theorem row_lt (t : ℕ) (n : Fin 2) : 2 * (28 + min t 6) + n.val < 70 := by omega

theorem wideCodes_apply (c : Dev nD) (n : Fin 3) (t : ℕ) (k : Fin 2) (d : Fin 960) (b : Fin 256) :
    wideCodes m c n (ix3 ⟨2 * (28 + min t 6) + k.val, row_lt t k⟩ d b) = (args m c).codeAt n (tok t k) d b := by
  show (args m c).codeAt n ⟨(2 * (28 + min t 6) + k.val) % 14, _⟩ d b = _
  exact congrArg (fun s => (args m c).codeAt n s d b) (Fin.ext (show (2 * (28 + min t 6) + k.val) % 14 = 2 * min t 6 + k.val by omega))

/-- The rows of the new tokens in the array of window 7. -/
theorem final7 (c : Dev nD) (x : S70x960x256.Idx) (hx : 28 ≤ (x 0).val / 2) : (dats m 0 c).arrAt 7 cfg0.N x = wideCodes m c 1 x := by
  refine ((dats m 0 c).arrAt_apply_of_coversWhere 7 (wideCodes m c 1) (P := fun i : S70x960x256.Idx => 28 ≤ (i 0).val / 2)
    (fun β => 28 ≤ β (0 : Fin 3)) (by decide +kernel) (fun t hf y => ?_) (fun j => Iff.rfl) x).trans (if_pos hx)
  blk_simp
  have e : (win0_7.blk t).view.emb y = ix3 ⟨2 * (28 + min t.val 6) + (y 0).val, row_lt t.val (y 0)⟩ (y 1) (y 2) := by blk_ext [index7 t]
  rw [after0_7, e]
  refine Eq.trans ?_ ((out7 m c t (y 0) (y 1) (y 2)).trans (wideCodes_apply m c 1 t.val (y 0) (y 1) (y 2)).symm)
  exact congrArg _ (eq_ix3 y)

/-- The rows of the new tokens in the array of window 8. -/
theorem final8 (c : Dev nD) (x : S70x960x256.Idx) (hx : 28 ≤ (x 0).val / 2) : (dats m 0 c).arrAt 8 cfg0.N x = wideCodes m c 2 x := by
  refine ((dats m 0 c).arrAt_apply_of_coversWhere 8 (wideCodes m c 2) (P := fun i : S70x960x256.Idx => 28 ≤ (i 0).val / 2)
    (fun β => 28 ≤ β (0 : Fin 3)) (by decide +kernel) (fun t hf y => ?_) (fun j => Iff.rfl) x).trans (if_pos hx)
  blk_simp
  have e : (win0_8.blk t).view.emb y = ix3 ⟨2 * (28 + min t.val 6) + (y 0).val, row_lt t.val (y 0)⟩ (y 1) (y 2) := by blk_ext [index8 t]
  rw [after0_8, e]
  refine Eq.trans ?_ ((out8 m c t (y 0) (y 1) (y 2)).trans (wideCodes_apply m c 2 t.val (y 0) (y 1) (y 2)).symm)
  exact congrArg _ (eq_ix3 y)

/-- The last fourteen rows of an array of codes. -/
theorem rows_apply (c : Dev nD) (n : Fin 3) {F : S70x960x256.Idx → BitVec 8} (h : ∀ x : S70x960x256.Idx, 28 ≤ (x 0).val / 2 → F x = wideCodes m c n x) :
    extractStridedSlice S14x960x256 ![56, 0, 0] F slices_S70x960x256_S14x960x256_56_0_0 = (args m c).codes n := by
  funext x
  rw [eq_ix3 x]
  pointwise
  rw [h _ (by simp; omega)]
  show (args m c).codeAt n ⟨_ % 14, _⟩ _ _ = (args m c).codeAt n (x 0) (x 1) (x 2)
  congr 1
  refine Fin.ext ?_
  have : (x 0).val < 14 := (x 0).isLt
  simp
  omega

theorem tail17 (c : Dev nD) : Pipeline.afterTail₀ cfgs (dats m) 0 (V0 m) [hostOps1] c main_v17 = (args m c).codes 1 := by
  unfold Pipeline.afterTail₀
  have e := (dats m 0 c).withArrays_arrAt sharedIn0 (V0 m c) (A_eq m c) 7
  simp only [hostOps1, List.flatten_cons, List.flatten_nil, List.append_nil]
  after_results
  exact (congrArg (fun F => extractStridedSlice S14x960x256 ![56, 0, 0] F slices_S70x960x256_S14x960x256_56_0_0) e).trans (rows_apply m c 1 (final7 m c))

theorem tail18 (c : Dev nD) : Pipeline.afterTail₀ cfgs (dats m) 0 (V0 m) [hostOps1] c main_v18 = (args m c).codes 2 := by
  unfold Pipeline.afterTail₀
  have e := (dats m 0 c).withArrays_arrAt sharedIn0 (V0 m c) (A_eq m c) 8
  simp only [hostOps1, List.flatten_cons, List.flatten_nil, List.append_nil]
  after_results
  exact (congrArg (fun F => extractStridedSlice S14x960x256 ![56, 0, 0] F slices_S70x960x256_S14x960x256_56_0_0) e).trans (rows_apply m c 2 (final8 m c))

/-- The run leaves every new token's codes and scales in the results. -/
theorem results : θ_run defs (onTc (τ := τ) (main (F := Ideal))) ⟨m, fun _ => 0, ρ⟩ (fun r => ∀ c : Dev nD,
    r.2.mem ((c.tc : Thread nD τ).loc main_v17) = (args m c).codes 1 ∧ r.2.mem ((c.tc : Thread nD τ).loc main_v16_5) = (args m c).scales 1 ∧
    r.2.mem ((c.tc : Thread nD τ).loc main_v18) = (args m c).codes 2 ∧ r.2.mem ((c.tc : Thread nD τ).loc main_v16_6) = (args m c).scales 2) :=
  (θ_run defs _ _).mono (fun r h c => ⟨((h c).2 main_v17 (Pipeline.mem_restRefs_of main_v17 (by decide) (by decide))).trans (tail17 m c),
    ((h c).1 9).trans (final9 m c), ((h c).2 main_v18 (Pipeline.mem_restRefs_of main_v18 (by decide) (by decide))).trans (tail18 m c),
    ((h c).1 10).trans (final10 m c)⟩) (run_main m ρ)

end Cert.QkvIdeal.Hand

end
-- ==== Proof.Qkv.RefValue.lean ====
/- What the reference of the first call computes, entry by entry. -/
module

public import proofs.«01_k».proof.Proof.Gen.QkvReferenceIdeal.Frame
public import proofs.«01_k».proof.Proof.Qkv.Spec
public import Idealize.ShloMosaic.Lib.Claim
public import Idealize.ShloMosaic.Lib.Pipeline.ValueKit
public import Idealize.ShloMosaic.Lib.StableHlo.ReadAt

@[expose] public section

set_option maxRecDepth 16384

noncomputable section

namespace Cert.QkvReferenceIdeal.Hand

open Cert.QkvReferenceIdeal.Gen Cert.Proj
open Cert.Conv (Plane Col lin mean rstd invD)
open Idealize.ShloMosaic Idealize.ShloMosaic.TcCoe Idealize.ShloMosaic.Tactic Idealize.SL.Sem

/-- The division by the number of features is the product with its inverse. -/
theorem div_d (x : EReal) : Ideal.div x (Ideal.ofBits .f32 0x44700000#32) = x * invD := by
  rw [show Ideal.ofBits .f32 0x44700000#32 = ((960 : ℝ) : EReal) from by
    simp [Ideal.ofBits, Ideal.ieee, -EReal.coe_mul]; norm_num, Ideal.div_coe (by norm_num), one_div]
  rfl

section

variable {A : Args} {v0 : Vec Ideal S256x14x960 .bf16} {v20 v24 : Vec Ideal S1x1x960 .f32}

/-- The normalised tokens. -/
theorem norm_apply (h0 : ∀ t k b, v0 (ix3 b t k) = A.X t k b) (h20 : ∀ k, v20 (ix3 0 0 k) = A.P 0 k) (h24 : ∀ k, v24 (ix3 0 0 k) = A.P 1 k)
    (t : Fin 14) (k : Fin 960) (b : Fin 256) : k0_pay4 v0 v20 v24 (ix3 b t k) = A.normAt t k b := by
  unfold k0_pay4
  pointwise
  simp only [h0, h20, h24, div_d]
  rfl

variable {a : FVec Ideal S256x14x960 .bf16} {w : Vec Ideal S1x960x960 .bf16} {u : Vec Ideal S1x1x1x960 .f32} {n : Fin 3}

theorem lin_swap (w : Fin 960 → Fin 960 → EReal) (v : Plane) (d : Fin 960) (b : Fin 256) :
    ∑ x, v x b * w d x = lin w v d b := Finset.sum_congr rfl fun _ _ => mul_comm _ _

/-- A projection, head by head, of the normalised tokens. -/
theorem proj_apply (ha : ∀ t k b, a (ix3 b t k) = A.normAt t k b) (hw : ∀ d k, w (ix3 0 k d) = A.w n d k)
    (hu : ∀ k, u (ix4 0 0 0 k) = A.P ⟨2 + n.val, by omega⟩ k) (t : Fin 14) (h : Fin 10) (k : Fin 96) (b : Fin 256) :
    shapeCast S256x14x10x96 (truncf .bf16 (addf (matmul (φ₂ := .bf16) dot_S256x14x960_S960x960_S256x14x960_2_0_01_1_n_n none a
      (shapeCast (α := Ideal .bf16) S960x960 w shapeCasts_S1x960x960_S960x960) (constant S256x14x960 .f32 0x00000000#32))
      (broadcastTo S256x14x960 (shapeCast S1x1x960 u shapeCasts_S1x1x1x960_S1x1x960) broadcasts_S1x1x960_S256x14x960)) bitsLt_bf16_f32)
      shapeCasts_S256x14x960_S256x14x10x96 (ix4 b t h k) = proj A.P A.w n (A.normAt t) (feature h k) b := by
  unfold proj
  pointwise
  simp only [ha, hw, hu]
  rw [← lin_swap]
  rfl

/-- The largest magnitude of a head, read over its features. -/
theorem max_apply (v : FVec Ideal S256x14x10x96 .f32) (b : Fin 256) (t : Fin 14) (h : Fin 10) :
    multiReduction .maximumf [3] S256x14x10 v 0xFF800000#32 reduces_S256x14x10x96_S256x14x10 (.inl rfl) rfl (ix3 b t h)
      = Finset.univ.fold max (Ideal.ofBits .f32 0xFF800000#32) fun k : Fin 96 => v (ix4 b t h k) := by
  refine (Ideal.multiReduction_maximumf_single v _ _ _ _ _).trans ?_
  refine congrArg (fun f : Fin 96 → EReal => Finset.univ.fold max (Ideal.ofBits .f32 0xFF800000#32) f) (funext fun k => ?_)
  refine congrArg v (funext fun a => Fin.ext ?_)
  fin_cases a <;> rfl

/-- The scales, of the largest magnitudes. -/
theorem post_apply (M : FVec Ideal S256x14x10 .f32) (t : Fin 14) (h : Fin 10) (b : Fin 256) :
    (select (cmpf .ogt M (broadcast S256x14x10 (Scalar.ofBits .f32 0x00000000#32 : Ideal .f32)))
      (divf M (broadcast S256x14x10 (Scalar.ofBits .f32 0x42FE0000#32 : Ideal .f32))) (broadcast S256x14x10 (Scalar.ofBits .f32 0x3F800000#32 : Ideal .f32)) : FVec Ideal S256x14x10 .f32) (ix3 b t h)
      = if 0 < M (ix3 b t h) then Ideal.div (M (ix3 b t h)) (Ideal.ofBits .f32 0x42FE0000#32) else 1 := by
  pointwise

/-- The tokens of an array of scales come first in the result. -/
theorem tokens_first (s : FVec Ideal S256x14x10 .f32) (t : Fin 14) (h : Fin 10) (b : Fin 256) :
    transpose S14x10x256 [1, 2, 0] s transposes_S256x14x10_p1_2_0_S14x10x256 (ix3 t h b) = s (ix3 b t h) := by
  pointwise

/-- The codes, of the features and the scales. -/
theorem quant_apply (x : FVec Ideal S256x14x10x96 .f32) (s : FVec Ideal S256x14x10 .f32) (t : Fin 14) (d : Fin 960) (b : Fin 256) :
    fptosi 8 (shapeCast S14x960x256 (transpose S14x10x96x256 [1, 2, 3, 0]
      (minimumf (broadcast S256x14x10x96 (Scalar.ofBits .f32 0x42FE0000#32 : Ideal .f32))
        (maximumf (broadcast S256x14x10x96 (Scalar.ofBits .f32 0xC2FE0000#32 : Ideal .f32))
          (roundeven (divf x (broadcastTo S256x14x10x96 (shapeCast S256x14x10x1 s shapeCasts_S256x14x10_S256x14x10x1)
            broadcasts_S256x14x10x1_S256x14x10x96)))))
      transposes_S256x14x10x96_p1_2_3_0_S14x10x96x256) shapeCasts_S14x10x96x256_S14x960x256) (ix3 t d b)
      = codeOf (s (ix3 b t ⟨d.val / 96, by omega⟩)) (x (ix4 b t ⟨d.val / 96, by omega⟩ ⟨d.val % 96, by omega⟩)) := by
  unfold codeOf
  pointwise
  try rfl

variable {x : FVec Ideal S256x14x10x96 .f32} {G : Fin 14 → Plane}

/-- The scales of a projection, head by head. -/
theorem scales_apply (hx : ∀ t h k b, x (ix4 b t h k) = G t (feature h k) b) (t : Fin 14) (h : Fin 10) (b : Fin 256) :
    (select (cmpf .ogt (multiReduction .maximumf [3] S256x14x10 (absf x) 0xFF800000#32 reduces_S256x14x10x96_S256x14x10 (.inl rfl) rfl) (broadcast S256x14x10 (Scalar.ofBits .f32 0x00000000#32 : Ideal .f32)))
      (divf (multiReduction .maximumf [3] S256x14x10 (absf x) 0xFF800000#32 reduces_S256x14x10x96_S256x14x10 (.inl rfl) rfl) (broadcast S256x14x10 (Scalar.ofBits .f32 0x42FE0000#32 : Ideal .f32))) (broadcast S256x14x10 (Scalar.ofBits .f32 0x3F800000#32 : Ideal .f32)) : FVec Ideal S256x14x10 .f32) (ix3 b t h) = scale (G t) h b := by
  have e : (multiReduction .maximumf [3] S256x14x10 (absf x) 0xFF800000#32 reduces_S256x14x10x96_S256x14x10 (.inl rfl) rfl) (ix3 b t h) = largest fun k => G t (feature h k) b := by
    refine (max_apply _ b t h).trans (congrArg (fun f : Fin 96 → EReal => Finset.univ.fold max (Ideal.ofBits .f32 0xFF800000#32) f) (funext fun k => ?_))
    exact congrArg (FloatOps.absf (F := Ideal) (φ := .f32)) (hx t h k b)
  refine (post_apply _ t h b).trans ?_
  rw [e]
  rfl

/-- The codes of a projection, of its scales. -/
theorem codes_apply (hx : ∀ t h k b, x (ix4 b t h k) = G t (feature h k) b) {s : FVec Ideal S256x14x10 .f32}
    (hs : ∀ t h b, s (ix3 b t h) = scale (G t) h b) (t : Fin 14) (d : Fin 960) (b : Fin 256) :
    codeOf (s (ix3 b t ⟨d.val / 96, by omega⟩)) (x (ix4 b t ⟨d.val / 96, by omega⟩ ⟨d.val % 96, by omega⟩)) = code (G t) d b := by
  have e : feature ⟨d.val / 96, by omega⟩ ⟨d.val % 96, by omega⟩ = d := Fin.ext (show d.val / 96 * 96 + d.val % 96 = d.val by omega)
  rw [hs, hx, e]
  rfl

/-! The same of the values that the body stores. -/

section

variable {v : FVec Ideal S256x14x10x96 .bf16}

theorem pay7_apply (hv : ∀ t h k b, v (ix4 b t h k) = G t (feature h k) b) (t : Fin 14) (h : Fin 10) (b : Fin 256) :
    k0_pay7 v (ix3 b t h) = scale (G t) h b := by
  unfold k0_pay7
  exact scales_apply (x := k0_pay6 v) hv t h b

theorem pay8_apply (hv : ∀ t h k b, v (ix4 b t h k) = G t (feature h k) b) (t : Fin 14) (d : Fin 960) (b : Fin 256) :
    k0_pay8 v (ix3 t d b) = code (G t) d b := by
  unfold k0_pay8
  exact (quant_apply (k0_pay6 v) (k0_pay7 v) t d b).trans (codes_apply (x := k0_pay6 v) hv (pay7_apply hv) t d b)

theorem pay9_apply (hv : ∀ t h k b, v (ix4 b t h k) = G t (feature h k) b) (t : Fin 14) (h : Fin 10) (b : Fin 256) :
    k0_pay9 v (ix3 t h b) = scale (G t) h b := by
  unfold k0_pay9
  exact (tokens_first (k0_pay7 v) t h b).trans (pay7_apply hv t h b)

end

theorem pay5_apply (h0 : ∀ t k b, v0 (ix3 b t k) = A.X t k b) (h20 : ∀ k, v20 (ix3 0 0 k) = A.P 0 k) (h24 : ∀ k, v24 (ix3 0 0 k) = A.P 1 k)
    (hw : ∀ d k, w (ix3 0 k d) = A.w n d k) (hu : ∀ k, u (ix4 0 0 0 k) = A.P ⟨2 + n.val, by omega⟩ k)
    (t : Fin 14) (h : Fin 10) (k : Fin 96) (b : Fin 256) :
    k0_pay5 v0 v20 v24 w u (ix4 b t h k) = proj A.P A.w n (A.normAt t) (feature h k) b := by
  unfold k0_pay5
  exact proj_apply (norm_apply h0 h20 h24) hw hu t h k b

theorem pay10_apply (h0 : ∀ t k b, v0 (ix3 b t k) = A.X t k b) (h20 : ∀ k, v20 (ix3 0 0 k) = A.P 0 k) (h24 : ∀ k, v24 (ix3 0 0 k) = A.P 1 k)
    (hw : ∀ d k, w (ix3 0 k d) = A.w n d k) (hu : ∀ k, u (ix4 0 0 0 k) = A.P ⟨2 + n.val, by omega⟩ k)
    (t : Fin 14) (h : Fin 10) (k : Fin 96) (b : Fin 256) :
    k0_pay10 (k0_pay4 v0 v20 v24) w u (ix4 b t h k) = proj A.P A.w n (A.normAt t) (feature h k) b := by
  unfold k0_pay10
  exact proj_apply (norm_apply h0 h20 h24) hw hu t h k b

theorem pay1_apply (hx : ∀ t h k b, k0_pay10 a w u (ix4 b t h k) = G t (feature h k) b) (t : Fin 14) (h : Fin 10) (b : Fin 256) :
    k0_pay1 (k0_pay11 a w u) k0_pay12 (ix3 b t h) = scale (G t) h b := by
  unfold k0_pay1 k0_pay11 k0_pay12
  exact scales_apply (x := k0_pay10 a w u) hx t h b

theorem pay2_apply (hx : ∀ t h k b, k0_pay10 a w u (ix4 b t h k) = G t (feature h k) b) (t : Fin 14) (d : Fin 960) (b : Fin 256) :
    k0_pay2 (k0_pay10 a w u) (k0_pay11 a w u) k0_pay12 (ix3 t d b) = code (G t) d b := by
  unfold k0_pay2
  exact (quant_apply (k0_pay10 a w u) (k0_pay1 (k0_pay11 a w u) k0_pay12) t d b).trans (codes_apply hx (pay1_apply hx) t d b)

theorem pay3_apply (hx : ∀ t h k b, k0_pay10 a w u (ix4 b t h k) = G t (feature h k) b) (t : Fin 14) (h : Fin 10) (b : Fin 256) :
    k0_pay3 (k0_pay11 a w u) k0_pay12 (ix3 t h b) = scale (G t) h b := by
  unfold k0_pay3
  exact (tokens_first (k0_pay1 (k0_pay11 a w u) k0_pay12) t h b).trans (pay1_apply hx t h b)

end

/-! ## The results of the body -/

variable (m : (ℓ : Loc nD τ sig) → Buf (Elt Ideal) ℓ) (ρ : Dev nD → PrngReg)

/-- The arrays that @main is given. -/
def arrays (c : Dev nD) : Arrays where
  x := m ((c : Thread nD τ).loc main_arg0)
  ln_g := m ((c : Thread nD τ).loc main_arg1)
  ln_b := m ((c : Thread nD τ).loc main_arg2)
  w_qkv := m ((c : Thread nD τ).loc main_arg3)
  b_qkv := m ((c : Thread nD τ).loc main_arg4)

theorem index0 : ∀ t : Fin cfg0.N, win0_0.index t = ![0, 0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0, 0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0, 0] := (by decide +kernel : ∀ t : Fin grid0.N, _)
theorem index8 : ∀ t : Fin cfg0.N, win0_8.index t = ![0, 0, 0] := (by decide +kernel : ∀ t : Fin grid0.N, _)

theorem iblk0 (c : Dev nD) (t : Fin cfg0.N) : iblk m c 0 t = V m c main_arg0 := by blk_ext! [iblk, index0 t]
theorem iblk1 (c : Dev nD) (t : Fin cfg0.N) : iblk m c 1 t = V m c main_v0 := by blk_ext! [iblk, index1 t]
theorem iblk2 (c : Dev nD) (t : Fin cfg0.N) : iblk m c 2 t = V m c main_v1 := by blk_ext! [iblk, index2 t]
theorem iblk3 (c : Dev nD) (t : Fin cfg0.N) : iblk m c 3 t = V m c main_v3 := by blk_ext! [iblk, index3 t]
theorem iblk4 (c : Dev nD) (t : Fin cfg0.N) : iblk m c 4 t = V m c main_v4 := by blk_ext! [iblk, index4 t]

theorem block0 (c : Dev nD) (t : Fin cfg0.N) (s k b) : iblk m c 0 t (ix3 b s k) = (arrays m c).args.X s k b := by
  rw [iblk0]; entry_read; pointwise; rfl
theorem block1 (c : Dev nD) (t : Fin cfg0.N) (k) : iblk m c 1 t (ix3 0 0 k) = (arrays m c).args.P 0 k := by
  rw [iblk1]; entry_read; pointwise; rfl
theorem block2 (c : Dev nD) (t : Fin cfg0.N) (k) : iblk m c 2 t (ix3 0 0 k) = (arrays m c).args.P 1 k := by
  rw [iblk2]; entry_read; pointwise; rfl
theorem block3 (c : Dev nD) (t : Fin cfg0.N) (n d k) : iblk m c 3 t (ix3 n k d) = (arrays m c).args.w n d k := by
  rw [iblk3]; entry_read; pointwise; rfl
theorem block4 (c : Dev nD) (t : Fin cfg0.N) (n : Fin 3) (k) : iblk m c 4 t (ix4 n 0 0 k) = (arrays m c).args.P ⟨2 + n.val, by omega⟩ k := by
  rw [iblk4]; entry_read; pointwise; fin_cases n <;> rfl

/-- A bias, loaded. -/
theorem ld_bias (x : Vec Ideal S3x1x1x960 .f32) (j : ℕ) (hj : j < 3) {inb} (k : Fin 960) :
    View.ld x (Rect.unit (s := S3x1x1x960) ![j, 0, 0, 0] S1x1x1x960.size inb) (ix4 0 0 0 k) = x (ix4 ⟨j, hj⟩ 0 0 k) := by
  refine congrArg x ?_
  funext a
  match a with
  | 0 => exact Fin.ext (by simp)
  | 1 => exact Fin.ext (by simp)
  | 2 => exact Fin.ext (by simp)
  | 3 => exact Fin.ext (by simp)

/-- A projection's matrix, loaded. -/
theorem ld_matrix (x : Vec Ideal S3x960x960 .bf16) (j : ℕ) (hj : j < 3) {inb} (k d : Fin 960) :
    View.ld x (Rect.unit (s := S3x960x960) ![j, 0, 0] S1x960x960.size inb) (ix3 0 k d) = x (ix3 ⟨j, hj⟩ k d) := by
  refine congrArg x ?_
  funext a
  match a with
  | 0 => exact Fin.ext (by simp)
  | 1 => exact Fin.ext (by simp)
  | 2 => exact Fin.ext (by simp)

/-- The codes of the keys. -/
theorem out5 (c : Dev nD) (t : Fin cfg0.N) (s : Fin 14) (d : Fin 960) (b : Fin 256) :
    out0_5 (iblk m c 0 t) (iblk m c 1 t) (iblk m c 2 t) (iblk m c 3 t) (iblk m c 4 t) (ix3 s d b) = (arrays m c).args.codeAt 1 s d b := by
  unfold out0_5 k0_pay14
  simp (disch := decide) only [View.canon_cons_unit_lit', View.ld_unit_lit']
  exact pay8_apply (G := fun t => proj (arrays m c).args.P (arrays m c).args.w 1 ((arrays m c).args.normAt t))
    (pay5_apply (block0 m c t) (block1 m c t) (block2 m c t)
      (fun d k => (ld_matrix _ 1 (by decide) k d).trans (block3 m c t 1 d k))
      (fun k => (ld_bias _ 1 (by decide) k).trans (block4 m c t 1 k))) s d b

/-- The scales of the keys. -/
theorem out6 (c : Dev nD) (t : Fin cfg0.N) (s : Fin 14) (h : Fin 10) (b : Fin 256) :
    out0_6 (iblk m c 0 t) (iblk m c 1 t) (iblk m c 2 t) (iblk m c 3 t) (iblk m c 4 t) (ix3 s h b) = (arrays m c).args.scaleAt 1 s h b := by
  unfold out0_6 k0_pay14
  simp (disch := decide) only [View.canon_cons_unit_lit', View.ld_unit_lit']
  exact pay9_apply (G := fun t => proj (arrays m c).args.P (arrays m c).args.w 1 ((arrays m c).args.normAt t))
    (pay5_apply (block0 m c t) (block1 m c t) (block2 m c t)
      (fun d k => (ld_matrix _ 1 (by decide) k d).trans (block3 m c t 1 d k))
      (fun k => (ld_bias _ 1 (by decide) k).trans (block4 m c t 1 k))) s h b

/-- The codes of the values. -/
theorem out7 (c : Dev nD) (t : Fin cfg0.N) (s : Fin 14) (d : Fin 960) (b : Fin 256) :
    out0_7 (iblk m c 0 t) (iblk m c 1 t) (iblk m c 2 t) (iblk m c 3 t) (iblk m c 4 t) (ix3 s d b) = (arrays m c).args.codeAt 2 s d b := by
  unfold out0_7 k0_pay15 k0_pay16 k0_pay13
  simp (disch := decide) only [View.canon_cons_unit_lit', View.ld_unit_lit']
  exact pay2_apply (G := fun t => proj (arrays m c).args.P (arrays m c).args.w 2 ((arrays m c).args.normAt t))
    (pay10_apply (block0 m c t) (block1 m c t) (block2 m c t)
      (fun d k => (ld_matrix _ 2 (by decide) k d).trans (block3 m c t 2 d k))
      (fun k => (ld_bias _ 2 (by decide) k).trans (block4 m c t 2 k))) s d b

/-- The scales of the values. -/
theorem out8 (c : Dev nD) (t : Fin cfg0.N) (s : Fin 14) (h : Fin 10) (b : Fin 256) :
    out0_8 (iblk m c 0 t) (iblk m c 1 t) (iblk m c 2 t) (iblk m c 3 t) (iblk m c 4 t) (ix3 s h b) = (arrays m c).args.scaleAt 2 s h b := by
  unfold out0_8 k0_pay15 k0_pay16 k0_pay13
  simp (disch := decide) only [View.canon_cons_unit_lit', View.ld_unit_lit']
  exact pay3_apply (G := fun t => proj (arrays m c).args.P (arrays m c).args.w 2 ((arrays m c).args.normAt t))
    (pay10_apply (block0 m c t) (block1 m c t) (block2 m c t)
      (fun d k => (ld_matrix _ 2 (by decide) k d).trans (block3 m c t 2 d k))
      (fun k => (ld_bias _ 2 (by decide) k).trans (block4 m c t 2 k))) s h b

/-! ## The run's results -/

theorem final5 (c : Dev nD) : (dats m 0 c).arrAt 5 cfg0.N = (arrays m c).args.codes 1 := by
  refine (dats m 0 c).arrAt_eq_of_after_last 5 t0_0 (by decide +kernel) _ fun j => ?_
  blk_simp [index5 t0_0]
  rw [after0_5]
  exact (congrArg _ (eq_ix3 j)).trans (out5 m c t0_0 (j 0) (j 1) (j 2))

theorem final6 (c : Dev nD) : (dats m 0 c).arrAt 6 cfg0.N = (arrays m c).args.scales 1 := by
  refine (dats m 0 c).arrAt_eq_of_after_last 6 t0_0 (by decide +kernel) _ fun j => ?_
  blk_simp [index6 t0_0]
  rw [after0_6]
  exact (congrArg _ (eq_ix3 j)).trans (out6 m c t0_0 (j 0) (j 1) (j 2))

theorem final7 (c : Dev nD) : (dats m 0 c).arrAt 7 cfg0.N = (arrays m c).args.codes 2 := by
  refine (dats m 0 c).arrAt_eq_of_after_last 7 t0_0 (by decide +kernel) _ fun j => ?_
  blk_simp [index7 t0_0]
  rw [after0_7]
  exact (congrArg _ (eq_ix3 j)).trans (out7 m c t0_0 (j 0) (j 1) (j 2))

theorem final8 (c : Dev nD) : (dats m 0 c).arrAt 8 cfg0.N = (arrays m c).args.scales 2 := by
  refine (dats m 0 c).arrAt_eq_of_after_last 8 t0_0 (by decide +kernel) _ fun j => ?_
  blk_simp [index8 t0_0]
  rw [after0_8]
  exact (congrArg _ (eq_ix3 j)).trans (out8 m c t0_0 (j 0) (j 1) (j 2))

/-- The run's results. -/
theorem values : θ_run defs (onTc (main (F := Ideal))) ⟨m, fun _ => 0, ρ⟩ (fun r => ∀ c : Dev nD,
    r.2.mem ((c : Thread nD τ).loc main_v5_0) = (arrays m c).args.codes 1 ∧
    r.2.mem ((c : Thread nD τ).loc main_v5_1) = (arrays m c).args.scales 1 ∧
    r.2.mem ((c : Thread nD τ).loc main_v5_2) = (arrays m c).args.codes 2 ∧
    r.2.mem ((c : Thread nD τ).loc main_v5_3) = (arrays m c).args.scales 2) :=
  (θ_run defs _ _).mono (fun r h c => ⟨(h.out_eq c 5).trans (final5 m c), (h.out_eq c 6).trans (final6 m c),
    (h.out_eq c 7).trans (final7 m c), (h.out_eq c 8).trans (final8 m c)⟩) (run_main m ρ)

end Cert.QkvReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvReferenceIdeal
public import proofs.«01_k».proof.Proof.Gen.QkvReferenceIdeal.Skeleton
public import proofs.«01_k».proof.Proof.Gen.QkvReferenceIdeal.Launch
public import proofs.«01_k».proof.Proof.Gen.QkvReferenceIdeal.Points
public import proofs.«01_k».proof.Proof.Gen.QkvReferenceIdeal.Frame
public import proofs.«01_k».proof.Proof.KernelFrame.Frame
public import proofs.«01_k».proof.Proof.Entry
public import proofs.«01_k».proof.Proof.RefRun
public import proofs.«01_k».proof.Proof.Qkv.Entry
public import proofs.«01_k».proof.Proof.Qkv.TrackCodes
public import proofs.«01_k».proof.Proof.Qkv.RefValue
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The two programs' results are the same functions of the arguments. -/
theorem algebraic : Cert.algebraic_KernelIdeal_ReferenceIdeal (hKernelIdeal := Cert.KernelIdeal.Gen.facts)
    (hReferenceIdeal := Cert.ReferenceIdeal.Gen.facts) := by
  intro m g m' g' _ heq
  have e : ∀ c, Cert.ReferenceIdeal.Hand.arrays m' c = Cert.KernelIdeal.Hand.arrays m c := by
    intro c
    obtain ⟨h0, h1, h2, h3, h4, h5, h6, h7, h8, h9, h10, h11, h12, h13, h14⟩ := heq c
    unfold Cert.ReferenceIdeal.Hand.arrays Cert.KernelIdeal.Hand.arrays
    rw [h0, h1, h2, h3, h4, h5, h6, h7, h8, h9, h10, h11, h12, h13, h14]
  refine ⟨fun c => Cert.KernelIdeal.Hand.outArr (Cert.KernelIdeal.Hand.args m c),
    fun c => Cert.KernelIdeal.Hand.convArr (Cert.KernelIdeal.Hand.args m c), ?_, ?_⟩
  · exact (θ_run _ _ _).mono (fun r h c => ⟨(h.1 c).1, (h.1 c).2, h.2 c⟩)
      (θ_run_and (Cert.KernelIdeal.Hand.values m g) (Cert.KernelIdeal.Hand.unchanged m g))
  · refine (θ_run _ _ _).mono (fun r h c => ⟨(h.1 c).1.trans ?_, (h.1 c).2.trans ?_, h.2 c⟩)
      (θ_run_and (Cert.ReferenceIdeal.Hand.values m' g') (Cert.ReferenceIdeal.Gen.unchanged m' g'))
    · rw [e, ← Cert.KernelIdeal.Hand.args_eq]; rfl
    · rw [e, ← Cert.KernelIdeal.Hand.args_eq]; rfl

/-- The codes and the scales of the first call, likewise. -/
theorem algebraic_qkv : Cert.algebraic_QkvIdeal_QkvReferenceIdeal (hQkvIdeal := Cert.QkvIdeal.Gen.facts)
    (hQkvReferenceIdeal := Cert.QkvReferenceIdeal.Gen.facts) := by
  intro m g m' g' _ heq
  have e : ∀ c, Cert.QkvReferenceIdeal.Hand.arrays m' c = Cert.QkvIdeal.Hand.arrays m c := by
    intro c
    obtain ⟨h0, h1, h2, h3, h4⟩ := heq c
    unfold Cert.QkvReferenceIdeal.Hand.arrays Cert.QkvIdeal.Hand.arrays
    rw [h0, h1, h2, h3, h4]
  refine ⟨fun c => (Cert.QkvIdeal.Hand.args m c).codes 1, fun c => (Cert.QkvIdeal.Hand.args m c).scales 1,
    fun c => (Cert.QkvIdeal.Hand.args m c).codes 2, fun c => (Cert.QkvIdeal.Hand.args m c).scales 2, ?_, ?_⟩
  · exact (θ_run _ _ _).mono (fun r h c => ⟨(h.1 c).1, (h.1 c).2.1, (h.1 c).2.2.1, (h.1 c).2.2.2, h.2 c⟩)
      (θ_run_and (Cert.QkvIdeal.Hand.results m g) (Cert.QkvIdeal.Gen.unchanged m g))
  · refine (θ_run _ _ _).mono (fun r h c => ⟨(h.1 c).1.trans ?_, (h.1 c).2.1.trans ?_, (h.1 c).2.2.1.trans ?_,
      (h.1 c).2.2.2.trans ?_, h.2 c⟩) (θ_run_and (Cert.QkvReferenceIdeal.Hand.values m' g') (Cert.QkvReferenceIdeal.Gen.unchanged m' g'))
    all_goals rw [e, ← Cert.QkvIdeal.Hand.args_eq]

theorem claim : Cert.Claim := ⟨Cert.Kernel.Gen.facts, Cert.KernelIdeal.Gen.facts, Cert.ReferenceIdeal.Gen.facts,
  Cert.Qkv.Gen.facts, Cert.QkvIdeal.Gen.facts, Cert.QkvReferenceIdeal.Gen.facts,
  fun m ρ _ => Cert.Kernel.Hand.frame m ρ, fun m ρ _ => Cert.KernelIdeal.Hand.frame m ρ,
  fun m ρ _ => Cert.ReferenceIdeal.Gen.frame m ρ,
  fun m ρ _ => Cert.Qkv.Gen.frame m ρ, fun m ρ _ => Cert.QkvIdeal.Gen.frame m ρ,
  fun m ρ _ => Cert.QkvReferenceIdeal.Gen.frame m ρ,
  ⟨IdealRules.named_const.statement Cert.KernelIdeal.κ "inv_d" .f32 0x3A888889#32 ((960⁻¹ : ℝ) : EReal) rfl,
  IdealRules.named_const.statement Cert.KernelIdeal.κ "inv_m" .f32 0x3B124925#32 ((448⁻¹ : ℝ) : EReal) rfl⟩,
  algebraic,
  ⟨IdealRules.bf16_pair.bufferStatement Cert.QkvIdeal.S7x960x2x256 Cert.QkvIdeal.S7x960x1x256 (by decide),
  IdealRules.bf16_pair.bufferStatement Cert.QkvIdeal.S1x960x2x256 Cert.QkvIdeal.S1x960x1x256 (by decide),
  IdealRules.named_const.statement Cert.QkvIdeal.κ "inv_d" .f32 0x3A888889#32 ((960⁻¹ : ℝ) : EReal) rfl,
  IdealRules.bf16_pair.packStatement Cert.QkvIdeal.S96x256,
  IdealRules.bf16_pair.statement Cert.QkvIdeal.S1x96x2x256 Cert.QkvIdeal.S1x96x1x256 (by decide)⟩,
  algebraic_qkv⟩

end Cert.Proof

end
